-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S512x1024 : Shape := ⟨2, ![512, 1024]⟩
abbrev S480x1024 : Shape := ⟨2, ![480, 1024]⟩
abbrev S32x1024 : Shape := ⟨2, ![32, 1024]⟩
abbrev S15x32x1024 : Shape := ⟨3, ![15, 32, 1024]⟩
abbrev S16 : Shape := ⟨1, ![16]⟩
abbrev S15 : Shape := ⟨1, ![15]⟩
abbrev S1 : Shape := ⟨1, ![1]⟩
abbrev S_ : Shape := ⟨0, ![]⟩
abbrev S512x128 : Shape := ⟨2, ![512, 128]⟩
abbrev S128x1024 : Shape := ⟨2, ![128, 1024]⟩
abbrev S128x128 : Shape := ⟨2, ![128, 128]⟩
abbrev S128x512 : Shape := ⟨2, ![128, 512]⟩
abbrev S128 : Shape := ⟨1, ![128]⟩
abbrev S128x1 : Shape := ⟨2, ![128, 1]⟩
abbrev S1x32x1024 : Shape := ⟨3, ![1, 32, 1024]⟩

abbrev nBuf : Space → Nat
  | .hbm => 8
  | .vmem => 10
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S512x1024, .bf16⟩
  | .hbm, ⟨6, _⟩ => ⟨S512x1024, .f32⟩
  | .hbm, ⟨7, _⟩ => ⟨S1x512x1024, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .bf16⟩
  | .local _ .vmem, ⟨7, _⟩ => ⟨S480x1024, .bf16⟩
  | .local _ .vmem, ⟨8, _⟩ => ⟨S32x1024, .bf16⟩
  | .local _ .vmem, ⟨9, _⟩ => ⟨S15x32x1024, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_15 : BitVec 32 := 1#32
  let v33 : BitVec 32 := Scalar.addi v2 c1_i32_15
  let c16_i32_16 : BitVec 32 := 16#32
  let c0_i32_17 : BitVec 32 := 0#32
  let v34 : BitVec 1 := Scalar.cmpi .eq c16_i32_16 c0_i32_17
  let c1_i32_18 : BitVec 32 := 1#32
  let v35 : BitVec 32 := Scalar.select v34 c1_i32_18 c16_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c1_i32_23 : BitVec 32 := 1#32
  let v44 : BitVec 32 := Scalar.muli v43 c1_i32_23
  let v45 : BitVec 32 := Scalar.addi c0_i32_24 v44
  v45.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v46 : BitVec 32 := Scalar.addi v2 c2_i32
  let c16_i32_25 : BitVec 32 := 16#32
  let c0_i32_26 : BitVec 32 := 0#32
  let v47 : BitVec 1 := Scalar.cmpi .eq c16_i32_25 c0_i32_26
  let c1_i32_27 : BitVec 32 := 1#32
  let v48 : BitVec 32 := Scalar.select v47 c1_i32_27 c16_i32_25
  let v49 : BitVec 32 := Scalar.remsi v46 v48
  let c0_i32_29 : BitVec 32 := 0#32
  let v51 : BitVec 1 := Scalar.cmpi .slt v49 c0_i32_29
  let c0_i32_30 : BitVec 32 := 0#32
  let v52 : BitVec 1 := Scalar.cmpi .slt v48 c0_i32_30
  let v53 : BitVec 1 := Scalar.xori v51 v52
  let c0_i32_28 : BitVec 32 := 0#32
  let v50 : BitVec 1 := Scalar.cmpi .ne v49 c0_i32_28
  let v54 : BitVec 1 := Scalar.andi v53 v50
  let v55 : BitVec 32 := Scalar.addi v49 v48
  let v56 : BitVec 32 := Scalar.select v54 v55 v49
  let c1_i32_32 : BitVec 32 := 1#32
  let v57 : BitVec 32 := Scalar.muli v56 c1_i32_32
  let v58 : BitVec 32 := Scalar.addi c0_i32_33 v57
  v58.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v59 : BitVec 32 := Scalar.addi v2 c3_i32
  let c16_i32_34 : BitVec 32 := 16#32
  let c0_i32_35 : BitVec 32 := 0#32
  let v60 : BitVec 1 := Scalar.cmpi .eq c16_i32_34 c0_i32_35
  let c1_i32_36 : BitVec 32 := 1#32
  let v61 : BitVec 32 := Scalar.select v60 c1_i32_36 c16_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_41 : BitVec 32 := 1#32
  let v70 : BitVec 32 := Scalar.muli v69 c1_i32_41
  let v71 : BitVec 32 := Scalar.addi c0_i32_42 v70
  v71.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_43 : BitVec 32 := 4#32
  let v72 : BitVec 32 := Scalar.addi v2 c4_i32_43
  let c16_i32_44 : BitVec 32 := 16#32
  let c0_i32_45 : BitVec 32 := 0#32
  let v73 : BitVec 1 := Scalar.cmpi .eq c16_i32_44 c0_i32_45
  let c1_i32_46 : BitVec 32 := 1#32
  let v74 : BitVec 32 := Scalar.select v73 c1_i32_46 c16_i32_44
  let v75 : BitVec 32 := Scalar.remsi v72 v74
  let c0_i32_48 : BitVec 32 := 0#32
  let v77 : BitVec 1 := Scalar.cmpi .slt v75 c0_i32_48
  let c0_i32_49 : BitVec 32 := 0#32
  let v78 : BitVec 1 := Scalar.cmpi .slt v74 c0_i32_49
  let v79 : BitVec 1 := Scalar.xori v77 v78
  let c0_i32_47 : BitVec 32 := 0#32
  let v76 : BitVec 1 := Scalar.cmpi .ne v75 c0_i32_47
  let v80 : BitVec 1 := Scalar.andi v79 v76
  let v81 : BitVec 32 := Scalar.addi v75 v74
  let v82 : BitVec 32 := Scalar.select v80 v81 v75
  let c1_i32_51 : BitVec 32 := 1#32
  let v83 : BitVec 32 := Scalar.muli v82 c1_i32_51
  let v84 : BitVec 32 := Scalar.addi c0_i32_52 v83
  v84.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v85 : BitVec 32 := Scalar.addi v2 c5_i32
  let c16_i32_53 : BitVec 32 := 16#32
  let c0_i32_54 : BitVec 32 := 0#32
  let v86 : BitVec 1 := Scalar.cmpi .eq c16_i32_53 c0_i32_54
  let c1_i32_55 : BitVec 32 := 1#32
  let v87 : BitVec 32 := Scalar.select v86 c1_i32_55 c16_i32_53
  let v88 : BitVec 32 := Scalar.remsi v85 v87
  let c0_i32_57 : BitVec 32 := 0#32
  let v90 : BitVec 1 := Scalar.cmpi .slt v88 c0_i32_57
  let c0_i32_58 : BitVec 32 := 0#32
  let v91 : BitVec 1 := Scalar.cmpi .slt v87 c0_i32_58
  let v92 : BitVec 1 := Scalar.xori v90 v91
  let c0_i32_56 : BitVec 32 := 0#32
  let v89 : BitVec 1 := Scalar.cmpi .ne v88 c0_i32_56
  let v93 : BitVec 1 := Scalar.andi v92 v89
  let v94 : BitVec 32 := Scalar.addi v88 v87
  let v95 : BitVec 32 := Scalar.select v93 v94 v88
  let c1_i32_60 : BitVec 32 := 1#32
  let v96 : BitVec 32 := Scalar.muli v95 c1_i32_60
  let v97 : BitVec 32 := Scalar.addi c0_i32_61 v96
  v97.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v98 : BitVec 32 := Scalar.addi v2 c6_i32
  let c16_i32_62 : BitVec 32 := 16#32
  let c0_i32_63 : BitVec 32 := 0#32
  let v99 : BitVec 1 := Scalar.cmpi .eq c16_i32_62 c0_i32_63
  let c1_i32_64 : BitVec 32 := 1#32
  let v100 : BitVec 32 := Scalar.select v99 c1_i32_64 c16_i32_62
  let v101 : BitVec 32 := Scalar.remsi v98 v100
  let c0_i32_66 : BitVec 32 := 0#32
  let v103 : BitVec 1 := Scalar.cmpi .slt v101 c0_i32_66
  let c0_i32_67 : BitVec 32 := 0#32
  let v104 : BitVec 1 := Scalar.cmpi .slt v100 c0_i32_67
  let v105 : BitVec 1 := Scalar.xori v103 v104
  let c0_i32_65 : BitVec 32 := 0#32
  let v102 : BitVec 1 := Scalar.cmpi .ne v101 c0_i32_65
  let v106 : BitVec 1 := Scalar.andi v105 v102
  let v107 : BitVec 32 := Scalar.addi v101 v100
  let v108 : BitVec 32 := Scalar.select v106 v107 v101
  let c1_i32_69 : BitVec 32 := 1#32
  let v109 : BitVec 32 := Scalar.muli v108 c1_i32_69
  let v110 : BitVec 32 := Scalar.addi c0_i32_70 v109
  v110.toNat
def k0_dev7 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v111 : BitVec 32 := Scalar.addi v2 c7_i32
  let c16_i32_71 : BitVec 32 := 16#32
  let c0_i32_72 : BitVec 32 := 0#32
  let v112 : BitVec 1 := Scalar.cmpi .eq c16_i32_71 c0_i32_72
  let c1_i32_73 : BitVec 32 := 1#32
  let v113 : BitVec 32 := Scalar.select v112 c1_i32_73 c16_i32_71
  let v114 : BitVec 32 := Scalar.remsi v111 v113
  let c0_i32_75 : BitVec 32 := 0#32
  let v116 : BitVec 1 := Scalar.cmpi .slt v114 c0_i32_75
  let c0_i32_76 : BitVec 32 := 0#32
  let v117 : BitVec 1 := Scalar.cmpi .slt v113 c0_i32_76
  let v118 : BitVec 1 := Scalar.xori v116 v117
  let c0_i32_74 : BitVec 32 := 0#32
  let v115 : BitVec 1 := Scalar.cmpi .ne v114 c0_i32_74
  let v119 : BitVec 1 := Scalar.andi v118 v115
  let v120 : BitVec 32 := Scalar.addi v114 v113
  let v121 : BitVec 32 := Scalar.select v119 v120 v114
  let c1_i32_78 : BitVec 32 := 1#32
  let v122 : BitVec 32 := Scalar.muli v121 c1_i32_78
  let v123 : BitVec 32 := Scalar.addi c0_i32_79 v122
  v123.toNat
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v124 : BitVec 32 := Scalar.addi v2 c8_i32
  let c16_i32_80 : BitVec 32 := 16#32
  let c0_i32_81 : BitVec 32 := 0#32
  let v125 : BitVec 1 := Scalar.cmpi .eq c16_i32_80 c0_i32_81
  let c1_i32_82 : BitVec 32 := 1#32
  let v126 : BitVec 32 := Scalar.select v125 c1_i32_82 c16_i32_80
  let v127 : BitVec 32 := Scalar.remsi v124 v126
  let c0_i32_84 : BitVec 32 := 0#32
  let v129 : BitVec 1 := Scalar.cmpi .slt v127 c0_i32_84
  let c0_i32_85 : BitVec 32 := 0#32
  let v130 : BitVec 1 := Scalar.cmpi .slt v126 c0_i32_85
  let v131 : BitVec 1 := Scalar.xori v129 v130
  let c0_i32_83 : BitVec 32 := 0#32
  let v128 : BitVec 1 := Scalar.cmpi .ne v127 c0_i32_83
  let v132 : BitVec 1 := Scalar.andi v131 v128
  let v133 : BitVec 32 := Scalar.addi v127 v126
  let v134 : BitVec 32 := Scalar.select v132 v133 v127
  let c1_i32_87 : BitVec 32 := 1#32
  let v135 : BitVec 32 := Scalar.muli v134 c1_i32_87
  let v136 : BitVec 32 := Scalar.addi c0_i32_88 v135
  v136.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v137 : BitVec 32 := Scalar.addi v2 c9_i32
  let c16_i32_89 : BitVec 32 := 16#32
  let c0_i32_90 : BitVec 32 := 0#32
  let v138 : BitVec 1 := Scalar.cmpi .eq c16_i32_89 c0_i32_90
  let c1_i32_91 : BitVec 32 := 1#32
  let v139 : BitVec 32 := Scalar.select v138 c1_i32_91 c16_i32_89
  let v140 : BitVec 32 := Scalar.remsi v137 v139
  let c0_i32_93 : BitVec 32 := 0#32
  let v142 : BitVec 1 := Scalar.cmpi .slt v140 c0_i32_93
  let c0_i32_94 : BitVec 32 := 0#32
  let v143 : BitVec 1 := Scalar.cmpi .slt v139 c0_i32_94
  let v144 : BitVec 1 := Scalar.xori v142 v143
  let c0_i32_92 : BitVec 32 := 0#32
  let v141 : BitVec 1 := Scalar.cmpi .ne v140 c0_i32_92
  let v145 : BitVec 1 := Scalar.andi v144 v141
  let v146 : BitVec 32 := Scalar.addi v140 v139
  let v147 : BitVec 32 := Scalar.select v145 v146 v140
  let c1_i32_96 : BitVec 32 := 1#32
  let v148 : BitVec 32 := Scalar.muli v147 c1_i32_96
  let v149 : BitVec 32 := Scalar.addi c0_i32_97 v148
  v149.toNat
def k0_dev10 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v150 : BitVec 32 := Scalar.addi v2 c10_i32
  let c16_i32_98 : BitVec 32 := 16#32
  let c0_i32_99 : BitVec 32 := 0#32
  let v151 : BitVec 1 := Scalar.cmpi .eq c16_i32_98 c0_i32_99
  let c1_i32_100 : BitVec 32 := 1#32
  let v152 : BitVec 32 := Scalar.select v151 c1_i32_100 c16_i32_98
  let v153 : BitVec 32 := Scalar.remsi v150 v152
  let c0_i32_102 : BitVec 32 := 0#32
  let v155 : BitVec 1 := Scalar.cmpi .slt v153 c0_i32_102
  let c0_i32_103 : BitVec 32 := 0#32
  let v156 : BitVec 1 := Scalar.cmpi .slt v152 c0_i32_103
  let v157 : BitVec 1 := Scalar.xori v155 v156
  let c0_i32_101 : BitVec 32 := 0#32
  let v154 : BitVec 1 := Scalar.cmpi .ne v153 c0_i32_101
  let v158 : BitVec 1 := Scalar.andi v157 v154
  let v159 : BitVec 32 := Scalar.addi v153 v152
  let v160 : BitVec 32 := Scalar.select v158 v159 v153
  let c1_i32_105 : BitVec 32 := 1#32
  let v161 : BitVec 32 := Scalar.muli v160 c1_i32_105
  let v162 : BitVec 32 := Scalar.addi c0_i32_106 v161
  v162.toNat
def k0_dev11 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v163 : BitVec 32 := Scalar.addi v2 c11_i32
  let c16_i32_107 : BitVec 32 := 16#32
  let c0_i32_108 : BitVec 32 := 0#32
  let v164 : BitVec 1 := Scalar.cmpi .eq c16_i32_107 c0_i32_108
  let c1_i32_109 : BitVec 32 := 1#32
  let v165 : BitVec 32 := Scalar.select v164 c1_i32_109 c16_i32_107
  let v166 : BitVec 32 := Scalar.remsi v163 v165
  let c0_i32_111 : BitVec 32 := 0#32
  let v168 : BitVec 1 := Scalar.cmpi .slt v166 c0_i32_111
  let c0_i32_112 : BitVec 32 := 0#32
  let v169 : BitVec 1 := Scalar.cmpi .slt v165 c0_i32_112
  let v170 : BitVec 1 := Scalar.xori v168 v169
  let c0_i32_110 : BitVec 32 := 0#32
  let v167 : BitVec 1 := Scalar.cmpi .ne v166 c0_i32_110
  let v171 : BitVec 1 := Scalar.andi v170 v167
  let v172 : BitVec 32 := Scalar.addi v166 v165
  let v173 : BitVec 32 := Scalar.select v171 v172 v166
  let c1_i32_114 : BitVec 32 := 1#32
  let v174 : BitVec 32 := Scalar.muli v173 c1_i32_114
  let v175 : BitVec 32 := Scalar.addi c0_i32_115 v174
  v175.toNat
def k0_dev12 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v176 : BitVec 32 := Scalar.addi v2 c12_i32
  let c16_i32_116 : BitVec 32 := 16#32
  let c0_i32_117 : BitVec 32 := 0#32
  let v177 : BitVec 1 := Scalar.cmpi .eq c16_i32_116 c0_i32_117
  let c1_i32_118 : BitVec 32 := 1#32
  let v178 : BitVec 32 := Scalar.select v177 c1_i32_118 c16_i32_116
  let v179 : BitVec 32 := Scalar.remsi v176 v178
  let c0_i32_120 : BitVec 32 := 0#32
  let v181 : BitVec 1 := Scalar.cmpi .slt v179 c0_i32_120
  let c0_i32_121 : BitVec 32 := 0#32
  let v182 : BitVec 1 := Scalar.cmpi .slt v178 c0_i32_121
  let v183 : BitVec 1 := Scalar.xori v181 v182
  let c0_i32_119 : BitVec 32 := 0#32
  let v180 : BitVec 1 := Scalar.cmpi .ne v179 c0_i32_119
  let v184 : BitVec 1 := Scalar.andi v183 v180
  let v185 : BitVec 32 := Scalar.addi v179 v178
  let v186 : BitVec 32 := Scalar.select v184 v185 v179
  let c1_i32_123 : BitVec 32 := 1#32
  let v187 : BitVec 32 := Scalar.muli v186 c1_i32_123
  let v188 : BitVec 32 := Scalar.addi c0_i32_124 v187
  v188.toNat
def k0_dev13 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v189 : BitVec 32 := Scalar.addi v2 c13_i32
  let c16_i32_125 : BitVec 32 := 16#32
  let c0_i32_126 : BitVec 32 := 0#32
  let v190 : BitVec 1 := Scalar.cmpi .eq c16_i32_125 c0_i32_126
  let c1_i32_127 : BitVec 32 := 1#32
  let v191 : BitVec 32 := Scalar.select v190 c1_i32_127 c16_i32_125
  let v192 : BitVec 32 := Scalar.remsi v189 v191
  let c0_i32_129 : BitVec 32 := 0#32
  let v194 : BitVec 1 := Scalar.cmpi .slt v192 c0_i32_129
  let c0_i32_130 : BitVec 32 := 0#32
  let v195 : BitVec 1 := Scalar.cmpi .slt v191 c0_i32_130
  let v196 : BitVec 1 := Scalar.xori v194 v195
  let c0_i32_128 : BitVec 32 := 0#32
  let v193 : BitVec 1 := Scalar.cmpi .ne v192 c0_i32_128
  let v197 : BitVec 1 := Scalar.andi v196 v193
  let v198 : BitVec 32 := Scalar.addi v192 v191
  let v199 : BitVec 32 := Scalar.select v197 v198 v192
  let c1_i32_132 : BitVec 32 := 1#32
  let v200 : BitVec 32 := Scalar.muli v199 c1_i32_132
  let v201 : BitVec 32 := Scalar.addi c0_i32_133 v200
  v201.toNat
def k0_dev14 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v202 : BitVec 32 := Scalar.addi v2 c14_i32
  let c16_i32_134 : BitVec 32 := 16#32
  let c0_i32_135 : BitVec 32 := 0#32
  let v203 : BitVec 1 := Scalar.cmpi .eq c16_i32_134 c0_i32_135
  let c1_i32_136 : BitVec 32 := 1#32
  let v204 : BitVec 32 := Scalar.select v203 c1_i32_136 c16_i32_134
  let v205 : BitVec 32 := Scalar.remsi v202 v204
  let c0_i32_138 : BitVec 32 := 0#32
  let v207 : BitVec 1 := Scalar.cmpi .slt v205 c0_i32_138
  let c0_i32_139 : BitVec 32 := 0#32
  let v208 : BitVec 1 := Scalar.cmpi .slt v204 c0_i32_139
  let v209 : BitVec 1 := Scalar.xori v207 v208
  let c0_i32_137 : BitVec 32 := 0#32
  let v206 : BitVec 1 := Scalar.cmpi .ne v205 c0_i32_137
  let v210 : BitVec 1 := Scalar.andi v209 v206
  let v211 : BitVec 32 := Scalar.addi v205 v204
  let v212 : BitVec 32 := Scalar.select v210 v211 v205
  let c1_i32_141 : BitVec 32 := 1#32
  let v213 : BitVec 32 := Scalar.muli v212 c1_i32_141
  let v214 : BitVec 32 := Scalar.addi c0_i32_142 v213
  v214.toNat
def k0_dev15 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v215 : BitVec 32 := Scalar.addi v2 c15_i32
  let c16_i32_143 : BitVec 32 := 16#32
  let c0_i32_144 : BitVec 32 := 0#32
  let v216 : BitVec 1 := Scalar.cmpi .eq c16_i32_143 c0_i32_144
  let c1_i32_145 : BitVec 32 := 1#32
  let v217 : BitVec 32 := Scalar.select v216 c1_i32_145 c16_i32_143
  let v218 : BitVec 32 := Scalar.remsi v215 v217
  let c0_i32_147 : BitVec 32 := 0#32
  let v220 : BitVec 1 := Scalar.cmpi .slt v218 c0_i32_147
  let c0_i32_148 : BitVec 32 := 0#32
  let v221 : BitVec 1 := Scalar.cmpi .slt v217 c0_i32_148
  let v222 : BitVec 1 := Scalar.xori v220 v221
  let c0_i32_146 : BitVec 32 := 0#32
  let v219 : BitVec 1 := Scalar.cmpi .ne v218 c0_i32_146
  let v223 : BitVec 1 := Scalar.andi v222 v219
  let v224 : BitVec 32 := Scalar.addi v218 v217
  let v225 : BitVec 32 := Scalar.select v223 v224 v218
  let c1_i32_150 : BitVec 32 := 1#32
  let v226 : BitVec 32 := Scalar.muli v225 c1_i32_150
  let v227 : BitVec 32 := Scalar.addi c0_i32_151 v226
  v227.toNat
def k0_off1 (d0 : Dev nD) (c0_i32_153 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c128_i32 : BitVec 32 := 128#32
  let v271 : BitVec 32 := Scalar.muli v270 c128_i32
  let v272 : Index := Scalar.indexCast v271
  let c0_160 : Index := 0#32
  ![v272.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_205 : BitVec 32 := 4#32
  let v421 : BitVec 32 := Scalar.muli v270 c4_i32_205
  let c0_i32_206 : BitVec 32 := 0#32
  let v422 : BitVec 32 := Scalar.addi v421 c0_i32_206
  let v438 : BitVec 1 := Scalar.cmpi .ne v422 v2
  let v439 : BitVec 32 := Scalar.extui v438
  let c0_i32_217 : BitVec 32 := 0#32
  let v440 : BitVec 1 := Scalar.cmpi .ne v439 c0_i32_217
  v440

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_205 : BitVec 32 := 4#32
  let v421 : BitVec 32 := Scalar.muli v270 c4_i32_205
  let c0_i32_206 : BitVec 32 := 0#32
  let v422 : BitVec 32 := Scalar.addi v421 c0_i32_206
  let v423 : BitVec 32 := Scalar.subi v2 v422
  let c1_i32_207 : BitVec 32 := 1#32
  let v424 : BitVec 32 := Scalar.subi v423 c1_i32_207
  let c16_i32_208 : BitVec 32 := 16#32
  let c0_i32_209 : BitVec 32 := 0#32
  let v425 : BitVec 1 := Scalar.cmpi .eq c16_i32_208 c0_i32_209
  let c1_i32_210 : BitVec 32 := 1#32
  let v426 : BitVec 32 := Scalar.select v425 c1_i32_210 c16_i32_208
  let v427 : BitVec 32 := Scalar.remsi v424 v426
  let c0_i32_212 : BitVec 32 := 0#32
  let v429 : BitVec 1 := Scalar.cmpi .slt v427 c0_i32_212
  let c0_i32_213 : BitVec 32 := 0#32
  let v430 : BitVec 1 := Scalar.cmpi .slt v426 c0_i32_213
  let v431 : BitVec 1 := Scalar.xori v429 v430
  let c0_i32_211 : BitVec 32 := 0#32
  let v428 : BitVec 1 := Scalar.cmpi .ne v427 c0_i32_211
  let v432 : BitVec 1 := Scalar.andi v431 v428
  let v433 : BitVec 32 := Scalar.addi v427 v426
  let v434 : BitVec 32 := Scalar.select v432 v433 v427
  let c14_i32_214 : BitVec 32 := 14#32
  let v435 : BitVec 32 := Scalar.minsi v434 c14_i32_214
  ![v435.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_205 : BitVec 32 := 4#32
  let v421 : BitVec 32 := Scalar.muli v270 c4_i32_205
  let c0_i32_206 : BitVec 32 := 0#32
  let v422 : BitVec 32 := Scalar.addi v421 c0_i32_206
  let v423 : BitVec 32 := Scalar.subi v2 v422
  let c1_i32_207 : BitVec 32 := 1#32
  let v424 : BitVec 32 := Scalar.subi v423 c1_i32_207
  let c16_i32_208 : BitVec 32 := 16#32
  let c0_i32_209 : BitVec 32 := 0#32
  let v425 : BitVec 1 := Scalar.cmpi .eq c16_i32_208 c0_i32_209
  let c1_i32_210 : BitVec 32 := 1#32
  let v426 : BitVec 32 := Scalar.select v425 c1_i32_210 c16_i32_208
  let v427 : BitVec 32 := Scalar.remsi v424 v426
  let c0_i32_212 : BitVec 32 := 0#32
  let v429 : BitVec 1 := Scalar.cmpi .slt v427 c0_i32_212
  let c0_i32_213 : BitVec 32 := 0#32
  let v430 : BitVec 1 := Scalar.cmpi .slt v426 c0_i32_213
  let v431 : BitVec 1 := Scalar.xori v429 v430
  let c0_i32_211 : BitVec 32 := 0#32
  let v428 : BitVec 1 := Scalar.cmpi .ne v427 c0_i32_211
  let v432 : BitVec 1 := Scalar.andi v431 v428
  let v433 : BitVec 32 := Scalar.addi v427 v426
  let v434 : BitVec 32 := Scalar.select v432 v433 v427
  let c14_i32_214 : BitVec 32 := 14#32
  let v435 : BitVec 32 := Scalar.minsi v434 c14_i32_214
  let c32_i32_215 : BitVec 32 := 32#32
  let v437 : BitVec 32 := Scalar.muli v435 c32_i32_215
  let c0_i32_1324 : BitVec 32 := 0#32
  ![v437.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_205 : BitVec 32 := 4#32
  let v421 : BitVec 32 := Scalar.muli v270 c4_i32_205
  let c0_i32_206 : BitVec 32 := 0#32
  let v422 : BitVec 32 := Scalar.addi v421 c0_i32_206
  let c32_i32 : BitVec 32 := 32#32
  let v436 : BitVec 32 := Scalar.muli v422 c32_i32
  let c0_i32_1325 : BitVec 32 := 0#32
  ![v436.toNat, 0]
def k0_dev16 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_205 : BitVec 32 := 4#32
  let v421 : BitVec 32 := Scalar.muli v270 c4_i32_205
  let c0_i32_206 : BitVec 32 := 0#32
  let v422 : BitVec 32 := Scalar.addi v421 c0_i32_206
  let c1_i32_1322 : BitVec 32 := 1#32
  let v2067 : BitVec 32 := Scalar.muli v422 c1_i32_1322
  let v2068 : BitVec 32 := Scalar.addi c0_i32_1323 v2067
  v2068.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_218 : BitVec 32 := 4#32
  let v441 : BitVec 32 := Scalar.muli v270 c4_i32_218
  let c1_i32_219 : BitVec 32 := 1#32
  let v442 : BitVec 32 := Scalar.addi v441 c1_i32_219
  let v458 : BitVec 1 := Scalar.cmpi .ne v442 v2
  let v459 : BitVec 32 := Scalar.extui v458
  let c0_i32_231 : BitVec 32 := 0#32
  let v460 : BitVec 1 := Scalar.cmpi .ne v459 c0_i32_231
  v460

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_218 : BitVec 32 := 4#32
  let v441 : BitVec 32 := Scalar.muli v270 c4_i32_218
  let c1_i32_219 : BitVec 32 := 1#32
  let v442 : BitVec 32 := Scalar.addi v441 c1_i32_219
  let v443 : BitVec 32 := Scalar.subi v2 v442
  let c1_i32_220 : BitVec 32 := 1#32
  let v444 : BitVec 32 := Scalar.subi v443 c1_i32_220
  let c16_i32_221 : BitVec 32 := 16#32
  let c0_i32_222 : BitVec 32 := 0#32
  let v445 : BitVec 1 := Scalar.cmpi .eq c16_i32_221 c0_i32_222
  let c1_i32_223 : BitVec 32 := 1#32
  let v446 : BitVec 32 := Scalar.select v445 c1_i32_223 c16_i32_221
  let v447 : BitVec 32 := Scalar.remsi v444 v446
  let c0_i32_225 : BitVec 32 := 0#32
  let v449 : BitVec 1 := Scalar.cmpi .slt v447 c0_i32_225
  let c0_i32_226 : BitVec 32 := 0#32
  let v450 : BitVec 1 := Scalar.cmpi .slt v446 c0_i32_226
  let v451 : BitVec 1 := Scalar.xori v449 v450
  let c0_i32_224 : BitVec 32 := 0#32
  let v448 : BitVec 1 := Scalar.cmpi .ne v447 c0_i32_224
  let v452 : BitVec 1 := Scalar.andi v451 v448
  let v453 : BitVec 32 := Scalar.addi v447 v446
  let v454 : BitVec 32 := Scalar.select v452 v453 v447
  let c14_i32_227 : BitVec 32 := 14#32
  let v455 : BitVec 32 := Scalar.minsi v454 c14_i32_227
  ![v455.toNat]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_218 : BitVec 32 := 4#32
  let v441 : BitVec 32 := Scalar.muli v270 c4_i32_218
  let c1_i32_219 : BitVec 32 := 1#32
  let v442 : BitVec 32 := Scalar.addi v441 c1_i32_219
  let v443 : BitVec 32 := Scalar.subi v2 v442
  let c1_i32_220 : BitVec 32 := 1#32
  let v444 : BitVec 32 := Scalar.subi v443 c1_i32_220
  let c16_i32_221 : BitVec 32 := 16#32
  let c0_i32_222 : BitVec 32 := 0#32
  let v445 : BitVec 1 := Scalar.cmpi .eq c16_i32_221 c0_i32_222
  let c1_i32_223 : BitVec 32 := 1#32
  let v446 : BitVec 32 := Scalar.select v445 c1_i32_223 c16_i32_221
  let v447 : BitVec 32 := Scalar.remsi v444 v446
  let c0_i32_225 : BitVec 32 := 0#32
  let v449 : BitVec 1 := Scalar.cmpi .slt v447 c0_i32_225
  let c0_i32_226 : BitVec 32 := 0#32
  let v450 : BitVec 1 := Scalar.cmpi .slt v446 c0_i32_226
  let v451 : BitVec 1 := Scalar.xori v449 v450
  let c0_i32_224 : BitVec 32 := 0#32
  let v448 : BitVec 1 := Scalar.cmpi .ne v447 c0_i32_224
  let v452 : BitVec 1 := Scalar.andi v451 v448
  let v453 : BitVec 32 := Scalar.addi v447 v446
  let v454 : BitVec 32 := Scalar.select v452 v453 v447
  let c14_i32_227 : BitVec 32 := 14#32
  let v455 : BitVec 32 := Scalar.minsi v454 c14_i32_227
  let c32_i32_229 : BitVec 32 := 32#32
  let v457 : BitVec 32 := Scalar.muli v455 c32_i32_229
  let c0_i32_1324 : BitVec 32 := 0#32
  ![v457.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_218 : BitVec 32 := 4#32
  let v441 : BitVec 32 := Scalar.muli v270 c4_i32_218
  let c1_i32_219 : BitVec 32 := 1#32
  let v442 : BitVec 32 := Scalar.addi v441 c1_i32_219
  let c32_i32_228 : BitVec 32 := 32#32
  let v456 : BitVec 32 := Scalar.muli v442 c32_i32_228
  let c0_i32_1325 : BitVec 32 := 0#32
  ![v456.toNat, 0]
def k0_dev17 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_218 : BitVec 32 := 4#32
  let v441 : BitVec 32 := Scalar.muli v270 c4_i32_218
  let c1_i32_219 : BitVec 32 := 1#32
  let v442 : BitVec 32 := Scalar.addi v441 c1_i32_219
  let c1_i32_1322 : BitVec 32 := 1#32
  let v2067 : BitVec 32 := Scalar.muli v442 c1_i32_1322
  let v2068 : BitVec 32 := Scalar.addi c0_i32_1323 v2067
  v2068.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_232 : BitVec 32 := 4#32
  let v461 : BitVec 32 := Scalar.muli v270 c4_i32_232
  let c2_i32_233 : BitVec 32 := 2#32
  let v462 : BitVec 32 := Scalar.addi v461 c2_i32_233
  let v478 : BitVec 1 := Scalar.cmpi .ne v462 v2
  let v479 : BitVec 32 := Scalar.extui v478
  let c0_i32_245 : BitVec 32 := 0#32
  let v480 : BitVec 1 := Scalar.cmpi .ne v479 c0_i32_245
  v480

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_232 : BitVec 32 := 4#32
  let v461 : BitVec 32 := Scalar.muli v270 c4_i32_232
  let c2_i32_233 : BitVec 32 := 2#32
  let v462 : BitVec 32 := Scalar.addi v461 c2_i32_233
  let v463 : BitVec 32 := Scalar.subi v2 v462
  let c1_i32_234 : BitVec 32 := 1#32
  let v464 : BitVec 32 := Scalar.subi v463 c1_i32_234
  let c16_i32_235 : BitVec 32 := 16#32
  let c0_i32_236 : BitVec 32 := 0#32
  let v465 : BitVec 1 := Scalar.cmpi .eq c16_i32_235 c0_i32_236
  let c1_i32_237 : BitVec 32 := 1#32
  let v466 : BitVec 32 := Scalar.select v465 c1_i32_237 c16_i32_235
  let v467 : BitVec 32 := Scalar.remsi v464 v466
  let c0_i32_239 : BitVec 32 := 0#32
  let v469 : BitVec 1 := Scalar.cmpi .slt v467 c0_i32_239
  let c0_i32_240 : BitVec 32 := 0#32
  let v470 : BitVec 1 := Scalar.cmpi .slt v466 c0_i32_240
  let v471 : BitVec 1 := Scalar.xori v469 v470
  let c0_i32_238 : BitVec 32 := 0#32
  let v468 : BitVec 1 := Scalar.cmpi .ne v467 c0_i32_238
  let v472 : BitVec 1 := Scalar.andi v471 v468
  let v473 : BitVec 32 := Scalar.addi v467 v466
  let v474 : BitVec 32 := Scalar.select v472 v473 v467
  let c14_i32_241 : BitVec 32 := 14#32
  let v475 : BitVec 32 := Scalar.minsi v474 c14_i32_241
  ![v475.toNat]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_232 : BitVec 32 := 4#32
  let v461 : BitVec 32 := Scalar.muli v270 c4_i32_232
  let c2_i32_233 : BitVec 32 := 2#32
  let v462 : BitVec 32 := Scalar.addi v461 c2_i32_233
  let v463 : BitVec 32 := Scalar.subi v2 v462
  let c1_i32_234 : BitVec 32 := 1#32
  let v464 : BitVec 32 := Scalar.subi v463 c1_i32_234
  let c16_i32_235 : BitVec 32 := 16#32
  let c0_i32_236 : BitVec 32 := 0#32
  let v465 : BitVec 1 := Scalar.cmpi .eq c16_i32_235 c0_i32_236
  let c1_i32_237 : BitVec 32 := 1#32
  let v466 : BitVec 32 := Scalar.select v465 c1_i32_237 c16_i32_235
  let v467 : BitVec 32 := Scalar.remsi v464 v466
  let c0_i32_239 : BitVec 32 := 0#32
  let v469 : BitVec 1 := Scalar.cmpi .slt v467 c0_i32_239
  let c0_i32_240 : BitVec 32 := 0#32
  let v470 : BitVec 1 := Scalar.cmpi .slt v466 c0_i32_240
  let v471 : BitVec 1 := Scalar.xori v469 v470
  let c0_i32_238 : BitVec 32 := 0#32
  let v468 : BitVec 1 := Scalar.cmpi .ne v467 c0_i32_238
  let v472 : BitVec 1 := Scalar.andi v471 v468
  let v473 : BitVec 32 := Scalar.addi v467 v466
  let v474 : BitVec 32 := Scalar.select v472 v473 v467
  let c14_i32_241 : BitVec 32 := 14#32
  let v475 : BitVec 32 := Scalar.minsi v474 c14_i32_241
  let c32_i32_243 : BitVec 32 := 32#32
  let v477 : BitVec 32 := Scalar.muli v475 c32_i32_243
  let c0_i32_1324 : BitVec 32 := 0#32
  ![v477.toNat, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_232 : BitVec 32 := 4#32
  let v461 : BitVec 32 := Scalar.muli v270 c4_i32_232
  let c2_i32_233 : BitVec 32 := 2#32
  let v462 : BitVec 32 := Scalar.addi v461 c2_i32_233
  let c32_i32_242 : BitVec 32 := 32#32
  let v476 : BitVec 32 := Scalar.muli v462 c32_i32_242
  let c0_i32_1325 : BitVec 32 := 0#32
  ![v476.toNat, 0]
def k0_dev18 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_232 : BitVec 32 := 4#32
  let v461 : BitVec 32 := Scalar.muli v270 c4_i32_232
  let c2_i32_233 : BitVec 32 := 2#32
  let v462 : BitVec 32 := Scalar.addi v461 c2_i32_233
  let c1_i32_1322 : BitVec 32 := 1#32
  let v2067 : BitVec 32 := Scalar.muli v462 c1_i32_1322
  let v2068 : BitVec 32 := Scalar.addi c0_i32_1323 v2067
  v2068.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_246 : BitVec 32 := 4#32
  let v481 : BitVec 32 := Scalar.muli v270 c4_i32_246
  let c3_i32_247 : BitVec 32 := 3#32
  let v482 : BitVec 32 := Scalar.addi v481 c3_i32_247
  let v498 : BitVec 1 := Scalar.cmpi .ne v482 v2
  let v499 : BitVec 32 := Scalar.extui v498
  let c0_i32_259 : BitVec 32 := 0#32
  let v500 : BitVec 1 := Scalar.cmpi .ne v499 c0_i32_259
  v500

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_246 : BitVec 32 := 4#32
  let v481 : BitVec 32 := Scalar.muli v270 c4_i32_246
  let c3_i32_247 : BitVec 32 := 3#32
  let v482 : BitVec 32 := Scalar.addi v481 c3_i32_247
  let v483 : BitVec 32 := Scalar.subi v2 v482
  let c1_i32_248 : BitVec 32 := 1#32
  let v484 : BitVec 32 := Scalar.subi v483 c1_i32_248
  let c16_i32_249 : BitVec 32 := 16#32
  let c0_i32_250 : BitVec 32 := 0#32
  let v485 : BitVec 1 := Scalar.cmpi .eq c16_i32_249 c0_i32_250
  let c1_i32_251 : BitVec 32 := 1#32
  let v486 : BitVec 32 := Scalar.select v485 c1_i32_251 c16_i32_249
  let v487 : BitVec 32 := Scalar.remsi v484 v486
  let c0_i32_253 : BitVec 32 := 0#32
  let v489 : BitVec 1 := Scalar.cmpi .slt v487 c0_i32_253
  let c0_i32_254 : BitVec 32 := 0#32
  let v490 : BitVec 1 := Scalar.cmpi .slt v486 c0_i32_254
  let v491 : BitVec 1 := Scalar.xori v489 v490
  let c0_i32_252 : BitVec 32 := 0#32
  let v488 : BitVec 1 := Scalar.cmpi .ne v487 c0_i32_252
  let v492 : BitVec 1 := Scalar.andi v491 v488
  let v493 : BitVec 32 := Scalar.addi v487 v486
  let v494 : BitVec 32 := Scalar.select v492 v493 v487
  let c14_i32_255 : BitVec 32 := 14#32
  let v495 : BitVec 32 := Scalar.minsi v494 c14_i32_255
  ![v495.toNat]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_246 : BitVec 32 := 4#32
  let v481 : BitVec 32 := Scalar.muli v270 c4_i32_246
  let c3_i32_247 : BitVec 32 := 3#32
  let v482 : BitVec 32 := Scalar.addi v481 c3_i32_247
  let v483 : BitVec 32 := Scalar.subi v2 v482
  let c1_i32_248 : BitVec 32 := 1#32
  let v484 : BitVec 32 := Scalar.subi v483 c1_i32_248
  let c16_i32_249 : BitVec 32 := 16#32
  let c0_i32_250 : BitVec 32 := 0#32
  let v485 : BitVec 1 := Scalar.cmpi .eq c16_i32_249 c0_i32_250
  let c1_i32_251 : BitVec 32 := 1#32
  let v486 : BitVec 32 := Scalar.select v485 c1_i32_251 c16_i32_249
  let v487 : BitVec 32 := Scalar.remsi v484 v486
  let c0_i32_253 : BitVec 32 := 0#32
  let v489 : BitVec 1 := Scalar.cmpi .slt v487 c0_i32_253
  let c0_i32_254 : BitVec 32 := 0#32
  let v490 : BitVec 1 := Scalar.cmpi .slt v486 c0_i32_254
  let v491 : BitVec 1 := Scalar.xori v489 v490
  let c0_i32_252 : BitVec 32 := 0#32
  let v488 : BitVec 1 := Scalar.cmpi .ne v487 c0_i32_252
  let v492 : BitVec 1 := Scalar.andi v491 v488
  let v493 : BitVec 32 := Scalar.addi v487 v486
  let v494 : BitVec 32 := Scalar.select v492 v493 v487
  let c14_i32_255 : BitVec 32 := 14#32
  let v495 : BitVec 32 := Scalar.minsi v494 c14_i32_255
  let c32_i32_257 : BitVec 32 := 32#32
  let v497 : BitVec 32 := Scalar.muli v495 c32_i32_257
  let c0_i32_1324 : BitVec 32 := 0#32
  ![v497.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_246 : BitVec 32 := 4#32
  let v481 : BitVec 32 := Scalar.muli v270 c4_i32_246
  let c3_i32_247 : BitVec 32 := 3#32
  let v482 : BitVec 32 := Scalar.addi v481 c3_i32_247
  let c32_i32_256 : BitVec 32 := 32#32
  let v496 : BitVec 32 := Scalar.muli v482 c32_i32_256
  let c0_i32_1325 : BitVec 32 := 0#32
  ![v496.toNat, 0]
def k0_dev19 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_246 : BitVec 32 := 4#32
  let v481 : BitVec 32 := Scalar.muli v270 c4_i32_246
  let c3_i32_247 : BitVec 32 := 3#32
  let v482 : BitVec 32 := Scalar.addi v481 c3_i32_247
  let c1_i32_1322 : BitVec 32 := 1#32
  let v2067 : BitVec 32 := Scalar.muli v482 c1_i32_1322
  let v2068 : BitVec 32 := Scalar.addi c0_i32_1323 v2067
  v2068.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_313 : BitVec 32 := 4#32
  let v662 : BitVec 32 := Scalar.muli v511 c4_i32_313
  let c0_i32_314 : BitVec 32 := 0#32
  let v663 : BitVec 32 := Scalar.addi v662 c0_i32_314
  let v679 : BitVec 1 := Scalar.cmpi .ne v663 v2
  let v680 : BitVec 32 := Scalar.extui v679
  let c0_i32_326 : BitVec 32 := 0#32
  let v681 : BitVec 1 := Scalar.cmpi .ne v680 c0_i32_326
  v681

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_313 : BitVec 32 := 4#32
  let v662 : BitVec 32 := Scalar.muli v511 c4_i32_313
  let c0_i32_314 : BitVec 32 := 0#32
  let v663 : BitVec 32 := Scalar.addi v662 c0_i32_314
  let v664 : BitVec 32 := Scalar.subi v2 v663
  let c1_i32_315 : BitVec 32 := 1#32
  let v665 : BitVec 32 := Scalar.subi v664 c1_i32_315
  let c16_i32_316 : BitVec 32 := 16#32
  let c0_i32_317 : BitVec 32 := 0#32
  let v666 : BitVec 1 := Scalar.cmpi .eq c16_i32_316 c0_i32_317
  let c1_i32_318 : BitVec 32 := 1#32
  let v667 : BitVec 32 := Scalar.select v666 c1_i32_318 c16_i32_316
  let v668 : BitVec 32 := Scalar.remsi v665 v667
  let c0_i32_320 : BitVec 32 := 0#32
  let v670 : BitVec 1 := Scalar.cmpi .slt v668 c0_i32_320
  let c0_i32_321 : BitVec 32 := 0#32
  let v671 : BitVec 1 := Scalar.cmpi .slt v667 c0_i32_321
  let v672 : BitVec 1 := Scalar.xori v670 v671
  let c0_i32_319 : BitVec 32 := 0#32
  let v669 : BitVec 1 := Scalar.cmpi .ne v668 c0_i32_319
  let v673 : BitVec 1 := Scalar.andi v672 v669
  let v674 : BitVec 32 := Scalar.addi v668 v667
  let v675 : BitVec 32 := Scalar.select v673 v674 v668
  let c14_i32_322 : BitVec 32 := 14#32
  let v676 : BitVec 32 := Scalar.minsi v675 c14_i32_322
  ![v676.toNat]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_313 : BitVec 32 := 4#32
  let v662 : BitVec 32 := Scalar.muli v511 c4_i32_313
  let c0_i32_314 : BitVec 32 := 0#32
  let v663 : BitVec 32 := Scalar.addi v662 c0_i32_314
  let v664 : BitVec 32 := Scalar.subi v2 v663
  let c1_i32_315 : BitVec 32 := 1#32
  let v665 : BitVec 32 := Scalar.subi v664 c1_i32_315
  let c16_i32_316 : BitVec 32 := 16#32
  let c0_i32_317 : BitVec 32 := 0#32
  let v666 : BitVec 1 := Scalar.cmpi .eq c16_i32_316 c0_i32_317
  let c1_i32_318 : BitVec 32 := 1#32
  let v667 : BitVec 32 := Scalar.select v666 c1_i32_318 c16_i32_316
  let v668 : BitVec 32 := Scalar.remsi v665 v667
  let c0_i32_320 : BitVec 32 := 0#32
  let v670 : BitVec 1 := Scalar.cmpi .slt v668 c0_i32_320
  let c0_i32_321 : BitVec 32 := 0#32
  let v671 : BitVec 1 := Scalar.cmpi .slt v667 c0_i32_321
  let v672 : BitVec 1 := Scalar.xori v670 v671
  let c0_i32_319 : BitVec 32 := 0#32
  let v669 : BitVec 1 := Scalar.cmpi .ne v668 c0_i32_319
  let v673 : BitVec 1 := Scalar.andi v672 v669
  let v674 : BitVec 32 := Scalar.addi v668 v667
  let v675 : BitVec 32 := Scalar.select v673 v674 v668
  let c14_i32_322 : BitVec 32 := 14#32
  let v676 : BitVec 32 := Scalar.minsi v675 c14_i32_322
  let c32_i32_324 : BitVec 32 := 32#32
  let v678 : BitVec 32 := Scalar.muli v676 c32_i32_324
  let c0_i32_1324 : BitVec 32 := 0#32
  ![v678.toNat, 0]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_313 : BitVec 32 := 4#32
  let v662 : BitVec 32 := Scalar.muli v511 c4_i32_313
  let c0_i32_314 : BitVec 32 := 0#32
  let v663 : BitVec 32 := Scalar.addi v662 c0_i32_314
  let c32_i32_323 : BitVec 32 := 32#32
  let v677 : BitVec 32 := Scalar.muli v663 c32_i32_323
  let c0_i32_1325 : BitVec 32 := 0#32
  ![v677.toNat, 0]
def k0_dev20 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_313 : BitVec 32 := 4#32
  let v662 : BitVec 32 := Scalar.muli v511 c4_i32_313
  let c0_i32_314 : BitVec 32 := 0#32
  let v663 : BitVec 32 := Scalar.addi v662 c0_i32_314
  let c1_i32_1322 : BitVec 32 := 1#32
  let v2067 : BitVec 32 := Scalar.muli v663 c1_i32_1322
  let v2068 : BitVec 32 := Scalar.addi c0_i32_1323 v2067
  v2068.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_327 : BitVec 32 := 4#32
  let v682 : BitVec 32 := Scalar.muli v511 c4_i32_327
  let c1_i32_328 : BitVec 32 := 1#32
  let v683 : BitVec 32 := Scalar.addi v682 c1_i32_328
  let v699 : BitVec 1 := Scalar.cmpi .ne v683 v2
  let v700 : BitVec 32 := Scalar.extui v699
  let c0_i32_340 : BitVec 32 := 0#32
  let v701 : BitVec 1 := Scalar.cmpi .ne v700 c0_i32_340
  v701

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_327 : BitVec 32 := 4#32
  let v682 : BitVec 32 := Scalar.muli v511 c4_i32_327
  let c1_i32_328 : BitVec 32 := 1#32
  let v683 : BitVec 32 := Scalar.addi v682 c1_i32_328
  let v684 : BitVec 32 := Scalar.subi v2 v683
  let c1_i32_329 : BitVec 32 := 1#32
  let v685 : BitVec 32 := Scalar.subi v684 c1_i32_329
  let c16_i32_330 : BitVec 32 := 16#32
  let c0_i32_331 : BitVec 32 := 0#32
  let v686 : BitVec 1 := Scalar.cmpi .eq c16_i32_330 c0_i32_331
  let c1_i32_332 : BitVec 32 := 1#32
  let v687 : BitVec 32 := Scalar.select v686 c1_i32_332 c16_i32_330
  let v688 : BitVec 32 := Scalar.remsi v685 v687
  let c0_i32_334 : BitVec 32 := 0#32
  let v690 : BitVec 1 := Scalar.cmpi .slt v688 c0_i32_334
  let c0_i32_335 : BitVec 32 := 0#32
  let v691 : BitVec 1 := Scalar.cmpi .slt v687 c0_i32_335
  let v692 : BitVec 1 := Scalar.xori v690 v691
  let c0_i32_333 : BitVec 32 := 0#32
  let v689 : BitVec 1 := Scalar.cmpi .ne v688 c0_i32_333
  let v693 : BitVec 1 := Scalar.andi v692 v689
  let v694 : BitVec 32 := Scalar.addi v688 v687
  let v695 : BitVec 32 := Scalar.select v693 v694 v688
  let c14_i32_336 : BitVec 32 := 14#32
  let v696 : BitVec 32 := Scalar.minsi v695 c14_i32_336
  ![v696.toNat]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_327 : BitVec 32 := 4#32
  let v682 : BitVec 32 := Scalar.muli v511 c4_i32_327
  let c1_i32_328 : BitVec 32 := 1#32
  let v683 : BitVec 32 := Scalar.addi v682 c1_i32_328
  let v684 : BitVec 32 := Scalar.subi v2 v683
  let c1_i32_329 : BitVec 32 := 1#32
  let v685 : BitVec 32 := Scalar.subi v684 c1_i32_329
  let c16_i32_330 : BitVec 32 := 16#32
  let c0_i32_331 : BitVec 32 := 0#32
  let v686 : BitVec 1 := Scalar.cmpi .eq c16_i32_330 c0_i32_331
  let c1_i32_332 : BitVec 32 := 1#32
  let v687 : BitVec 32 := Scalar.select v686 c1_i32_332 c16_i32_330
  let v688 : BitVec 32 := Scalar.remsi v685 v687
  let c0_i32_334 : BitVec 32 := 0#32
  let v690 : BitVec 1 := Scalar.cmpi .slt v688 c0_i32_334
  let c0_i32_335 : BitVec 32 := 0#32
  let v691 : BitVec 1 := Scalar.cmpi .slt v687 c0_i32_335
  let v692 : BitVec 1 := Scalar.xori v690 v691
  let c0_i32_333 : BitVec 32 := 0#32
  let v689 : BitVec 1 := Scalar.cmpi .ne v688 c0_i32_333
  let v693 : BitVec 1 := Scalar.andi v692 v689
  let v694 : BitVec 32 := Scalar.addi v688 v687
  let v695 : BitVec 32 := Scalar.select v693 v694 v688
  let c14_i32_336 : BitVec 32 := 14#32
  let v696 : BitVec 32 := Scalar.minsi v695 c14_i32_336
  let c32_i32_338 : BitVec 32 := 32#32
  let v698 : BitVec 32 := Scalar.muli v696 c32_i32_338
  let c0_i32_1324 : BitVec 32 := 0#32
  ![v698.toNat, 0]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_327 : BitVec 32 := 4#32
  let v682 : BitVec 32 := Scalar.muli v511 c4_i32_327
  let c1_i32_328 : BitVec 32 := 1#32
  let v683 : BitVec 32 := Scalar.addi v682 c1_i32_328
  let c32_i32_337 : BitVec 32 := 32#32
  let v697 : BitVec 32 := Scalar.muli v683 c32_i32_337
  let c0_i32_1325 : BitVec 32 := 0#32
  ![v697.toNat, 0]
def k0_dev21 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_327 : BitVec 32 := 4#32
  let v682 : BitVec 32 := Scalar.muli v511 c4_i32_327
  let c1_i32_328 : BitVec 32 := 1#32
  let v683 : BitVec 32 := Scalar.addi v682 c1_i32_328
  let c1_i32_1322 : BitVec 32 := 1#32
  let v2067 : BitVec 32 := Scalar.muli v683 c1_i32_1322
  let v2068 : BitVec 32 := Scalar.addi c0_i32_1323 v2067
  v2068.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_341 : BitVec 32 := 4#32
  let v702 : BitVec 32 := Scalar.muli v511 c4_i32_341
  let c2_i32_342 : BitVec 32 := 2#32
  let v703 : BitVec 32 := Scalar.addi v702 c2_i32_342
  let v719 : BitVec 1 := Scalar.cmpi .ne v703 v2
  let v720 : BitVec 32 := Scalar.extui v719
  let c0_i32_354 : BitVec 32 := 0#32
  let v721 : BitVec 1 := Scalar.cmpi .ne v720 c0_i32_354
  v721

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_341 : BitVec 32 := 4#32
  let v702 : BitVec 32 := Scalar.muli v511 c4_i32_341
  let c2_i32_342 : BitVec 32 := 2#32
  let v703 : BitVec 32 := Scalar.addi v702 c2_i32_342
  let v704 : BitVec 32 := Scalar.subi v2 v703
  let c1_i32_343 : BitVec 32 := 1#32
  let v705 : BitVec 32 := Scalar.subi v704 c1_i32_343
  let c16_i32_344 : BitVec 32 := 16#32
  let c0_i32_345 : BitVec 32 := 0#32
  let v706 : BitVec 1 := Scalar.cmpi .eq c16_i32_344 c0_i32_345
  let c1_i32_346 : BitVec 32 := 1#32
  let v707 : BitVec 32 := Scalar.select v706 c1_i32_346 c16_i32_344
  let v708 : BitVec 32 := Scalar.remsi v705 v707
  let c0_i32_348 : BitVec 32 := 0#32
  let v710 : BitVec 1 := Scalar.cmpi .slt v708 c0_i32_348
  let c0_i32_349 : BitVec 32 := 0#32
  let v711 : BitVec 1 := Scalar.cmpi .slt v707 c0_i32_349
  let v712 : BitVec 1 := Scalar.xori v710 v711
  let c0_i32_347 : BitVec 32 := 0#32
  let v709 : BitVec 1 := Scalar.cmpi .ne v708 c0_i32_347
  let v713 : BitVec 1 := Scalar.andi v712 v709
  let v714 : BitVec 32 := Scalar.addi v708 v707
  let v715 : BitVec 32 := Scalar.select v713 v714 v708
  let c14_i32_350 : BitVec 32 := 14#32
  let v716 : BitVec 32 := Scalar.minsi v715 c14_i32_350
  ![v716.toNat]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_341 : BitVec 32 := 4#32
  let v702 : BitVec 32 := Scalar.muli v511 c4_i32_341
  let c2_i32_342 : BitVec 32 := 2#32
  let v703 : BitVec 32 := Scalar.addi v702 c2_i32_342
  let v704 : BitVec 32 := Scalar.subi v2 v703
  let c1_i32_343 : BitVec 32 := 1#32
  let v705 : BitVec 32 := Scalar.subi v704 c1_i32_343
  let c16_i32_344 : BitVec 32 := 16#32
  let c0_i32_345 : BitVec 32 := 0#32
  let v706 : BitVec 1 := Scalar.cmpi .eq c16_i32_344 c0_i32_345
  let c1_i32_346 : BitVec 32 := 1#32
  let v707 : BitVec 32 := Scalar.select v706 c1_i32_346 c16_i32_344
  let v708 : BitVec 32 := Scalar.remsi v705 v707
  let c0_i32_348 : BitVec 32 := 0#32
  let v710 : BitVec 1 := Scalar.cmpi .slt v708 c0_i32_348
  let c0_i32_349 : BitVec 32 := 0#32
  let v711 : BitVec 1 := Scalar.cmpi .slt v707 c0_i32_349
  let v712 : BitVec 1 := Scalar.xori v710 v711
  let c0_i32_347 : BitVec 32 := 0#32
  let v709 : BitVec 1 := Scalar.cmpi .ne v708 c0_i32_347
  let v713 : BitVec 1 := Scalar.andi v712 v709
  let v714 : BitVec 32 := Scalar.addi v708 v707
  let v715 : BitVec 32 := Scalar.select v713 v714 v708
  let c14_i32_350 : BitVec 32 := 14#32
  let v716 : BitVec 32 := Scalar.minsi v715 c14_i32_350
  let c32_i32_352 : BitVec 32 := 32#32
  let v718 : BitVec 32 := Scalar.muli v716 c32_i32_352
  let c0_i32_1324 : BitVec 32 := 0#32
  ![v718.toNat, 0]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_341 : BitVec 32 := 4#32
  let v702 : BitVec 32 := Scalar.muli v511 c4_i32_341
  let c2_i32_342 : BitVec 32 := 2#32
  let v703 : BitVec 32 := Scalar.addi v702 c2_i32_342
  let c32_i32_351 : BitVec 32 := 32#32
  let v717 : BitVec 32 := Scalar.muli v703 c32_i32_351
  let c0_i32_1325 : BitVec 32 := 0#32
  ![v717.toNat, 0]
def k0_dev22 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_341 : BitVec 32 := 4#32
  let v702 : BitVec 32 := Scalar.muli v511 c4_i32_341
  let c2_i32_342 : BitVec 32 := 2#32
  let v703 : BitVec 32 := Scalar.addi v702 c2_i32_342
  let c1_i32_1322 : BitVec 32 := 1#32
  let v2067 : BitVec 32 := Scalar.muli v703 c1_i32_1322
  let v2068 : BitVec 32 := Scalar.addi c0_i32_1323 v2067
  v2068.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_355 : BitVec 32 := 4#32
  let v722 : BitVec 32 := Scalar.muli v511 c4_i32_355
  let c3_i32_356 : BitVec 32 := 3#32
  let v723 : BitVec 32 := Scalar.addi v722 c3_i32_356
  let v739 : BitVec 1 := Scalar.cmpi .ne v723 v2
  let v740 : BitVec 32 := Scalar.extui v739
  let c0_i32_368 : BitVec 32 := 0#32
  let v741 : BitVec 1 := Scalar.cmpi .ne v740 c0_i32_368
  v741

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_355 : BitVec 32 := 4#32
  let v722 : BitVec 32 := Scalar.muli v511 c4_i32_355
  let c3_i32_356 : BitVec 32 := 3#32
  let v723 : BitVec 32 := Scalar.addi v722 c3_i32_356
  let v724 : BitVec 32 := Scalar.subi v2 v723
  let c1_i32_357 : BitVec 32 := 1#32
  let v725 : BitVec 32 := Scalar.subi v724 c1_i32_357
  let c16_i32_358 : BitVec 32 := 16#32
  let c0_i32_359 : BitVec 32 := 0#32
  let v726 : BitVec 1 := Scalar.cmpi .eq c16_i32_358 c0_i32_359
  let c1_i32_360 : BitVec 32 := 1#32
  let v727 : BitVec 32 := Scalar.select v726 c1_i32_360 c16_i32_358
  let v728 : BitVec 32 := Scalar.remsi v725 v727
  let c0_i32_362 : BitVec 32 := 0#32
  let v730 : BitVec 1 := Scalar.cmpi .slt v728 c0_i32_362
  let c0_i32_363 : BitVec 32 := 0#32
  let v731 : BitVec 1 := Scalar.cmpi .slt v727 c0_i32_363
  let v732 : BitVec 1 := Scalar.xori v730 v731
  let c0_i32_361 : BitVec 32 := 0#32
  let v729 : BitVec 1 := Scalar.cmpi .ne v728 c0_i32_361
  let v733 : BitVec 1 := Scalar.andi v732 v729
  let v734 : BitVec 32 := Scalar.addi v728 v727
  let v735 : BitVec 32 := Scalar.select v733 v734 v728
  let c14_i32_364 : BitVec 32 := 14#32
  let v736 : BitVec 32 := Scalar.minsi v735 c14_i32_364
  ![v736.toNat]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_355 : BitVec 32 := 4#32
  let v722 : BitVec 32 := Scalar.muli v511 c4_i32_355
  let c3_i32_356 : BitVec 32 := 3#32
  let v723 : BitVec 32 := Scalar.addi v722 c3_i32_356
  let v724 : BitVec 32 := Scalar.subi v2 v723
  let c1_i32_357 : BitVec 32 := 1#32
  let v725 : BitVec 32 := Scalar.subi v724 c1_i32_357
  let c16_i32_358 : BitVec 32 := 16#32
  let c0_i32_359 : BitVec 32 := 0#32
  let v726 : BitVec 1 := Scalar.cmpi .eq c16_i32_358 c0_i32_359
  let c1_i32_360 : BitVec 32 := 1#32
  let v727 : BitVec 32 := Scalar.select v726 c1_i32_360 c16_i32_358
  let v728 : BitVec 32 := Scalar.remsi v725 v727
  let c0_i32_362 : BitVec 32 := 0#32
  let v730 : BitVec 1 := Scalar.cmpi .slt v728 c0_i32_362
  let c0_i32_363 : BitVec 32 := 0#32
  let v731 : BitVec 1 := Scalar.cmpi .slt v727 c0_i32_363
  let v732 : BitVec 1 := Scalar.xori v730 v731
  let c0_i32_361 : BitVec 32 := 0#32
  let v729 : BitVec 1 := Scalar.cmpi .ne v728 c0_i32_361
  let v733 : BitVec 1 := Scalar.andi v732 v729
  let v734 : BitVec 32 := Scalar.addi v728 v727
  let v735 : BitVec 32 := Scalar.select v733 v734 v728
  let c14_i32_364 : BitVec 32 := 14#32
  let v736 : BitVec 32 := Scalar.minsi v735 c14_i32_364
  let c32_i32_366 : BitVec 32 := 32#32
  let v738 : BitVec 32 := Scalar.muli v736 c32_i32_366
  let c0_i32_1324 : BitVec 32 := 0#32
  ![v738.toNat, 0]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_355 : BitVec 32 := 4#32
  let v722 : BitVec 32 := Scalar.muli v511 c4_i32_355
  let c3_i32_356 : BitVec 32 := 3#32
  let v723 : BitVec 32 := Scalar.addi v722 c3_i32_356
  let c32_i32_365 : BitVec 32 := 32#32
  let v737 : BitVec 32 := Scalar.muli v723 c32_i32_365
  let c0_i32_1325 : BitVec 32 := 0#32
  ![v737.toNat, 0]
def k0_dev23 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_355 : BitVec 32 := 4#32
  let v722 : BitVec 32 := Scalar.muli v511 c4_i32_355
  let c3_i32_356 : BitVec 32 := 3#32
  let v723 : BitVec 32 := Scalar.addi v722 c3_i32_356
  let c1_i32_1322 : BitVec 32 := 1#32
  let v2067 : BitVec 32 := Scalar.muli v723 c1_i32_1322
  let v2068 : BitVec 32 := Scalar.addi c0_i32_1323 v2067
  v2068.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_422 : BitVec 32 := 4#32
  let v903 : BitVec 32 := Scalar.muli v752 c4_i32_422
  let c0_i32_423 : BitVec 32 := 0#32
  let v904 : BitVec 32 := Scalar.addi v903 c0_i32_423
  let v920 : BitVec 1 := Scalar.cmpi .ne v904 v2
  let v921 : BitVec 32 := Scalar.extui v920
  let c0_i32_435 : BitVec 32 := 0#32
  let v922 : BitVec 1 := Scalar.cmpi .ne v921 c0_i32_435
  v922

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_422 : BitVec 32 := 4#32
  let v903 : BitVec 32 := Scalar.muli v752 c4_i32_422
  let c0_i32_423 : BitVec 32 := 0#32
  let v904 : BitVec 32 := Scalar.addi v903 c0_i32_423
  let v905 : BitVec 32 := Scalar.subi v2 v904
  let c1_i32_424 : BitVec 32 := 1#32
  let v906 : BitVec 32 := Scalar.subi v905 c1_i32_424
  let c16_i32_425 : BitVec 32 := 16#32
  let c0_i32_426 : BitVec 32 := 0#32
  let v907 : BitVec 1 := Scalar.cmpi .eq c16_i32_425 c0_i32_426
  let c1_i32_427 : BitVec 32 := 1#32
  let v908 : BitVec 32 := Scalar.select v907 c1_i32_427 c16_i32_425
  let v909 : BitVec 32 := Scalar.remsi v906 v908
  let c0_i32_429 : BitVec 32 := 0#32
  let v911 : BitVec 1 := Scalar.cmpi .slt v909 c0_i32_429
  let c0_i32_430 : BitVec 32 := 0#32
  let v912 : BitVec 1 := Scalar.cmpi .slt v908 c0_i32_430
  let v913 : BitVec 1 := Scalar.xori v911 v912
  let c0_i32_428 : BitVec 32 := 0#32
  let v910 : BitVec 1 := Scalar.cmpi .ne v909 c0_i32_428
  let v914 : BitVec 1 := Scalar.andi v913 v910
  let v915 : BitVec 32 := Scalar.addi v909 v908
  let v916 : BitVec 32 := Scalar.select v914 v915 v909
  let c14_i32_431 : BitVec 32 := 14#32
  let v917 : BitVec 32 := Scalar.minsi v916 c14_i32_431
  ![v917.toNat]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_422 : BitVec 32 := 4#32
  let v903 : BitVec 32 := Scalar.muli v752 c4_i32_422
  let c0_i32_423 : BitVec 32 := 0#32
  let v904 : BitVec 32 := Scalar.addi v903 c0_i32_423
  let v905 : BitVec 32 := Scalar.subi v2 v904
  let c1_i32_424 : BitVec 32 := 1#32
  let v906 : BitVec 32 := Scalar.subi v905 c1_i32_424
  let c16_i32_425 : BitVec 32 := 16#32
  let c0_i32_426 : BitVec 32 := 0#32
  let v907 : BitVec 1 := Scalar.cmpi .eq c16_i32_425 c0_i32_426
  let c1_i32_427 : BitVec 32 := 1#32
  let v908 : BitVec 32 := Scalar.select v907 c1_i32_427 c16_i32_425
  let v909 : BitVec 32 := Scalar.remsi v906 v908
  let c0_i32_429 : BitVec 32 := 0#32
  let v911 : BitVec 1 := Scalar.cmpi .slt v909 c0_i32_429
  let c0_i32_430 : BitVec 32 := 0#32
  let v912 : BitVec 1 := Scalar.cmpi .slt v908 c0_i32_430
  let v913 : BitVec 1 := Scalar.xori v911 v912
  let c0_i32_428 : BitVec 32 := 0#32
  let v910 : BitVec 1 := Scalar.cmpi .ne v909 c0_i32_428
  let v914 : BitVec 1 := Scalar.andi v913 v910
  let v915 : BitVec 32 := Scalar.addi v909 v908
  let v916 : BitVec 32 := Scalar.select v914 v915 v909
  let c14_i32_431 : BitVec 32 := 14#32
  let v917 : BitVec 32 := Scalar.minsi v916 c14_i32_431
  let c32_i32_433 : BitVec 32 := 32#32
  let v919 : BitVec 32 := Scalar.muli v917 c32_i32_433
  let c0_i32_1324 : BitVec 32 := 0#32
  ![v919.toNat, 0]
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_422 : BitVec 32 := 4#32
  let v903 : BitVec 32 := Scalar.muli v752 c4_i32_422
  let c0_i32_423 : BitVec 32 := 0#32
  let v904 : BitVec 32 := Scalar.addi v903 c0_i32_423
  let c32_i32_432 : BitVec 32 := 32#32
  let v918 : BitVec 32 := Scalar.muli v904 c32_i32_432
  let c0_i32_1325 : BitVec 32 := 0#32
  ![v918.toNat, 0]
def k0_dev24 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_422 : BitVec 32 := 4#32
  let v903 : BitVec 32 := Scalar.muli v752 c4_i32_422
  let c0_i32_423 : BitVec 32 := 0#32
  let v904 : BitVec 32 := Scalar.addi v903 c0_i32_423
  let c1_i32_1322 : BitVec 32 := 1#32
  let v2067 : BitVec 32 := Scalar.muli v904 c1_i32_1322
  let v2068 : BitVec 32 := Scalar.addi c0_i32_1323 v2067
  v2068.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_436 : BitVec 32 := 4#32
  let v923 : BitVec 32 := Scalar.muli v752 c4_i32_436
  let c1_i32_437 : BitVec 32 := 1#32
  let v924 : BitVec 32 := Scalar.addi v923 c1_i32_437
  let v940 : BitVec 1 := Scalar.cmpi .ne v924 v2
  let v941 : BitVec 32 := Scalar.extui v940
  let c0_i32_449 : BitVec 32 := 0#32
  let v942 : BitVec 1 := Scalar.cmpi .ne v941 c0_i32_449
  v942

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_436 : BitVec 32 := 4#32
  let v923 : BitVec 32 := Scalar.muli v752 c4_i32_436
  let c1_i32_437 : BitVec 32 := 1#32
  let v924 : BitVec 32 := Scalar.addi v923 c1_i32_437
  let v925 : BitVec 32 := Scalar.subi v2 v924
  let c1_i32_438 : BitVec 32 := 1#32
  let v926 : BitVec 32 := Scalar.subi v925 c1_i32_438
  let c16_i32_439 : BitVec 32 := 16#32
  let c0_i32_440 : BitVec 32 := 0#32
  let v927 : BitVec 1 := Scalar.cmpi .eq c16_i32_439 c0_i32_440
  let c1_i32_441 : BitVec 32 := 1#32
  let v928 : BitVec 32 := Scalar.select v927 c1_i32_441 c16_i32_439
  let v929 : BitVec 32 := Scalar.remsi v926 v928
  let c0_i32_443 : BitVec 32 := 0#32
  let v931 : BitVec 1 := Scalar.cmpi .slt v929 c0_i32_443
  let c0_i32_444 : BitVec 32 := 0#32
  let v932 : BitVec 1 := Scalar.cmpi .slt v928 c0_i32_444
  let v933 : BitVec 1 := Scalar.xori v931 v932
  let c0_i32_442 : BitVec 32 := 0#32
  let v930 : BitVec 1 := Scalar.cmpi .ne v929 c0_i32_442
  let v934 : BitVec 1 := Scalar.andi v933 v930
  let v935 : BitVec 32 := Scalar.addi v929 v928
  let v936 : BitVec 32 := Scalar.select v934 v935 v929
  let c14_i32_445 : BitVec 32 := 14#32
  let v937 : BitVec 32 := Scalar.minsi v936 c14_i32_445
  ![v937.toNat]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_436 : BitVec 32 := 4#32
  let v923 : BitVec 32 := Scalar.muli v752 c4_i32_436
  let c1_i32_437 : BitVec 32 := 1#32
  let v924 : BitVec 32 := Scalar.addi v923 c1_i32_437
  let v925 : BitVec 32 := Scalar.subi v2 v924
  let c1_i32_438 : BitVec 32 := 1#32
  let v926 : BitVec 32 := Scalar.subi v925 c1_i32_438
  let c16_i32_439 : BitVec 32 := 16#32
  let c0_i32_440 : BitVec 32 := 0#32
  let v927 : BitVec 1 := Scalar.cmpi .eq c16_i32_439 c0_i32_440
  let c1_i32_441 : BitVec 32 := 1#32
  let v928 : BitVec 32 := Scalar.select v927 c1_i32_441 c16_i32_439
  let v929 : BitVec 32 := Scalar.remsi v926 v928
  let c0_i32_443 : BitVec 32 := 0#32
  let v931 : BitVec 1 := Scalar.cmpi .slt v929 c0_i32_443
  let c0_i32_444 : BitVec 32 := 0#32
  let v932 : BitVec 1 := Scalar.cmpi .slt v928 c0_i32_444
  let v933 : BitVec 1 := Scalar.xori v931 v932
  let c0_i32_442 : BitVec 32 := 0#32
  let v930 : BitVec 1 := Scalar.cmpi .ne v929 c0_i32_442
  let v934 : BitVec 1 := Scalar.andi v933 v930
  let v935 : BitVec 32 := Scalar.addi v929 v928
  let v936 : BitVec 32 := Scalar.select v934 v935 v929
  let c14_i32_445 : BitVec 32 := 14#32
  let v937 : BitVec 32 := Scalar.minsi v936 c14_i32_445
  let c32_i32_447 : BitVec 32 := 32#32
  let v939 : BitVec 32 := Scalar.muli v937 c32_i32_447
  let c0_i32_1324 : BitVec 32 := 0#32
  ![v939.toNat, 0]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_436 : BitVec 32 := 4#32
  let v923 : BitVec 32 := Scalar.muli v752 c4_i32_436
  let c1_i32_437 : BitVec 32 := 1#32
  let v924 : BitVec 32 := Scalar.addi v923 c1_i32_437
  let c32_i32_446 : BitVec 32 := 32#32
  let v938 : BitVec 32 := Scalar.muli v924 c32_i32_446
  let c0_i32_1325 : BitVec 32 := 0#32
  ![v938.toNat, 0]
def k0_dev25 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_436 : BitVec 32 := 4#32
  let v923 : BitVec 32 := Scalar.muli v752 c4_i32_436
  let c1_i32_437 : BitVec 32 := 1#32
  let v924 : BitVec 32 := Scalar.addi v923 c1_i32_437
  let c1_i32_1322 : BitVec 32 := 1#32
  let v2067 : BitVec 32 := Scalar.muli v924 c1_i32_1322
  let v2068 : BitVec 32 := Scalar.addi c0_i32_1323 v2067
  v2068.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_450 : BitVec 32 := 4#32
  let v943 : BitVec 32 := Scalar.muli v752 c4_i32_450
  let c2_i32_451 : BitVec 32 := 2#32
  let v944 : BitVec 32 := Scalar.addi v943 c2_i32_451
  let v960 : BitVec 1 := Scalar.cmpi .ne v944 v2
  let v961 : BitVec 32 := Scalar.extui v960
  let c0_i32_463 : BitVec 32 := 0#32
  let v962 : BitVec 1 := Scalar.cmpi .ne v961 c0_i32_463
  v962

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_450 : BitVec 32 := 4#32
  let v943 : BitVec 32 := Scalar.muli v752 c4_i32_450
  let c2_i32_451 : BitVec 32 := 2#32
  let v944 : BitVec 32 := Scalar.addi v943 c2_i32_451
  let v945 : BitVec 32 := Scalar.subi v2 v944
  let c1_i32_452 : BitVec 32 := 1#32
  let v946 : BitVec 32 := Scalar.subi v945 c1_i32_452
  let c16_i32_453 : BitVec 32 := 16#32
  let c0_i32_454 : BitVec 32 := 0#32
  let v947 : BitVec 1 := Scalar.cmpi .eq c16_i32_453 c0_i32_454
  let c1_i32_455 : BitVec 32 := 1#32
  let v948 : BitVec 32 := Scalar.select v947 c1_i32_455 c16_i32_453
  let v949 : BitVec 32 := Scalar.remsi v946 v948
  let c0_i32_457 : BitVec 32 := 0#32
  let v951 : BitVec 1 := Scalar.cmpi .slt v949 c0_i32_457
  let c0_i32_458 : BitVec 32 := 0#32
  let v952 : BitVec 1 := Scalar.cmpi .slt v948 c0_i32_458
  let v953 : BitVec 1 := Scalar.xori v951 v952
  let c0_i32_456 : BitVec 32 := 0#32
  let v950 : BitVec 1 := Scalar.cmpi .ne v949 c0_i32_456
  let v954 : BitVec 1 := Scalar.andi v953 v950
  let v955 : BitVec 32 := Scalar.addi v949 v948
  let v956 : BitVec 32 := Scalar.select v954 v955 v949
  let c14_i32_459 : BitVec 32 := 14#32
  let v957 : BitVec 32 := Scalar.minsi v956 c14_i32_459
  ![v957.toNat]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_450 : BitVec 32 := 4#32
  let v943 : BitVec 32 := Scalar.muli v752 c4_i32_450
  let c2_i32_451 : BitVec 32 := 2#32
  let v944 : BitVec 32 := Scalar.addi v943 c2_i32_451
  let v945 : BitVec 32 := Scalar.subi v2 v944
  let c1_i32_452 : BitVec 32 := 1#32
  let v946 : BitVec 32 := Scalar.subi v945 c1_i32_452
  let c16_i32_453 : BitVec 32 := 16#32
  let c0_i32_454 : BitVec 32 := 0#32
  let v947 : BitVec 1 := Scalar.cmpi .eq c16_i32_453 c0_i32_454
  let c1_i32_455 : BitVec 32 := 1#32
  let v948 : BitVec 32 := Scalar.select v947 c1_i32_455 c16_i32_453
  let v949 : BitVec 32 := Scalar.remsi v946 v948
  let c0_i32_457 : BitVec 32 := 0#32
  let v951 : BitVec 1 := Scalar.cmpi .slt v949 c0_i32_457
  let c0_i32_458 : BitVec 32 := 0#32
  let v952 : BitVec 1 := Scalar.cmpi .slt v948 c0_i32_458
  let v953 : BitVec 1 := Scalar.xori v951 v952
  let c0_i32_456 : BitVec 32 := 0#32
  let v950 : BitVec 1 := Scalar.cmpi .ne v949 c0_i32_456
  let v954 : BitVec 1 := Scalar.andi v953 v950
  let v955 : BitVec 32 := Scalar.addi v949 v948
  let v956 : BitVec 32 := Scalar.select v954 v955 v949
  let c14_i32_459 : BitVec 32 := 14#32
  let v957 : BitVec 32 := Scalar.minsi v956 c14_i32_459
  let c32_i32_461 : BitVec 32 := 32#32
  let v959 : BitVec 32 := Scalar.muli v957 c32_i32_461
  let c0_i32_1324 : BitVec 32 := 0#32
  ![v959.toNat, 0]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_450 : BitVec 32 := 4#32
  let v943 : BitVec 32 := Scalar.muli v752 c4_i32_450
  let c2_i32_451 : BitVec 32 := 2#32
  let v944 : BitVec 32 := Scalar.addi v943 c2_i32_451
  let c32_i32_460 : BitVec 32 := 32#32
  let v958 : BitVec 32 := Scalar.muli v944 c32_i32_460
  let c0_i32_1325 : BitVec 32 := 0#32
  ![v958.toNat, 0]
def k0_dev26 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_450 : BitVec 32 := 4#32
  let v943 : BitVec 32 := Scalar.muli v752 c4_i32_450
  let c2_i32_451 : BitVec 32 := 2#32
  let v944 : BitVec 32 := Scalar.addi v943 c2_i32_451
  let c1_i32_1322 : BitVec 32 := 1#32
  let v2067 : BitVec 32 := Scalar.muli v944 c1_i32_1322
  let v2068 : BitVec 32 := Scalar.addi c0_i32_1323 v2067
  v2068.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_464 : BitVec 32 := 4#32
  let v963 : BitVec 32 := Scalar.muli v752 c4_i32_464
  let c3_i32_465 : BitVec 32 := 3#32
  let v964 : BitVec 32 := Scalar.addi v963 c3_i32_465
  let v980 : BitVec 1 := Scalar.cmpi .ne v964 v2
  let v981 : BitVec 32 := Scalar.extui v980
  let c0_i32_477 : BitVec 32 := 0#32
  let v982 : BitVec 1 := Scalar.cmpi .ne v981 c0_i32_477
  v982

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_464 : BitVec 32 := 4#32
  let v963 : BitVec 32 := Scalar.muli v752 c4_i32_464
  let c3_i32_465 : BitVec 32 := 3#32
  let v964 : BitVec 32 := Scalar.addi v963 c3_i32_465
  let v965 : BitVec 32 := Scalar.subi v2 v964
  let c1_i32_466 : BitVec 32 := 1#32
  let v966 : BitVec 32 := Scalar.subi v965 c1_i32_466
  let c16_i32_467 : BitVec 32 := 16#32
  let c0_i32_468 : BitVec 32 := 0#32
  let v967 : BitVec 1 := Scalar.cmpi .eq c16_i32_467 c0_i32_468
  let c1_i32_469 : BitVec 32 := 1#32
  let v968 : BitVec 32 := Scalar.select v967 c1_i32_469 c16_i32_467
  let v969 : BitVec 32 := Scalar.remsi v966 v968
  let c0_i32_471 : BitVec 32 := 0#32
  let v971 : BitVec 1 := Scalar.cmpi .slt v969 c0_i32_471
  let c0_i32_472 : BitVec 32 := 0#32
  let v972 : BitVec 1 := Scalar.cmpi .slt v968 c0_i32_472
  let v973 : BitVec 1 := Scalar.xori v971 v972
  let c0_i32_470 : BitVec 32 := 0#32
  let v970 : BitVec 1 := Scalar.cmpi .ne v969 c0_i32_470
  let v974 : BitVec 1 := Scalar.andi v973 v970
  let v975 : BitVec 32 := Scalar.addi v969 v968
  let v976 : BitVec 32 := Scalar.select v974 v975 v969
  let c14_i32_473 : BitVec 32 := 14#32
  let v977 : BitVec 32 := Scalar.minsi v976 c14_i32_473
  ![v977.toNat]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_464 : BitVec 32 := 4#32
  let v963 : BitVec 32 := Scalar.muli v752 c4_i32_464
  let c3_i32_465 : BitVec 32 := 3#32
  let v964 : BitVec 32 := Scalar.addi v963 c3_i32_465
  let v965 : BitVec 32 := Scalar.subi v2 v964
  let c1_i32_466 : BitVec 32 := 1#32
  let v966 : BitVec 32 := Scalar.subi v965 c1_i32_466
  let c16_i32_467 : BitVec 32 := 16#32
  let c0_i32_468 : BitVec 32 := 0#32
  let v967 : BitVec 1 := Scalar.cmpi .eq c16_i32_467 c0_i32_468
  let c1_i32_469 : BitVec 32 := 1#32
  let v968 : BitVec 32 := Scalar.select v967 c1_i32_469 c16_i32_467
  let v969 : BitVec 32 := Scalar.remsi v966 v968
  let c0_i32_471 : BitVec 32 := 0#32
  let v971 : BitVec 1 := Scalar.cmpi .slt v969 c0_i32_471
  let c0_i32_472 : BitVec 32 := 0#32
  let v972 : BitVec 1 := Scalar.cmpi .slt v968 c0_i32_472
  let v973 : BitVec 1 := Scalar.xori v971 v972
  let c0_i32_470 : BitVec 32 := 0#32
  let v970 : BitVec 1 := Scalar.cmpi .ne v969 c0_i32_470
  let v974 : BitVec 1 := Scalar.andi v973 v970
  let v975 : BitVec 32 := Scalar.addi v969 v968
  let v976 : BitVec 32 := Scalar.select v974 v975 v969
  let c14_i32_473 : BitVec 32 := 14#32
  let v977 : BitVec 32 := Scalar.minsi v976 c14_i32_473
  let c32_i32_475 : BitVec 32 := 32#32
  let v979 : BitVec 32 := Scalar.muli v977 c32_i32_475
  let c0_i32_1324 : BitVec 32 := 0#32
  ![v979.toNat, 0]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_464 : BitVec 32 := 4#32
  let v963 : BitVec 32 := Scalar.muli v752 c4_i32_464
  let c3_i32_465 : BitVec 32 := 3#32
  let v964 : BitVec 32 := Scalar.addi v963 c3_i32_465
  let c32_i32_474 : BitVec 32 := 32#32
  let v978 : BitVec 32 := Scalar.muli v964 c32_i32_474
  let c0_i32_1325 : BitVec 32 := 0#32
  ![v978.toNat, 0]
def k0_dev27 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_464 : BitVec 32 := 4#32
  let v963 : BitVec 32 := Scalar.muli v752 c4_i32_464
  let c3_i32_465 : BitVec 32 := 3#32
  let v964 : BitVec 32 := Scalar.addi v963 c3_i32_465
  let c1_i32_1322 : BitVec 32 := 1#32
  let v2067 : BitVec 32 := Scalar.muli v964 c1_i32_1322
  let v2068 : BitVec 32 := Scalar.addi c0_i32_1323 v2067
  v2068.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_531 : BitVec 32 := 4#32
  let v1144 : BitVec 32 := Scalar.muli v993 c4_i32_531
  let c0_i32_532 : BitVec 32 := 0#32
  let v1145 : BitVec 32 := Scalar.addi v1144 c0_i32_532
  let v1161 : BitVec 1 := Scalar.cmpi .ne v1145 v2
  let v1162 : BitVec 32 := Scalar.extui v1161
  let c0_i32_544 : BitVec 32 := 0#32
  let v1163 : BitVec 1 := Scalar.cmpi .ne v1162 c0_i32_544
  v1163

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_531 : BitVec 32 := 4#32
  let v1144 : BitVec 32 := Scalar.muli v993 c4_i32_531
  let c0_i32_532 : BitVec 32 := 0#32
  let v1145 : BitVec 32 := Scalar.addi v1144 c0_i32_532
  let v1146 : BitVec 32 := Scalar.subi v2 v1145
  let c1_i32_533 : BitVec 32 := 1#32
  let v1147 : BitVec 32 := Scalar.subi v1146 c1_i32_533
  let c16_i32_534 : BitVec 32 := 16#32
  let c0_i32_535 : BitVec 32 := 0#32
  let v1148 : BitVec 1 := Scalar.cmpi .eq c16_i32_534 c0_i32_535
  let c1_i32_536 : BitVec 32 := 1#32
  let v1149 : BitVec 32 := Scalar.select v1148 c1_i32_536 c16_i32_534
  let v1150 : BitVec 32 := Scalar.remsi v1147 v1149
  let c0_i32_538 : BitVec 32 := 0#32
  let v1152 : BitVec 1 := Scalar.cmpi .slt v1150 c0_i32_538
  let c0_i32_539 : BitVec 32 := 0#32
  let v1153 : BitVec 1 := Scalar.cmpi .slt v1149 c0_i32_539
  let v1154 : BitVec 1 := Scalar.xori v1152 v1153
  let c0_i32_537 : BitVec 32 := 0#32
  let v1151 : BitVec 1 := Scalar.cmpi .ne v1150 c0_i32_537
  let v1155 : BitVec 1 := Scalar.andi v1154 v1151
  let v1156 : BitVec 32 := Scalar.addi v1150 v1149
  let v1157 : BitVec 32 := Scalar.select v1155 v1156 v1150
  let c14_i32_540 : BitVec 32 := 14#32
  let v1158 : BitVec 32 := Scalar.minsi v1157 c14_i32_540
  ![v1158.toNat]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_531 : BitVec 32 := 4#32
  let v1144 : BitVec 32 := Scalar.muli v993 c4_i32_531
  let c0_i32_532 : BitVec 32 := 0#32
  let v1145 : BitVec 32 := Scalar.addi v1144 c0_i32_532
  let v1146 : BitVec 32 := Scalar.subi v2 v1145
  let c1_i32_533 : BitVec 32 := 1#32
  let v1147 : BitVec 32 := Scalar.subi v1146 c1_i32_533
  let c16_i32_534 : BitVec 32 := 16#32
  let c0_i32_535 : BitVec 32 := 0#32
  let v1148 : BitVec 1 := Scalar.cmpi .eq c16_i32_534 c0_i32_535
  let c1_i32_536 : BitVec 32 := 1#32
  let v1149 : BitVec 32 := Scalar.select v1148 c1_i32_536 c16_i32_534
  let v1150 : BitVec 32 := Scalar.remsi v1147 v1149
  let c0_i32_538 : BitVec 32 := 0#32
  let v1152 : BitVec 1 := Scalar.cmpi .slt v1150 c0_i32_538
  let c0_i32_539 : BitVec 32 := 0#32
  let v1153 : BitVec 1 := Scalar.cmpi .slt v1149 c0_i32_539
  let v1154 : BitVec 1 := Scalar.xori v1152 v1153
  let c0_i32_537 : BitVec 32 := 0#32
  let v1151 : BitVec 1 := Scalar.cmpi .ne v1150 c0_i32_537
  let v1155 : BitVec 1 := Scalar.andi v1154 v1151
  let v1156 : BitVec 32 := Scalar.addi v1150 v1149
  let v1157 : BitVec 32 := Scalar.select v1155 v1156 v1150
  let c14_i32_540 : BitVec 32 := 14#32
  let v1158 : BitVec 32 := Scalar.minsi v1157 c14_i32_540
  let c32_i32_542 : BitVec 32 := 32#32
  let v1160 : BitVec 32 := Scalar.muli v1158 c32_i32_542
  let c0_i32_1324 : BitVec 32 := 0#32
  ![v1160.toNat, 0]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_531 : BitVec 32 := 4#32
  let v1144 : BitVec 32 := Scalar.muli v993 c4_i32_531
  let c0_i32_532 : BitVec 32 := 0#32
  let v1145 : BitVec 32 := Scalar.addi v1144 c0_i32_532
  let c32_i32_541 : BitVec 32 := 32#32
  let v1159 : BitVec 32 := Scalar.muli v1145 c32_i32_541
  let c0_i32_1325 : BitVec 32 := 0#32
  ![v1159.toNat, 0]
def k0_dev28 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_531 : BitVec 32 := 4#32
  let v1144 : BitVec 32 := Scalar.muli v993 c4_i32_531
  let c0_i32_532 : BitVec 32 := 0#32
  let v1145 : BitVec 32 := Scalar.addi v1144 c0_i32_532
  let c1_i32_1322 : BitVec 32 := 1#32
  let v2067 : BitVec 32 := Scalar.muli v1145 c1_i32_1322
  let v2068 : BitVec 32 := Scalar.addi c0_i32_1323 v2067
  v2068.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_545 : BitVec 32 := 4#32
  let v1164 : BitVec 32 := Scalar.muli v993 c4_i32_545
  let c1_i32_546 : BitVec 32 := 1#32
  let v1165 : BitVec 32 := Scalar.addi v1164 c1_i32_546
  let v1181 : BitVec 1 := Scalar.cmpi .ne v1165 v2
  let v1182 : BitVec 32 := Scalar.extui v1181
  let c0_i32_558 : BitVec 32 := 0#32
  let v1183 : BitVec 1 := Scalar.cmpi .ne v1182 c0_i32_558
  v1183

def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_545 : BitVec 32 := 4#32
  let v1164 : BitVec 32 := Scalar.muli v993 c4_i32_545
  let c1_i32_546 : BitVec 32 := 1#32
  let v1165 : BitVec 32 := Scalar.addi v1164 c1_i32_546
  let v1166 : BitVec 32 := Scalar.subi v2 v1165
  let c1_i32_547 : BitVec 32 := 1#32
  let v1167 : BitVec 32 := Scalar.subi v1166 c1_i32_547
  let c16_i32_548 : BitVec 32 := 16#32
  let c0_i32_549 : BitVec 32 := 0#32
  let v1168 : BitVec 1 := Scalar.cmpi .eq c16_i32_548 c0_i32_549
  let c1_i32_550 : BitVec 32 := 1#32
  let v1169 : BitVec 32 := Scalar.select v1168 c1_i32_550 c16_i32_548
  let v1170 : BitVec 32 := Scalar.remsi v1167 v1169
  let c0_i32_552 : BitVec 32 := 0#32
  let v1172 : BitVec 1 := Scalar.cmpi .slt v1170 c0_i32_552
  let c0_i32_553 : BitVec 32 := 0#32
  let v1173 : BitVec 1 := Scalar.cmpi .slt v1169 c0_i32_553
  let v1174 : BitVec 1 := Scalar.xori v1172 v1173
  let c0_i32_551 : BitVec 32 := 0#32
  let v1171 : BitVec 1 := Scalar.cmpi .ne v1170 c0_i32_551
  let v1175 : BitVec 1 := Scalar.andi v1174 v1171
  let v1176 : BitVec 32 := Scalar.addi v1170 v1169
  let v1177 : BitVec 32 := Scalar.select v1175 v1176 v1170
  let c14_i32_554 : BitVec 32 := 14#32
  let v1178 : BitVec 32 := Scalar.minsi v1177 c14_i32_554
  ![v1178.toNat]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_545 : BitVec 32 := 4#32
  let v1164 : BitVec 32 := Scalar.muli v993 c4_i32_545
  let c1_i32_546 : BitVec 32 := 1#32
  let v1165 : BitVec 32 := Scalar.addi v1164 c1_i32_546
  let v1166 : BitVec 32 := Scalar.subi v2 v1165
  let c1_i32_547 : BitVec 32 := 1#32
  let v1167 : BitVec 32 := Scalar.subi v1166 c1_i32_547
  let c16_i32_548 : BitVec 32 := 16#32
  let c0_i32_549 : BitVec 32 := 0#32
  let v1168 : BitVec 1 := Scalar.cmpi .eq c16_i32_548 c0_i32_549
  let c1_i32_550 : BitVec 32 := 1#32
  let v1169 : BitVec 32 := Scalar.select v1168 c1_i32_550 c16_i32_548
  let v1170 : BitVec 32 := Scalar.remsi v1167 v1169
  let c0_i32_552 : BitVec 32 := 0#32
  let v1172 : BitVec 1 := Scalar.cmpi .slt v1170 c0_i32_552
  let c0_i32_553 : BitVec 32 := 0#32
  let v1173 : BitVec 1 := Scalar.cmpi .slt v1169 c0_i32_553
  let v1174 : BitVec 1 := Scalar.xori v1172 v1173
  let c0_i32_551 : BitVec 32 := 0#32
  let v1171 : BitVec 1 := Scalar.cmpi .ne v1170 c0_i32_551
  let v1175 : BitVec 1 := Scalar.andi v1174 v1171
  let v1176 : BitVec 32 := Scalar.addi v1170 v1169
  let v1177 : BitVec 32 := Scalar.select v1175 v1176 v1170
  let c14_i32_554 : BitVec 32 := 14#32
  let v1178 : BitVec 32 := Scalar.minsi v1177 c14_i32_554
  let c32_i32_556 : BitVec 32 := 32#32
  let v1180 : BitVec 32 := Scalar.muli v1178 c32_i32_556
  let c0_i32_1324 : BitVec 32 := 0#32
  ![v1180.toNat, 0]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_545 : BitVec 32 := 4#32
  let v1164 : BitVec 32 := Scalar.muli v993 c4_i32_545
  let c1_i32_546 : BitVec 32 := 1#32
  let v1165 : BitVec 32 := Scalar.addi v1164 c1_i32_546
  let c32_i32_555 : BitVec 32 := 32#32
  let v1179 : BitVec 32 := Scalar.muli v1165 c32_i32_555
  let c0_i32_1325 : BitVec 32 := 0#32
  ![v1179.toNat, 0]
def k0_dev29 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_545 : BitVec 32 := 4#32
  let v1164 : BitVec 32 := Scalar.muli v993 c4_i32_545
  let c1_i32_546 : BitVec 32 := 1#32
  let v1165 : BitVec 32 := Scalar.addi v1164 c1_i32_546
  let c1_i32_1322 : BitVec 32 := 1#32
  let v2067 : BitVec 32 := Scalar.muli v1165 c1_i32_1322
  let v2068 : BitVec 32 := Scalar.addi c0_i32_1323 v2067
  v2068.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_559 : BitVec 32 := 4#32
  let v1184 : BitVec 32 := Scalar.muli v993 c4_i32_559
  let c2_i32_560 : BitVec 32 := 2#32
  let v1185 : BitVec 32 := Scalar.addi v1184 c2_i32_560
  let v1201 : BitVec 1 := Scalar.cmpi .ne v1185 v2
  let v1202 : BitVec 32 := Scalar.extui v1201
  let c0_i32_572 : BitVec 32 := 0#32
  let v1203 : BitVec 1 := Scalar.cmpi .ne v1202 c0_i32_572
  v1203

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_559 : BitVec 32 := 4#32
  let v1184 : BitVec 32 := Scalar.muli v993 c4_i32_559
  let c2_i32_560 : BitVec 32 := 2#32
  let v1185 : BitVec 32 := Scalar.addi v1184 c2_i32_560
  let v1186 : BitVec 32 := Scalar.subi v2 v1185
  let c1_i32_561 : BitVec 32 := 1#32
  let v1187 : BitVec 32 := Scalar.subi v1186 c1_i32_561
  let c16_i32_562 : BitVec 32 := 16#32
  let c0_i32_563 : BitVec 32 := 0#32
  let v1188 : BitVec 1 := Scalar.cmpi .eq c16_i32_562 c0_i32_563
  let c1_i32_564 : BitVec 32 := 1#32
  let v1189 : BitVec 32 := Scalar.select v1188 c1_i32_564 c16_i32_562
  let v1190 : BitVec 32 := Scalar.remsi v1187 v1189
  let c0_i32_566 : BitVec 32 := 0#32
  let v1192 : BitVec 1 := Scalar.cmpi .slt v1190 c0_i32_566
  let c0_i32_567 : BitVec 32 := 0#32
  let v1193 : BitVec 1 := Scalar.cmpi .slt v1189 c0_i32_567
  let v1194 : BitVec 1 := Scalar.xori v1192 v1193
  let c0_i32_565 : BitVec 32 := 0#32
  let v1191 : BitVec 1 := Scalar.cmpi .ne v1190 c0_i32_565
  let v1195 : BitVec 1 := Scalar.andi v1194 v1191
  let v1196 : BitVec 32 := Scalar.addi v1190 v1189
  let v1197 : BitVec 32 := Scalar.select v1195 v1196 v1190
  let c14_i32_568 : BitVec 32 := 14#32
  let v1198 : BitVec 32 := Scalar.minsi v1197 c14_i32_568
  ![v1198.toNat]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_559 : BitVec 32 := 4#32
  let v1184 : BitVec 32 := Scalar.muli v993 c4_i32_559
  let c2_i32_560 : BitVec 32 := 2#32
  let v1185 : BitVec 32 := Scalar.addi v1184 c2_i32_560
  let v1186 : BitVec 32 := Scalar.subi v2 v1185
  let c1_i32_561 : BitVec 32 := 1#32
  let v1187 : BitVec 32 := Scalar.subi v1186 c1_i32_561
  let c16_i32_562 : BitVec 32 := 16#32
  let c0_i32_563 : BitVec 32 := 0#32
  let v1188 : BitVec 1 := Scalar.cmpi .eq c16_i32_562 c0_i32_563
  let c1_i32_564 : BitVec 32 := 1#32
  let v1189 : BitVec 32 := Scalar.select v1188 c1_i32_564 c16_i32_562
  let v1190 : BitVec 32 := Scalar.remsi v1187 v1189
  let c0_i32_566 : BitVec 32 := 0#32
  let v1192 : BitVec 1 := Scalar.cmpi .slt v1190 c0_i32_566
  let c0_i32_567 : BitVec 32 := 0#32
  let v1193 : BitVec 1 := Scalar.cmpi .slt v1189 c0_i32_567
  let v1194 : BitVec 1 := Scalar.xori v1192 v1193
  let c0_i32_565 : BitVec 32 := 0#32
  let v1191 : BitVec 1 := Scalar.cmpi .ne v1190 c0_i32_565
  let v1195 : BitVec 1 := Scalar.andi v1194 v1191
  let v1196 : BitVec 32 := Scalar.addi v1190 v1189
  let v1197 : BitVec 32 := Scalar.select v1195 v1196 v1190
  let c14_i32_568 : BitVec 32 := 14#32
  let v1198 : BitVec 32 := Scalar.minsi v1197 c14_i32_568
  let c32_i32_570 : BitVec 32 := 32#32
  let v1200 : BitVec 32 := Scalar.muli v1198 c32_i32_570
  let c0_i32_1324 : BitVec 32 := 0#32
  ![v1200.toNat, 0]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_559 : BitVec 32 := 4#32
  let v1184 : BitVec 32 := Scalar.muli v993 c4_i32_559
  let c2_i32_560 : BitVec 32 := 2#32
  let v1185 : BitVec 32 := Scalar.addi v1184 c2_i32_560
  let c32_i32_569 : BitVec 32 := 32#32
  let v1199 : BitVec 32 := Scalar.muli v1185 c32_i32_569
  let c0_i32_1325 : BitVec 32 := 0#32
  ![v1199.toNat, 0]
def k0_dev30 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_559 : BitVec 32 := 4#32
  let v1184 : BitVec 32 := Scalar.muli v993 c4_i32_559
  let c2_i32_560 : BitVec 32 := 2#32
  let v1185 : BitVec 32 := Scalar.addi v1184 c2_i32_560
  let c1_i32_1322 : BitVec 32 := 1#32
  let v2067 : BitVec 32 := Scalar.muli v1185 c1_i32_1322
  let v2068 : BitVec 32 := Scalar.addi c0_i32_1323 v2067
  v2068.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_573 : BitVec 32 := 4#32
  let v1204 : BitVec 32 := Scalar.muli v993 c4_i32_573
  let c3_i32_574 : BitVec 32 := 3#32
  let v1205 : BitVec 32 := Scalar.addi v1204 c3_i32_574
  let v1221 : BitVec 1 := Scalar.cmpi .ne v1205 v2
  let v1222 : BitVec 32 := Scalar.extui v1221
  let c0_i32_586 : BitVec 32 := 0#32
  let v1223 : BitVec 1 := Scalar.cmpi .ne v1222 c0_i32_586
  v1223

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_573 : BitVec 32 := 4#32
  let v1204 : BitVec 32 := Scalar.muli v993 c4_i32_573
  let c3_i32_574 : BitVec 32 := 3#32
  let v1205 : BitVec 32 := Scalar.addi v1204 c3_i32_574
  let v1206 : BitVec 32 := Scalar.subi v2 v1205
  let c1_i32_575 : BitVec 32 := 1#32
  let v1207 : BitVec 32 := Scalar.subi v1206 c1_i32_575
  let c16_i32_576 : BitVec 32 := 16#32
  let c0_i32_577 : BitVec 32 := 0#32
  let v1208 : BitVec 1 := Scalar.cmpi .eq c16_i32_576 c0_i32_577
  let c1_i32_578 : BitVec 32 := 1#32
  let v1209 : BitVec 32 := Scalar.select v1208 c1_i32_578 c16_i32_576
  let v1210 : BitVec 32 := Scalar.remsi v1207 v1209
  let c0_i32_580 : BitVec 32 := 0#32
  let v1212 : BitVec 1 := Scalar.cmpi .slt v1210 c0_i32_580
  let c0_i32_581 : BitVec 32 := 0#32
  let v1213 : BitVec 1 := Scalar.cmpi .slt v1209 c0_i32_581
  let v1214 : BitVec 1 := Scalar.xori v1212 v1213
  let c0_i32_579 : BitVec 32 := 0#32
  let v1211 : BitVec 1 := Scalar.cmpi .ne v1210 c0_i32_579
  let v1215 : BitVec 1 := Scalar.andi v1214 v1211
  let v1216 : BitVec 32 := Scalar.addi v1210 v1209
  let v1217 : BitVec 32 := Scalar.select v1215 v1216 v1210
  let c14_i32_582 : BitVec 32 := 14#32
  let v1218 : BitVec 32 := Scalar.minsi v1217 c14_i32_582
  ![v1218.toNat]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_573 : BitVec 32 := 4#32
  let v1204 : BitVec 32 := Scalar.muli v993 c4_i32_573
  let c3_i32_574 : BitVec 32 := 3#32
  let v1205 : BitVec 32 := Scalar.addi v1204 c3_i32_574
  let v1206 : BitVec 32 := Scalar.subi v2 v1205
  let c1_i32_575 : BitVec 32 := 1#32
  let v1207 : BitVec 32 := Scalar.subi v1206 c1_i32_575
  let c16_i32_576 : BitVec 32 := 16#32
  let c0_i32_577 : BitVec 32 := 0#32
  let v1208 : BitVec 1 := Scalar.cmpi .eq c16_i32_576 c0_i32_577
  let c1_i32_578 : BitVec 32 := 1#32
  let v1209 : BitVec 32 := Scalar.select v1208 c1_i32_578 c16_i32_576
  let v1210 : BitVec 32 := Scalar.remsi v1207 v1209
  let c0_i32_580 : BitVec 32 := 0#32
  let v1212 : BitVec 1 := Scalar.cmpi .slt v1210 c0_i32_580
  let c0_i32_581 : BitVec 32 := 0#32
  let v1213 : BitVec 1 := Scalar.cmpi .slt v1209 c0_i32_581
  let v1214 : BitVec 1 := Scalar.xori v1212 v1213
  let c0_i32_579 : BitVec 32 := 0#32
  let v1211 : BitVec 1 := Scalar.cmpi .ne v1210 c0_i32_579
  let v1215 : BitVec 1 := Scalar.andi v1214 v1211
  let v1216 : BitVec 32 := Scalar.addi v1210 v1209
  let v1217 : BitVec 32 := Scalar.select v1215 v1216 v1210
  let c14_i32_582 : BitVec 32 := 14#32
  let v1218 : BitVec 32 := Scalar.minsi v1217 c14_i32_582
  let c32_i32_584 : BitVec 32 := 32#32
  let v1220 : BitVec 32 := Scalar.muli v1218 c32_i32_584
  let c0_i32_1324 : BitVec 32 := 0#32
  ![v1220.toNat, 0]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_573 : BitVec 32 := 4#32
  let v1204 : BitVec 32 := Scalar.muli v993 c4_i32_573
  let c3_i32_574 : BitVec 32 := 3#32
  let v1205 : BitVec 32 := Scalar.addi v1204 c3_i32_574
  let c32_i32_583 : BitVec 32 := 32#32
  let v1219 : BitVec 32 := Scalar.muli v1205 c32_i32_583
  let c0_i32_1325 : BitVec 32 := 0#32
  ![v1219.toNat, 0]
def k0_dev31 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_573 : BitVec 32 := 4#32
  let v1204 : BitVec 32 := Scalar.muli v993 c4_i32_573
  let c3_i32_574 : BitVec 32 := 3#32
  let v1205 : BitVec 32 := Scalar.addi v1204 c3_i32_574
  let c1_i32_1322 : BitVec 32 := 1#32
  let v2067 : BitVec 32 := Scalar.muli v1205 c1_i32_1322
  let v2068 : BitVec 32 := Scalar.addi c0_i32_1323 v2067
  v2068.toNat
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_695 : BitVec 32 := 32#32
  let v1314 : BitVec 32 := Scalar.muli v2 c32_i32_695
  let v1315 : Index := Scalar.indexCast v1314
  let c0_696 : Index := 0#32
  ![v1315.toNat, 0]
def k0_dev32 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_704 : BitVec 32 := 1#32
  let v1330 : BitVec 32 := Scalar.addi v2 c1_i32_704
  let c16_i32_705 : BitVec 32 := 16#32
  let c0_i32_706 : BitVec 32 := 0#32
  let v1331 : BitVec 1 := Scalar.cmpi .eq c16_i32_705 c0_i32_706
  let c1_i32_707 : BitVec 32 := 1#32
  let v1332 : BitVec 32 := Scalar.select v1331 c1_i32_707 c16_i32_705
  let v1333 : BitVec 32 := Scalar.remsi v1330 v1332
  let c0_i32_709 : BitVec 32 := 0#32
  let v1335 : BitVec 1 := Scalar.cmpi .slt v1333 c0_i32_709
  let c0_i32_710 : BitVec 32 := 0#32
  let v1336 : BitVec 1 := Scalar.cmpi .slt v1332 c0_i32_710
  let v1337 : BitVec 1 := Scalar.xori v1335 v1336
  let c0_i32_708 : BitVec 32 := 0#32
  let v1334 : BitVec 1 := Scalar.cmpi .ne v1333 c0_i32_708
  let v1338 : BitVec 1 := Scalar.andi v1337 v1334
  let v1339 : BitVec 32 := Scalar.addi v1333 v1332
  let v1340 : BitVec 32 := Scalar.select v1338 v1339 v1333
  let c1_i32_714 : BitVec 32 := 1#32
  let v1341 : BitVec 32 := Scalar.muli v1340 c1_i32_714
  let v1342 : BitVec 32 := Scalar.addi c0_i32_715 v1341
  v1342.toNat
def k0_dev33 (d0 : Dev nD) : Nat :=
  let c0_i32_729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_718 : BitVec 32 := 2#32
  let v1349 : BitVec 32 := Scalar.addi v2 c2_i32_718
  let c16_i32_719 : BitVec 32 := 16#32
  let c0_i32_720 : BitVec 32 := 0#32
  let v1350 : BitVec 1 := Scalar.cmpi .eq c16_i32_719 c0_i32_720
  let c1_i32_721 : BitVec 32 := 1#32
  let v1351 : BitVec 32 := Scalar.select v1350 c1_i32_721 c16_i32_719
  let v1352 : BitVec 32 := Scalar.remsi v1349 v1351
  let c0_i32_723 : BitVec 32 := 0#32
  let v1354 : BitVec 1 := Scalar.cmpi .slt v1352 c0_i32_723
  let c0_i32_724 : BitVec 32 := 0#32
  let v1355 : BitVec 1 := Scalar.cmpi .slt v1351 c0_i32_724
  let v1356 : BitVec 1 := Scalar.xori v1354 v1355
  let c0_i32_722 : BitVec 32 := 0#32
  let v1353 : BitVec 1 := Scalar.cmpi .ne v1352 c0_i32_722
  let v1357 : BitVec 1 := Scalar.andi v1356 v1353
  let v1358 : BitVec 32 := Scalar.addi v1352 v1351
  let v1359 : BitVec 32 := Scalar.select v1357 v1358 v1352
  let c1_i32_728 : BitVec 32 := 1#32
  let v1360 : BitVec 32 := Scalar.muli v1359 c1_i32_728
  let v1361 : BitVec 32 := Scalar.addi c0_i32_729 v1360
  v1361.toNat
def k0_dev34 (d0 : Dev nD) : Nat :=
  let c0_i32_743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_732 : BitVec 32 := 3#32
  let v1368 : BitVec 32 := Scalar.addi v2 c3_i32_732
  let c16_i32_733 : BitVec 32 := 16#32
  let c0_i32_734 : BitVec 32 := 0#32
  let v1369 : BitVec 1 := Scalar.cmpi .eq c16_i32_733 c0_i32_734
  let c1_i32_735 : BitVec 32 := 1#32
  let v1370 : BitVec 32 := Scalar.select v1369 c1_i32_735 c16_i32_733
  let v1371 : BitVec 32 := Scalar.remsi v1368 v1370
  let c0_i32_737 : BitVec 32 := 0#32
  let v1373 : BitVec 1 := Scalar.cmpi .slt v1371 c0_i32_737
  let c0_i32_738 : BitVec 32 := 0#32
  let v1374 : BitVec 1 := Scalar.cmpi .slt v1370 c0_i32_738
  let v1375 : BitVec 1 := Scalar.xori v1373 v1374
  let c0_i32_736 : BitVec 32 := 0#32
  let v1372 : BitVec 1 := Scalar.cmpi .ne v1371 c0_i32_736
  let v1376 : BitVec 1 := Scalar.andi v1375 v1372
  let v1377 : BitVec 32 := Scalar.addi v1371 v1370
  let v1378 : BitVec 32 := Scalar.select v1376 v1377 v1371
  let c1_i32_742 : BitVec 32 := 1#32
  let v1379 : BitVec 32 := Scalar.muli v1378 c1_i32_742
  let v1380 : BitVec 32 := Scalar.addi c0_i32_743 v1379
  v1380.toNat
def k0_dev35 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_746 : BitVec 32 := 4#32
  let v1387 : BitVec 32 := Scalar.addi v2 c4_i32_746
  let c16_i32_747 : BitVec 32 := 16#32
  let c0_i32_748 : BitVec 32 := 0#32
  let v1388 : BitVec 1 := Scalar.cmpi .eq c16_i32_747 c0_i32_748
  let c1_i32_749 : BitVec 32 := 1#32
  let v1389 : BitVec 32 := Scalar.select v1388 c1_i32_749 c16_i32_747
  let v1390 : BitVec 32 := Scalar.remsi v1387 v1389
  let c0_i32_751 : BitVec 32 := 0#32
  let v1392 : BitVec 1 := Scalar.cmpi .slt v1390 c0_i32_751
  let c0_i32_752 : BitVec 32 := 0#32
  let v1393 : BitVec 1 := Scalar.cmpi .slt v1389 c0_i32_752
  let v1394 : BitVec 1 := Scalar.xori v1392 v1393
  let c0_i32_750 : BitVec 32 := 0#32
  let v1391 : BitVec 1 := Scalar.cmpi .ne v1390 c0_i32_750
  let v1395 : BitVec 1 := Scalar.andi v1394 v1391
  let v1396 : BitVec 32 := Scalar.addi v1390 v1389
  let v1397 : BitVec 32 := Scalar.select v1395 v1396 v1390
  let c1_i32_756 : BitVec 32 := 1#32
  let v1398 : BitVec 32 := Scalar.muli v1397 c1_i32_756
  let v1399 : BitVec 32 := Scalar.addi c0_i32_757 v1398
  v1399.toNat
def k0_dev36 (d0 : Dev nD) : Nat :=
  let c0_i32_771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_760 : BitVec 32 := 5#32
  let v1406 : BitVec 32 := Scalar.addi v2 c5_i32_760
  let c16_i32_761 : BitVec 32 := 16#32
  let c0_i32_762 : BitVec 32 := 0#32
  let v1407 : BitVec 1 := Scalar.cmpi .eq c16_i32_761 c0_i32_762
  let c1_i32_763 : BitVec 32 := 1#32
  let v1408 : BitVec 32 := Scalar.select v1407 c1_i32_763 c16_i32_761
  let v1409 : BitVec 32 := Scalar.remsi v1406 v1408
  let c0_i32_765 : BitVec 32 := 0#32
  let v1411 : BitVec 1 := Scalar.cmpi .slt v1409 c0_i32_765
  let c0_i32_766 : BitVec 32 := 0#32
  let v1412 : BitVec 1 := Scalar.cmpi .slt v1408 c0_i32_766
  let v1413 : BitVec 1 := Scalar.xori v1411 v1412
  let c0_i32_764 : BitVec 32 := 0#32
  let v1410 : BitVec 1 := Scalar.cmpi .ne v1409 c0_i32_764
  let v1414 : BitVec 1 := Scalar.andi v1413 v1410
  let v1415 : BitVec 32 := Scalar.addi v1409 v1408
  let v1416 : BitVec 32 := Scalar.select v1414 v1415 v1409
  let c1_i32_770 : BitVec 32 := 1#32
  let v1417 : BitVec 32 := Scalar.muli v1416 c1_i32_770
  let v1418 : BitVec 32 := Scalar.addi c0_i32_771 v1417
  v1418.toNat
def k0_dev37 (d0 : Dev nD) : Nat :=
  let c0_i32_785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_774 : BitVec 32 := 6#32
  let v1425 : BitVec 32 := Scalar.addi v2 c6_i32_774
  let c16_i32_775 : BitVec 32 := 16#32
  let c0_i32_776 : BitVec 32 := 0#32
  let v1426 : BitVec 1 := Scalar.cmpi .eq c16_i32_775 c0_i32_776
  let c1_i32_777 : BitVec 32 := 1#32
  let v1427 : BitVec 32 := Scalar.select v1426 c1_i32_777 c16_i32_775
  let v1428 : BitVec 32 := Scalar.remsi v1425 v1427
  let c0_i32_779 : BitVec 32 := 0#32
  let v1430 : BitVec 1 := Scalar.cmpi .slt v1428 c0_i32_779
  let c0_i32_780 : BitVec 32 := 0#32
  let v1431 : BitVec 1 := Scalar.cmpi .slt v1427 c0_i32_780
  let v1432 : BitVec 1 := Scalar.xori v1430 v1431
  let c0_i32_778 : BitVec 32 := 0#32
  let v1429 : BitVec 1 := Scalar.cmpi .ne v1428 c0_i32_778
  let v1433 : BitVec 1 := Scalar.andi v1432 v1429
  let v1434 : BitVec 32 := Scalar.addi v1428 v1427
  let v1435 : BitVec 32 := Scalar.select v1433 v1434 v1428
  let c1_i32_784 : BitVec 32 := 1#32
  let v1436 : BitVec 32 := Scalar.muli v1435 c1_i32_784
  let v1437 : BitVec 32 := Scalar.addi c0_i32_785 v1436
  v1437.toNat
def k0_dev38 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_788 : BitVec 32 := 7#32
  let v1444 : BitVec 32 := Scalar.addi v2 c7_i32_788
  let c16_i32_789 : BitVec 32 := 16#32
  let c0_i32_790 : BitVec 32 := 0#32
  let v1445 : BitVec 1 := Scalar.cmpi .eq c16_i32_789 c0_i32_790
  let c1_i32_791 : BitVec 32 := 1#32
  let v1446 : BitVec 32 := Scalar.select v1445 c1_i32_791 c16_i32_789
  let v1447 : BitVec 32 := Scalar.remsi v1444 v1446
  let c0_i32_793 : BitVec 32 := 0#32
  let v1449 : BitVec 1 := Scalar.cmpi .slt v1447 c0_i32_793
  let c0_i32_794 : BitVec 32 := 0#32
  let v1450 : BitVec 1 := Scalar.cmpi .slt v1446 c0_i32_794
  let v1451 : BitVec 1 := Scalar.xori v1449 v1450
  let c0_i32_792 : BitVec 32 := 0#32
  let v1448 : BitVec 1 := Scalar.cmpi .ne v1447 c0_i32_792
  let v1452 : BitVec 1 := Scalar.andi v1451 v1448
  let v1453 : BitVec 32 := Scalar.addi v1447 v1446
  let v1454 : BitVec 32 := Scalar.select v1452 v1453 v1447
  let c1_i32_798 : BitVec 32 := 1#32
  let v1455 : BitVec 32 := Scalar.muli v1454 c1_i32_798
  let v1456 : BitVec 32 := Scalar.addi c0_i32_799 v1455
  v1456.toNat
def k0_dev39 (d0 : Dev nD) : Nat :=
  let c0_i32_813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_802 : BitVec 32 := 8#32
  let v1463 : BitVec 32 := Scalar.addi v2 c8_i32_802
  let c16_i32_803 : BitVec 32 := 16#32
  let c0_i32_804 : BitVec 32 := 0#32
  let v1464 : BitVec 1 := Scalar.cmpi .eq c16_i32_803 c0_i32_804
  let c1_i32_805 : BitVec 32 := 1#32
  let v1465 : BitVec 32 := Scalar.select v1464 c1_i32_805 c16_i32_803
  let v1466 : BitVec 32 := Scalar.remsi v1463 v1465
  let c0_i32_807 : BitVec 32 := 0#32
  let v1468 : BitVec 1 := Scalar.cmpi .slt v1466 c0_i32_807
  let c0_i32_808 : BitVec 32 := 0#32
  let v1469 : BitVec 1 := Scalar.cmpi .slt v1465 c0_i32_808
  let v1470 : BitVec 1 := Scalar.xori v1468 v1469
  let c0_i32_806 : BitVec 32 := 0#32
  let v1467 : BitVec 1 := Scalar.cmpi .ne v1466 c0_i32_806
  let v1471 : BitVec 1 := Scalar.andi v1470 v1467
  let v1472 : BitVec 32 := Scalar.addi v1466 v1465
  let v1473 : BitVec 32 := Scalar.select v1471 v1472 v1466
  let c1_i32_812 : BitVec 32 := 1#32
  let v1474 : BitVec 32 := Scalar.muli v1473 c1_i32_812
  let v1475 : BitVec 32 := Scalar.addi c0_i32_813 v1474
  v1475.toNat
def k0_dev40 (d0 : Dev nD) : Nat :=
  let c0_i32_827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_816 : BitVec 32 := 9#32
  let v1482 : BitVec 32 := Scalar.addi v2 c9_i32_816
  let c16_i32_817 : BitVec 32 := 16#32
  let c0_i32_818 : BitVec 32 := 0#32
  let v1483 : BitVec 1 := Scalar.cmpi .eq c16_i32_817 c0_i32_818
  let c1_i32_819 : BitVec 32 := 1#32
  let v1484 : BitVec 32 := Scalar.select v1483 c1_i32_819 c16_i32_817
  let v1485 : BitVec 32 := Scalar.remsi v1482 v1484
  let c0_i32_821 : BitVec 32 := 0#32
  let v1487 : BitVec 1 := Scalar.cmpi .slt v1485 c0_i32_821
  let c0_i32_822 : BitVec 32 := 0#32
  let v1488 : BitVec 1 := Scalar.cmpi .slt v1484 c0_i32_822
  let v1489 : BitVec 1 := Scalar.xori v1487 v1488
  let c0_i32_820 : BitVec 32 := 0#32
  let v1486 : BitVec 1 := Scalar.cmpi .ne v1485 c0_i32_820
  let v1490 : BitVec 1 := Scalar.andi v1489 v1486
  let v1491 : BitVec 32 := Scalar.addi v1485 v1484
  let v1492 : BitVec 32 := Scalar.select v1490 v1491 v1485
  let c1_i32_826 : BitVec 32 := 1#32
  let v1493 : BitVec 32 := Scalar.muli v1492 c1_i32_826
  let v1494 : BitVec 32 := Scalar.addi c0_i32_827 v1493
  v1494.toNat
def k0_dev41 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_830 : BitVec 32 := 10#32
  let v1501 : BitVec 32 := Scalar.addi v2 c10_i32_830
  let c16_i32_831 : BitVec 32 := 16#32
  let c0_i32_832 : BitVec 32 := 0#32
  let v1502 : BitVec 1 := Scalar.cmpi .eq c16_i32_831 c0_i32_832
  let c1_i32_833 : BitVec 32 := 1#32
  let v1503 : BitVec 32 := Scalar.select v1502 c1_i32_833 c16_i32_831
  let v1504 : BitVec 32 := Scalar.remsi v1501 v1503
  let c0_i32_835 : BitVec 32 := 0#32
  let v1506 : BitVec 1 := Scalar.cmpi .slt v1504 c0_i32_835
  let c0_i32_836 : BitVec 32 := 0#32
  let v1507 : BitVec 1 := Scalar.cmpi .slt v1503 c0_i32_836
  let v1508 : BitVec 1 := Scalar.xori v1506 v1507
  let c0_i32_834 : BitVec 32 := 0#32
  let v1505 : BitVec 1 := Scalar.cmpi .ne v1504 c0_i32_834
  let v1509 : BitVec 1 := Scalar.andi v1508 v1505
  let v1510 : BitVec 32 := Scalar.addi v1504 v1503
  let v1511 : BitVec 32 := Scalar.select v1509 v1510 v1504
  let c1_i32_840 : BitVec 32 := 1#32
  let v1512 : BitVec 32 := Scalar.muli v1511 c1_i32_840
  let v1513 : BitVec 32 := Scalar.addi c0_i32_841 v1512
  v1513.toNat
def k0_dev42 (d0 : Dev nD) : Nat :=
  let c0_i32_855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_844 : BitVec 32 := 11#32
  let v1520 : BitVec 32 := Scalar.addi v2 c11_i32_844
  let c16_i32_845 : BitVec 32 := 16#32
  let c0_i32_846 : BitVec 32 := 0#32
  let v1521 : BitVec 1 := Scalar.cmpi .eq c16_i32_845 c0_i32_846
  let c1_i32_847 : BitVec 32 := 1#32
  let v1522 : BitVec 32 := Scalar.select v1521 c1_i32_847 c16_i32_845
  let v1523 : BitVec 32 := Scalar.remsi v1520 v1522
  let c0_i32_849 : BitVec 32 := 0#32
  let v1525 : BitVec 1 := Scalar.cmpi .slt v1523 c0_i32_849
  let c0_i32_850 : BitVec 32 := 0#32
  let v1526 : BitVec 1 := Scalar.cmpi .slt v1522 c0_i32_850
  let v1527 : BitVec 1 := Scalar.xori v1525 v1526
  let c0_i32_848 : BitVec 32 := 0#32
  let v1524 : BitVec 1 := Scalar.cmpi .ne v1523 c0_i32_848
  let v1528 : BitVec 1 := Scalar.andi v1527 v1524
  let v1529 : BitVec 32 := Scalar.addi v1523 v1522
  let v1530 : BitVec 32 := Scalar.select v1528 v1529 v1523
  let c1_i32_854 : BitVec 32 := 1#32
  let v1531 : BitVec 32 := Scalar.muli v1530 c1_i32_854
  let v1532 : BitVec 32 := Scalar.addi c0_i32_855 v1531
  v1532.toNat
def k0_dev43 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_858 : BitVec 32 := 12#32
  let v1539 : BitVec 32 := Scalar.addi v2 c12_i32_858
  let c16_i32_859 : BitVec 32 := 16#32
  let c0_i32_860 : BitVec 32 := 0#32
  let v1540 : BitVec 1 := Scalar.cmpi .eq c16_i32_859 c0_i32_860
  let c1_i32_861 : BitVec 32 := 1#32
  let v1541 : BitVec 32 := Scalar.select v1540 c1_i32_861 c16_i32_859
  let v1542 : BitVec 32 := Scalar.remsi v1539 v1541
  let c0_i32_863 : BitVec 32 := 0#32
  let v1544 : BitVec 1 := Scalar.cmpi .slt v1542 c0_i32_863
  let c0_i32_864 : BitVec 32 := 0#32
  let v1545 : BitVec 1 := Scalar.cmpi .slt v1541 c0_i32_864
  let v1546 : BitVec 1 := Scalar.xori v1544 v1545
  let c0_i32_862 : BitVec 32 := 0#32
  let v1543 : BitVec 1 := Scalar.cmpi .ne v1542 c0_i32_862
  let v1547 : BitVec 1 := Scalar.andi v1546 v1543
  let v1548 : BitVec 32 := Scalar.addi v1542 v1541
  let v1549 : BitVec 32 := Scalar.select v1547 v1548 v1542
  let c1_i32_868 : BitVec 32 := 1#32
  let v1550 : BitVec 32 := Scalar.muli v1549 c1_i32_868
  let v1551 : BitVec 32 := Scalar.addi c0_i32_869 v1550
  v1551.toNat
def k0_dev44 (d0 : Dev nD) : Nat :=
  let c0_i32_883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_872 : BitVec 32 := 13#32
  let v1558 : BitVec 32 := Scalar.addi v2 c13_i32_872
  let c16_i32_873 : BitVec 32 := 16#32
  let c0_i32_874 : BitVec 32 := 0#32
  let v1559 : BitVec 1 := Scalar.cmpi .eq c16_i32_873 c0_i32_874
  let c1_i32_875 : BitVec 32 := 1#32
  let v1560 : BitVec 32 := Scalar.select v1559 c1_i32_875 c16_i32_873
  let v1561 : BitVec 32 := Scalar.remsi v1558 v1560
  let c0_i32_877 : BitVec 32 := 0#32
  let v1563 : BitVec 1 := Scalar.cmpi .slt v1561 c0_i32_877
  let c0_i32_878 : BitVec 32 := 0#32
  let v1564 : BitVec 1 := Scalar.cmpi .slt v1560 c0_i32_878
  let v1565 : BitVec 1 := Scalar.xori v1563 v1564
  let c0_i32_876 : BitVec 32 := 0#32
  let v1562 : BitVec 1 := Scalar.cmpi .ne v1561 c0_i32_876
  let v1566 : BitVec 1 := Scalar.andi v1565 v1562
  let v1567 : BitVec 32 := Scalar.addi v1561 v1560
  let v1568 : BitVec 32 := Scalar.select v1566 v1567 v1561
  let c1_i32_882 : BitVec 32 := 1#32
  let v1569 : BitVec 32 := Scalar.muli v1568 c1_i32_882
  let v1570 : BitVec 32 := Scalar.addi c0_i32_883 v1569
  v1570.toNat
def k0_dev45 (d0 : Dev nD) : Nat :=
  let c0_i32_897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_886 : BitVec 32 := 14#32
  let v1577 : BitVec 32 := Scalar.addi v2 c14_i32_886
  let c16_i32_887 : BitVec 32 := 16#32
  let c0_i32_888 : BitVec 32 := 0#32
  let v1578 : BitVec 1 := Scalar.cmpi .eq c16_i32_887 c0_i32_888
  let c1_i32_889 : BitVec 32 := 1#32
  let v1579 : BitVec 32 := Scalar.select v1578 c1_i32_889 c16_i32_887
  let v1580 : BitVec 32 := Scalar.remsi v1577 v1579
  let c0_i32_891 : BitVec 32 := 0#32
  let v1582 : BitVec 1 := Scalar.cmpi .slt v1580 c0_i32_891
  let c0_i32_892 : BitVec 32 := 0#32
  let v1583 : BitVec 1 := Scalar.cmpi .slt v1579 c0_i32_892
  let v1584 : BitVec 1 := Scalar.xori v1582 v1583
  let c0_i32_890 : BitVec 32 := 0#32
  let v1581 : BitVec 1 := Scalar.cmpi .ne v1580 c0_i32_890
  let v1585 : BitVec 1 := Scalar.andi v1584 v1581
  let v1586 : BitVec 32 := Scalar.addi v1580 v1579
  let v1587 : BitVec 32 := Scalar.select v1585 v1586 v1580
  let c1_i32_896 : BitVec 32 := 1#32
  let v1588 : BitVec 32 := Scalar.muli v1587 c1_i32_896
  let v1589 : BitVec 32 := Scalar.addi c0_i32_897 v1588
  v1589.toNat
def k0_dev46 (d0 : Dev nD) : Nat :=
  let c0_i32_911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_900 : BitVec 32 := 15#32
  let v1596 : BitVec 32 := Scalar.addi v2 c15_i32_900
  let c16_i32_901 : BitVec 32 := 16#32
  let c0_i32_902 : BitVec 32 := 0#32
  let v1597 : BitVec 1 := Scalar.cmpi .eq c16_i32_901 c0_i32_902
  let c1_i32_903 : BitVec 32 := 1#32
  let v1598 : BitVec 32 := Scalar.select v1597 c1_i32_903 c16_i32_901
  let v1599 : BitVec 32 := Scalar.remsi v1596 v1598
  let c0_i32_905 : BitVec 32 := 0#32
  let v1601 : BitVec 1 := Scalar.cmpi .slt v1599 c0_i32_905
  let c0_i32_906 : BitVec 32 := 0#32
  let v1602 : BitVec 1 := Scalar.cmpi .slt v1598 c0_i32_906
  let v1603 : BitVec 1 := Scalar.xori v1601 v1602
  let c0_i32_904 : BitVec 32 := 0#32
  let v1600 : BitVec 1 := Scalar.cmpi .ne v1599 c0_i32_904
  let v1604 : BitVec 1 := Scalar.andi v1603 v1600
  let v1605 : BitVec 32 := Scalar.addi v1599 v1598
  let v1606 : BitVec 32 := Scalar.select v1604 v1605 v1599
  let c1_i32_910 : BitVec 32 := 1#32
  let v1607 : BitVec 32 := Scalar.muli v1606 c1_i32_910
  let v1608 : BitVec 32 := Scalar.addi c0_i32_911 v1607
  v1608.toNat
def k0_off51 (d0 : Dev nD) (c0_i32_921 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1621 : BitVec 32 := Scalar.addi v2 c0_i32_921
  let c1_i32_922 : BitVec 32 := 1#32
  let v1622 : BitVec 32 := Scalar.addi v1621 c1_i32_922
  let c16_i32_923 : BitVec 32 := 16#32
  let c0_i32_924 : BitVec 32 := 0#32
  let v1623 : BitVec 1 := Scalar.cmpi .eq c16_i32_923 c0_i32_924
  let c1_i32_925 : BitVec 32 := 1#32
  let v1624 : BitVec 32 := Scalar.select v1623 c1_i32_925 c16_i32_923
  let v1625 : BitVec 32 := Scalar.remsi v1622 v1624
  let c0_i32_927 : BitVec 32 := 0#32
  let v1627 : BitVec 1 := Scalar.cmpi .slt v1625 c0_i32_927
  let c0_i32_928 : BitVec 32 := 0#32
  let v1628 : BitVec 1 := Scalar.cmpi .slt v1624 c0_i32_928
  let v1629 : BitVec 1 := Scalar.xori v1627 v1628
  let c0_i32_926 : BitVec 32 := 0#32
  let v1626 : BitVec 1 := Scalar.cmpi .ne v1625 c0_i32_926
  let v1630 : BitVec 1 := Scalar.andi v1629 v1626
  let v1631 : BitVec 32 := Scalar.addi v1625 v1624
  let v1632 : BitVec 32 := Scalar.select v1630 v1631 v1625
  let c32_i32_932 : BitVec 32 := 32#32
  let v1636 : BitVec 32 := Scalar.muli v1632 c32_i32_932
  let v1637 : Index := Scalar.indexCast v1636
  let c0_933 : Index := 0#32
  ![v1637.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_205 : BitVec 32 := 4#32
  let v421 : BitVec 32 := Scalar.muli v270 c4_i32_205
  let c0_i32_206 : BitVec 32 := 0#32
  let v422 : BitVec 32 := Scalar.addi v421 c0_i32_206
  let v438 : BitVec 1 := Scalar.cmpi .ne v422 v2
  let v1975 : BitVec 32 := Scalar.extui v438
  let c0_i32_1201 : BitVec 32 := 0#32
  let v1976 : BitVec 1 := Scalar.cmpi .ne v1975 c0_i32_1201
  v1976

def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_205 : BitVec 32 := 4#32
  let v421 : BitVec 32 := Scalar.muli v270 c4_i32_205
  let c0_i32_206 : BitVec 32 := 0#32
  let v422 : BitVec 32 := Scalar.addi v421 c0_i32_206
  let c32_i32 : BitVec 32 := 32#32
  let v436 : BitVec 32 := Scalar.muli v422 c32_i32
  let c0_i32_1323 : BitVec 32 := 0#32
  ![v436.toNat, 0]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_205 : BitVec 32 := 4#32
  let v421 : BitVec 32 := Scalar.muli v270 c4_i32_205
  let c0_i32_206 : BitVec 32 := 0#32
  let v422 : BitVec 32 := Scalar.addi v421 c0_i32_206
  let v423 : BitVec 32 := Scalar.subi v2 v422
  let c1_i32_207 : BitVec 32 := 1#32
  let v424 : BitVec 32 := Scalar.subi v423 c1_i32_207
  let c16_i32_208 : BitVec 32 := 16#32
  let c0_i32_209 : BitVec 32 := 0#32
  let v425 : BitVec 1 := Scalar.cmpi .eq c16_i32_208 c0_i32_209
  let c1_i32_210 : BitVec 32 := 1#32
  let v426 : BitVec 32 := Scalar.select v425 c1_i32_210 c16_i32_208
  let v427 : BitVec 32 := Scalar.remsi v424 v426
  let c0_i32_212 : BitVec 32 := 0#32
  let v429 : BitVec 1 := Scalar.cmpi .slt v427 c0_i32_212
  let c0_i32_213 : BitVec 32 := 0#32
  let v430 : BitVec 1 := Scalar.cmpi .slt v426 c0_i32_213
  let v431 : BitVec 1 := Scalar.xori v429 v430
  let c0_i32_211 : BitVec 32 := 0#32
  let v428 : BitVec 1 := Scalar.cmpi .ne v427 c0_i32_211
  let v432 : BitVec 1 := Scalar.andi v431 v428
  let v433 : BitVec 32 := Scalar.addi v427 v426
  let v434 : BitVec 32 := Scalar.select v432 v433 v427
  let c14_i32_214 : BitVec 32 := 14#32
  let v435 : BitVec 32 := Scalar.minsi v434 c14_i32_214
  let c32_i32_215 : BitVec 32 := 32#32
  let v437 : BitVec 32 := Scalar.muli v435 c32_i32_215
  let c0_i32_1324 : BitVec 32 := 0#32
  ![v437.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_218 : BitVec 32 := 4#32
  let v441 : BitVec 32 := Scalar.muli v270 c4_i32_218
  let c1_i32_219 : BitVec 32 := 1#32
  let v442 : BitVec 32 := Scalar.addi v441 c1_i32_219
  let v458 : BitVec 1 := Scalar.cmpi .ne v442 v2
  let v1977 : BitVec 32 := Scalar.extui v458
  let c0_i32_1203 : BitVec 32 := 0#32
  let v1978 : BitVec 1 := Scalar.cmpi .ne v1977 c0_i32_1203
  v1978

def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_218 : BitVec 32 := 4#32
  let v441 : BitVec 32 := Scalar.muli v270 c4_i32_218
  let c1_i32_219 : BitVec 32 := 1#32
  let v442 : BitVec 32 := Scalar.addi v441 c1_i32_219
  let c32_i32_228 : BitVec 32 := 32#32
  let v456 : BitVec 32 := Scalar.muli v442 c32_i32_228
  let c0_i32_1323 : BitVec 32 := 0#32
  ![v456.toNat, 0]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_218 : BitVec 32 := 4#32
  let v441 : BitVec 32 := Scalar.muli v270 c4_i32_218
  let c1_i32_219 : BitVec 32 := 1#32
  let v442 : BitVec 32 := Scalar.addi v441 c1_i32_219
  let v443 : BitVec 32 := Scalar.subi v2 v442
  let c1_i32_220 : BitVec 32 := 1#32
  let v444 : BitVec 32 := Scalar.subi v443 c1_i32_220
  let c16_i32_221 : BitVec 32 := 16#32
  let c0_i32_222 : BitVec 32 := 0#32
  let v445 : BitVec 1 := Scalar.cmpi .eq c16_i32_221 c0_i32_222
  let c1_i32_223 : BitVec 32 := 1#32
  let v446 : BitVec 32 := Scalar.select v445 c1_i32_223 c16_i32_221
  let v447 : BitVec 32 := Scalar.remsi v444 v446
  let c0_i32_225 : BitVec 32 := 0#32
  let v449 : BitVec 1 := Scalar.cmpi .slt v447 c0_i32_225
  let c0_i32_226 : BitVec 32 := 0#32
  let v450 : BitVec 1 := Scalar.cmpi .slt v446 c0_i32_226
  let v451 : BitVec 1 := Scalar.xori v449 v450
  let c0_i32_224 : BitVec 32 := 0#32
  let v448 : BitVec 1 := Scalar.cmpi .ne v447 c0_i32_224
  let v452 : BitVec 1 := Scalar.andi v451 v448
  let v453 : BitVec 32 := Scalar.addi v447 v446
  let v454 : BitVec 32 := Scalar.select v452 v453 v447
  let c14_i32_227 : BitVec 32 := 14#32
  let v455 : BitVec 32 := Scalar.minsi v454 c14_i32_227
  let c32_i32_229 : BitVec 32 := 32#32
  let v457 : BitVec 32 := Scalar.muli v455 c32_i32_229
  let c0_i32_1324 : BitVec 32 := 0#32
  ![v457.toNat, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_232 : BitVec 32 := 4#32
  let v461 : BitVec 32 := Scalar.muli v270 c4_i32_232
  let c2_i32_233 : BitVec 32 := 2#32
  let v462 : BitVec 32 := Scalar.addi v461 c2_i32_233
  let v478 : BitVec 1 := Scalar.cmpi .ne v462 v2
  let v1979 : BitVec 32 := Scalar.extui v478
  let c0_i32_1205 : BitVec 32 := 0#32
  let v1980 : BitVec 1 := Scalar.cmpi .ne v1979 c0_i32_1205
  v1980

def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_232 : BitVec 32 := 4#32
  let v461 : BitVec 32 := Scalar.muli v270 c4_i32_232
  let c2_i32_233 : BitVec 32 := 2#32
  let v462 : BitVec 32 := Scalar.addi v461 c2_i32_233
  let c32_i32_242 : BitVec 32 := 32#32
  let v476 : BitVec 32 := Scalar.muli v462 c32_i32_242
  let c0_i32_1323 : BitVec 32 := 0#32
  ![v476.toNat, 0]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_232 : BitVec 32 := 4#32
  let v461 : BitVec 32 := Scalar.muli v270 c4_i32_232
  let c2_i32_233 : BitVec 32 := 2#32
  let v462 : BitVec 32 := Scalar.addi v461 c2_i32_233
  let v463 : BitVec 32 := Scalar.subi v2 v462
  let c1_i32_234 : BitVec 32 := 1#32
  let v464 : BitVec 32 := Scalar.subi v463 c1_i32_234
  let c16_i32_235 : BitVec 32 := 16#32
  let c0_i32_236 : BitVec 32 := 0#32
  let v465 : BitVec 1 := Scalar.cmpi .eq c16_i32_235 c0_i32_236
  let c1_i32_237 : BitVec 32 := 1#32
  let v466 : BitVec 32 := Scalar.select v465 c1_i32_237 c16_i32_235
  let v467 : BitVec 32 := Scalar.remsi v464 v466
  let c0_i32_239 : BitVec 32 := 0#32
  let v469 : BitVec 1 := Scalar.cmpi .slt v467 c0_i32_239
  let c0_i32_240 : BitVec 32 := 0#32
  let v470 : BitVec 1 := Scalar.cmpi .slt v466 c0_i32_240
  let v471 : BitVec 1 := Scalar.xori v469 v470
  let c0_i32_238 : BitVec 32 := 0#32
  let v468 : BitVec 1 := Scalar.cmpi .ne v467 c0_i32_238
  let v472 : BitVec 1 := Scalar.andi v471 v468
  let v473 : BitVec 32 := Scalar.addi v467 v466
  let v474 : BitVec 32 := Scalar.select v472 v473 v467
  let c14_i32_241 : BitVec 32 := 14#32
  let v475 : BitVec 32 := Scalar.minsi v474 c14_i32_241
  let c32_i32_243 : BitVec 32 := 32#32
  let v477 : BitVec 32 := Scalar.muli v475 c32_i32_243
  let c0_i32_1324 : BitVec 32 := 0#32
  ![v477.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_246 : BitVec 32 := 4#32
  let v481 : BitVec 32 := Scalar.muli v270 c4_i32_246
  let c3_i32_247 : BitVec 32 := 3#32
  let v482 : BitVec 32 := Scalar.addi v481 c3_i32_247
  let v498 : BitVec 1 := Scalar.cmpi .ne v482 v2
  let v1981 : BitVec 32 := Scalar.extui v498
  let c0_i32_1207 : BitVec 32 := 0#32
  let v1982 : BitVec 1 := Scalar.cmpi .ne v1981 c0_i32_1207
  v1982

def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_246 : BitVec 32 := 4#32
  let v481 : BitVec 32 := Scalar.muli v270 c4_i32_246
  let c3_i32_247 : BitVec 32 := 3#32
  let v482 : BitVec 32 := Scalar.addi v481 c3_i32_247
  let c32_i32_256 : BitVec 32 := 32#32
  let v496 : BitVec 32 := Scalar.muli v482 c32_i32_256
  let c0_i32_1323 : BitVec 32 := 0#32
  ![v496.toNat, 0]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_153 : BitVec 32 := 0#32
  let v260 : BitVec 32 := Scalar.addi v19 c0_i32_153
  let c4_i32_154 : BitVec 32 := 4#32
  let c0_i32_155 : BitVec 32 := 0#32
  let v261 : BitVec 1 := Scalar.cmpi .eq c4_i32_154 c0_i32_155
  let c1_i32_156 : BitVec 32 := 1#32
  let v262 : BitVec 32 := Scalar.select v261 c1_i32_156 c4_i32_154
  let v263 : BitVec 32 := Scalar.remsi v260 v262
  let c0_i32_158 : BitVec 32 := 0#32
  let v265 : BitVec 1 := Scalar.cmpi .slt v263 c0_i32_158
  let c0_i32_159 : BitVec 32 := 0#32
  let v266 : BitVec 1 := Scalar.cmpi .slt v262 c0_i32_159
  let v267 : BitVec 1 := Scalar.xori v265 v266
  let c0_i32_157 : BitVec 32 := 0#32
  let v264 : BitVec 1 := Scalar.cmpi .ne v263 c0_i32_157
  let v268 : BitVec 1 := Scalar.andi v267 v264
  let v269 : BitVec 32 := Scalar.addi v263 v262
  let v270 : BitVec 32 := Scalar.select v268 v269 v263
  let c4_i32_246 : BitVec 32 := 4#32
  let v481 : BitVec 32 := Scalar.muli v270 c4_i32_246
  let c3_i32_247 : BitVec 32 := 3#32
  let v482 : BitVec 32 := Scalar.addi v481 c3_i32_247
  let v483 : BitVec 32 := Scalar.subi v2 v482
  let c1_i32_248 : BitVec 32 := 1#32
  let v484 : BitVec 32 := Scalar.subi v483 c1_i32_248
  let c16_i32_249 : BitVec 32 := 16#32
  let c0_i32_250 : BitVec 32 := 0#32
  let v485 : BitVec 1 := Scalar.cmpi .eq c16_i32_249 c0_i32_250
  let c1_i32_251 : BitVec 32 := 1#32
  let v486 : BitVec 32 := Scalar.select v485 c1_i32_251 c16_i32_249
  let v487 : BitVec 32 := Scalar.remsi v484 v486
  let c0_i32_253 : BitVec 32 := 0#32
  let v489 : BitVec 1 := Scalar.cmpi .slt v487 c0_i32_253
  let c0_i32_254 : BitVec 32 := 0#32
  let v490 : BitVec 1 := Scalar.cmpi .slt v486 c0_i32_254
  let v491 : BitVec 1 := Scalar.xori v489 v490
  let c0_i32_252 : BitVec 32 := 0#32
  let v488 : BitVec 1 := Scalar.cmpi .ne v487 c0_i32_252
  let v492 : BitVec 1 := Scalar.andi v491 v488
  let v493 : BitVec 32 := Scalar.addi v487 v486
  let v494 : BitVec 32 := Scalar.select v492 v493 v487
  let c14_i32_255 : BitVec 32 := 14#32
  let v495 : BitVec 32 := Scalar.minsi v494 c14_i32_255
  let c32_i32_257 : BitVec 32 := 32#32
  let v497 : BitVec 32 := Scalar.muli v495 c32_i32_257
  let c0_i32_1324 : BitVec 32 := 0#32
  ![v497.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_313 : BitVec 32 := 4#32
  let v662 : BitVec 32 := Scalar.muli v511 c4_i32_313
  let c0_i32_314 : BitVec 32 := 0#32
  let v663 : BitVec 32 := Scalar.addi v662 c0_i32_314
  let v679 : BitVec 1 := Scalar.cmpi .ne v663 v2
  let v1983 : BitVec 32 := Scalar.extui v679
  let c0_i32_1209 : BitVec 32 := 0#32
  let v1984 : BitVec 1 := Scalar.cmpi .ne v1983 c0_i32_1209
  v1984

def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_313 : BitVec 32 := 4#32
  let v662 : BitVec 32 := Scalar.muli v511 c4_i32_313
  let c0_i32_314 : BitVec 32 := 0#32
  let v663 : BitVec 32 := Scalar.addi v662 c0_i32_314
  let c32_i32_323 : BitVec 32 := 32#32
  let v677 : BitVec 32 := Scalar.muli v663 c32_i32_323
  let c0_i32_1323 : BitVec 32 := 0#32
  ![v677.toNat, 0]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_313 : BitVec 32 := 4#32
  let v662 : BitVec 32 := Scalar.muli v511 c4_i32_313
  let c0_i32_314 : BitVec 32 := 0#32
  let v663 : BitVec 32 := Scalar.addi v662 c0_i32_314
  let v664 : BitVec 32 := Scalar.subi v2 v663
  let c1_i32_315 : BitVec 32 := 1#32
  let v665 : BitVec 32 := Scalar.subi v664 c1_i32_315
  let c16_i32_316 : BitVec 32 := 16#32
  let c0_i32_317 : BitVec 32 := 0#32
  let v666 : BitVec 1 := Scalar.cmpi .eq c16_i32_316 c0_i32_317
  let c1_i32_318 : BitVec 32 := 1#32
  let v667 : BitVec 32 := Scalar.select v666 c1_i32_318 c16_i32_316
  let v668 : BitVec 32 := Scalar.remsi v665 v667
  let c0_i32_320 : BitVec 32 := 0#32
  let v670 : BitVec 1 := Scalar.cmpi .slt v668 c0_i32_320
  let c0_i32_321 : BitVec 32 := 0#32
  let v671 : BitVec 1 := Scalar.cmpi .slt v667 c0_i32_321
  let v672 : BitVec 1 := Scalar.xori v670 v671
  let c0_i32_319 : BitVec 32 := 0#32
  let v669 : BitVec 1 := Scalar.cmpi .ne v668 c0_i32_319
  let v673 : BitVec 1 := Scalar.andi v672 v669
  let v674 : BitVec 32 := Scalar.addi v668 v667
  let v675 : BitVec 32 := Scalar.select v673 v674 v668
  let c14_i32_322 : BitVec 32 := 14#32
  let v676 : BitVec 32 := Scalar.minsi v675 c14_i32_322
  let c32_i32_324 : BitVec 32 := 32#32
  let v678 : BitVec 32 := Scalar.muli v676 c32_i32_324
  let c0_i32_1324 : BitVec 32 := 0#32
  ![v678.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_327 : BitVec 32 := 4#32
  let v682 : BitVec 32 := Scalar.muli v511 c4_i32_327
  let c1_i32_328 : BitVec 32 := 1#32
  let v683 : BitVec 32 := Scalar.addi v682 c1_i32_328
  let v699 : BitVec 1 := Scalar.cmpi .ne v683 v2
  let v1985 : BitVec 32 := Scalar.extui v699
  let c0_i32_1211 : BitVec 32 := 0#32
  let v1986 : BitVec 1 := Scalar.cmpi .ne v1985 c0_i32_1211
  v1986

def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_327 : BitVec 32 := 4#32
  let v682 : BitVec 32 := Scalar.muli v511 c4_i32_327
  let c1_i32_328 : BitVec 32 := 1#32
  let v683 : BitVec 32 := Scalar.addi v682 c1_i32_328
  let c32_i32_337 : BitVec 32 := 32#32
  let v697 : BitVec 32 := Scalar.muli v683 c32_i32_337
  let c0_i32_1323 : BitVec 32 := 0#32
  ![v697.toNat, 0]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_327 : BitVec 32 := 4#32
  let v682 : BitVec 32 := Scalar.muli v511 c4_i32_327
  let c1_i32_328 : BitVec 32 := 1#32
  let v683 : BitVec 32 := Scalar.addi v682 c1_i32_328
  let v684 : BitVec 32 := Scalar.subi v2 v683
  let c1_i32_329 : BitVec 32 := 1#32
  let v685 : BitVec 32 := Scalar.subi v684 c1_i32_329
  let c16_i32_330 : BitVec 32 := 16#32
  let c0_i32_331 : BitVec 32 := 0#32
  let v686 : BitVec 1 := Scalar.cmpi .eq c16_i32_330 c0_i32_331
  let c1_i32_332 : BitVec 32 := 1#32
  let v687 : BitVec 32 := Scalar.select v686 c1_i32_332 c16_i32_330
  let v688 : BitVec 32 := Scalar.remsi v685 v687
  let c0_i32_334 : BitVec 32 := 0#32
  let v690 : BitVec 1 := Scalar.cmpi .slt v688 c0_i32_334
  let c0_i32_335 : BitVec 32 := 0#32
  let v691 : BitVec 1 := Scalar.cmpi .slt v687 c0_i32_335
  let v692 : BitVec 1 := Scalar.xori v690 v691
  let c0_i32_333 : BitVec 32 := 0#32
  let v689 : BitVec 1 := Scalar.cmpi .ne v688 c0_i32_333
  let v693 : BitVec 1 := Scalar.andi v692 v689
  let v694 : BitVec 32 := Scalar.addi v688 v687
  let v695 : BitVec 32 := Scalar.select v693 v694 v688
  let c14_i32_336 : BitVec 32 := 14#32
  let v696 : BitVec 32 := Scalar.minsi v695 c14_i32_336
  let c32_i32_338 : BitVec 32 := 32#32
  let v698 : BitVec 32 := Scalar.muli v696 c32_i32_338
  let c0_i32_1324 : BitVec 32 := 0#32
  ![v698.toNat, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_341 : BitVec 32 := 4#32
  let v702 : BitVec 32 := Scalar.muli v511 c4_i32_341
  let c2_i32_342 : BitVec 32 := 2#32
  let v703 : BitVec 32 := Scalar.addi v702 c2_i32_342
  let v719 : BitVec 1 := Scalar.cmpi .ne v703 v2
  let v1987 : BitVec 32 := Scalar.extui v719
  let c0_i32_1213 : BitVec 32 := 0#32
  let v1988 : BitVec 1 := Scalar.cmpi .ne v1987 c0_i32_1213
  v1988

def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_341 : BitVec 32 := 4#32
  let v702 : BitVec 32 := Scalar.muli v511 c4_i32_341
  let c2_i32_342 : BitVec 32 := 2#32
  let v703 : BitVec 32 := Scalar.addi v702 c2_i32_342
  let c32_i32_351 : BitVec 32 := 32#32
  let v717 : BitVec 32 := Scalar.muli v703 c32_i32_351
  let c0_i32_1323 : BitVec 32 := 0#32
  ![v717.toNat, 0]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_341 : BitVec 32 := 4#32
  let v702 : BitVec 32 := Scalar.muli v511 c4_i32_341
  let c2_i32_342 : BitVec 32 := 2#32
  let v703 : BitVec 32 := Scalar.addi v702 c2_i32_342
  let v704 : BitVec 32 := Scalar.subi v2 v703
  let c1_i32_343 : BitVec 32 := 1#32
  let v705 : BitVec 32 := Scalar.subi v704 c1_i32_343
  let c16_i32_344 : BitVec 32 := 16#32
  let c0_i32_345 : BitVec 32 := 0#32
  let v706 : BitVec 1 := Scalar.cmpi .eq c16_i32_344 c0_i32_345
  let c1_i32_346 : BitVec 32 := 1#32
  let v707 : BitVec 32 := Scalar.select v706 c1_i32_346 c16_i32_344
  let v708 : BitVec 32 := Scalar.remsi v705 v707
  let c0_i32_348 : BitVec 32 := 0#32
  let v710 : BitVec 1 := Scalar.cmpi .slt v708 c0_i32_348
  let c0_i32_349 : BitVec 32 := 0#32
  let v711 : BitVec 1 := Scalar.cmpi .slt v707 c0_i32_349
  let v712 : BitVec 1 := Scalar.xori v710 v711
  let c0_i32_347 : BitVec 32 := 0#32
  let v709 : BitVec 1 := Scalar.cmpi .ne v708 c0_i32_347
  let v713 : BitVec 1 := Scalar.andi v712 v709
  let v714 : BitVec 32 := Scalar.addi v708 v707
  let v715 : BitVec 32 := Scalar.select v713 v714 v708
  let c14_i32_350 : BitVec 32 := 14#32
  let v716 : BitVec 32 := Scalar.minsi v715 c14_i32_350
  let c32_i32_352 : BitVec 32 := 32#32
  let v718 : BitVec 32 := Scalar.muli v716 c32_i32_352
  let c0_i32_1324 : BitVec 32 := 0#32
  ![v718.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_355 : BitVec 32 := 4#32
  let v722 : BitVec 32 := Scalar.muli v511 c4_i32_355
  let c3_i32_356 : BitVec 32 := 3#32
  let v723 : BitVec 32 := Scalar.addi v722 c3_i32_356
  let v739 : BitVec 1 := Scalar.cmpi .ne v723 v2
  let v1989 : BitVec 32 := Scalar.extui v739
  let c0_i32_1215 : BitVec 32 := 0#32
  let v1990 : BitVec 1 := Scalar.cmpi .ne v1989 c0_i32_1215
  v1990

def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_355 : BitVec 32 := 4#32
  let v722 : BitVec 32 := Scalar.muli v511 c4_i32_355
  let c3_i32_356 : BitVec 32 := 3#32
  let v723 : BitVec 32 := Scalar.addi v722 c3_i32_356
  let c32_i32_365 : BitVec 32 := 32#32
  let v737 : BitVec 32 := Scalar.muli v723 c32_i32_365
  let c0_i32_1323 : BitVec 32 := 0#32
  ![v737.toNat, 0]
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_260 : BitVec 32 := 1#32
  let v501 : BitVec 32 := Scalar.addi v19 c1_i32_260
  let c4_i32_261 : BitVec 32 := 4#32
  let c0_i32_262 : BitVec 32 := 0#32
  let v502 : BitVec 1 := Scalar.cmpi .eq c4_i32_261 c0_i32_262
  let c1_i32_263 : BitVec 32 := 1#32
  let v503 : BitVec 32 := Scalar.select v502 c1_i32_263 c4_i32_261
  let v504 : BitVec 32 := Scalar.remsi v501 v503
  let c0_i32_265 : BitVec 32 := 0#32
  let v506 : BitVec 1 := Scalar.cmpi .slt v504 c0_i32_265
  let c0_i32_266 : BitVec 32 := 0#32
  let v507 : BitVec 1 := Scalar.cmpi .slt v503 c0_i32_266
  let v508 : BitVec 1 := Scalar.xori v506 v507
  let c0_i32_264 : BitVec 32 := 0#32
  let v505 : BitVec 1 := Scalar.cmpi .ne v504 c0_i32_264
  let v509 : BitVec 1 := Scalar.andi v508 v505
  let v510 : BitVec 32 := Scalar.addi v504 v503
  let v511 : BitVec 32 := Scalar.select v509 v510 v504
  let c4_i32_355 : BitVec 32 := 4#32
  let v722 : BitVec 32 := Scalar.muli v511 c4_i32_355
  let c3_i32_356 : BitVec 32 := 3#32
  let v723 : BitVec 32 := Scalar.addi v722 c3_i32_356
  let v724 : BitVec 32 := Scalar.subi v2 v723
  let c1_i32_357 : BitVec 32 := 1#32
  let v725 : BitVec 32 := Scalar.subi v724 c1_i32_357
  let c16_i32_358 : BitVec 32 := 16#32
  let c0_i32_359 : BitVec 32 := 0#32
  let v726 : BitVec 1 := Scalar.cmpi .eq c16_i32_358 c0_i32_359
  let c1_i32_360 : BitVec 32 := 1#32
  let v727 : BitVec 32 := Scalar.select v726 c1_i32_360 c16_i32_358
  let v728 : BitVec 32 := Scalar.remsi v725 v727
  let c0_i32_362 : BitVec 32 := 0#32
  let v730 : BitVec 1 := Scalar.cmpi .slt v728 c0_i32_362
  let c0_i32_363 : BitVec 32 := 0#32
  let v731 : BitVec 1 := Scalar.cmpi .slt v727 c0_i32_363
  let v732 : BitVec 1 := Scalar.xori v730 v731
  let c0_i32_361 : BitVec 32 := 0#32
  let v729 : BitVec 1 := Scalar.cmpi .ne v728 c0_i32_361
  let v733 : BitVec 1 := Scalar.andi v732 v729
  let v734 : BitVec 32 := Scalar.addi v728 v727
  let v735 : BitVec 32 := Scalar.select v733 v734 v728
  let c14_i32_364 : BitVec 32 := 14#32
  let v736 : BitVec 32 := Scalar.minsi v735 c14_i32_364
  let c32_i32_366 : BitVec 32 := 32#32
  let v738 : BitVec 32 := Scalar.muli v736 c32_i32_366
  let c0_i32_1324 : BitVec 32 := 0#32
  ![v738.toNat, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_422 : BitVec 32 := 4#32
  let v903 : BitVec 32 := Scalar.muli v752 c4_i32_422
  let c0_i32_423 : BitVec 32 := 0#32
  let v904 : BitVec 32 := Scalar.addi v903 c0_i32_423
  let v920 : BitVec 1 := Scalar.cmpi .ne v904 v2
  let v1991 : BitVec 32 := Scalar.extui v920
  let c0_i32_1217 : BitVec 32 := 0#32
  let v1992 : BitVec 1 := Scalar.cmpi .ne v1991 c0_i32_1217
  v1992

def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_422 : BitVec 32 := 4#32
  let v903 : BitVec 32 := Scalar.muli v752 c4_i32_422
  let c0_i32_423 : BitVec 32 := 0#32
  let v904 : BitVec 32 := Scalar.addi v903 c0_i32_423
  let c32_i32_432 : BitVec 32 := 32#32
  let v918 : BitVec 32 := Scalar.muli v904 c32_i32_432
  let c0_i32_1323 : BitVec 32 := 0#32
  ![v918.toNat, 0]
def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_422 : BitVec 32 := 4#32
  let v903 : BitVec 32 := Scalar.muli v752 c4_i32_422
  let c0_i32_423 : BitVec 32 := 0#32
  let v904 : BitVec 32 := Scalar.addi v903 c0_i32_423
  let v905 : BitVec 32 := Scalar.subi v2 v904
  let c1_i32_424 : BitVec 32 := 1#32
  let v906 : BitVec 32 := Scalar.subi v905 c1_i32_424
  let c16_i32_425 : BitVec 32 := 16#32
  let c0_i32_426 : BitVec 32 := 0#32
  let v907 : BitVec 1 := Scalar.cmpi .eq c16_i32_425 c0_i32_426
  let c1_i32_427 : BitVec 32 := 1#32
  let v908 : BitVec 32 := Scalar.select v907 c1_i32_427 c16_i32_425
  let v909 : BitVec 32 := Scalar.remsi v906 v908
  let c0_i32_429 : BitVec 32 := 0#32
  let v911 : BitVec 1 := Scalar.cmpi .slt v909 c0_i32_429
  let c0_i32_430 : BitVec 32 := 0#32
  let v912 : BitVec 1 := Scalar.cmpi .slt v908 c0_i32_430
  let v913 : BitVec 1 := Scalar.xori v911 v912
  let c0_i32_428 : BitVec 32 := 0#32
  let v910 : BitVec 1 := Scalar.cmpi .ne v909 c0_i32_428
  let v914 : BitVec 1 := Scalar.andi v913 v910
  let v915 : BitVec 32 := Scalar.addi v909 v908
  let v916 : BitVec 32 := Scalar.select v914 v915 v909
  let c14_i32_431 : BitVec 32 := 14#32
  let v917 : BitVec 32 := Scalar.minsi v916 c14_i32_431
  let c32_i32_433 : BitVec 32 := 32#32
  let v919 : BitVec 32 := Scalar.muli v917 c32_i32_433
  let c0_i32_1324 : BitVec 32 := 0#32
  ![v919.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_436 : BitVec 32 := 4#32
  let v923 : BitVec 32 := Scalar.muli v752 c4_i32_436
  let c1_i32_437 : BitVec 32 := 1#32
  let v924 : BitVec 32 := Scalar.addi v923 c1_i32_437
  let v940 : BitVec 1 := Scalar.cmpi .ne v924 v2
  let v1993 : BitVec 32 := Scalar.extui v940
  let c0_i32_1219 : BitVec 32 := 0#32
  let v1994 : BitVec 1 := Scalar.cmpi .ne v1993 c0_i32_1219
  v1994

def k0_off70 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_436 : BitVec 32 := 4#32
  let v923 : BitVec 32 := Scalar.muli v752 c4_i32_436
  let c1_i32_437 : BitVec 32 := 1#32
  let v924 : BitVec 32 := Scalar.addi v923 c1_i32_437
  let c32_i32_446 : BitVec 32 := 32#32
  let v938 : BitVec 32 := Scalar.muli v924 c32_i32_446
  let c0_i32_1323 : BitVec 32 := 0#32
  ![v938.toNat, 0]
def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_436 : BitVec 32 := 4#32
  let v923 : BitVec 32 := Scalar.muli v752 c4_i32_436
  let c1_i32_437 : BitVec 32 := 1#32
  let v924 : BitVec 32 := Scalar.addi v923 c1_i32_437
  let v925 : BitVec 32 := Scalar.subi v2 v924
  let c1_i32_438 : BitVec 32 := 1#32
  let v926 : BitVec 32 := Scalar.subi v925 c1_i32_438
  let c16_i32_439 : BitVec 32 := 16#32
  let c0_i32_440 : BitVec 32 := 0#32
  let v927 : BitVec 1 := Scalar.cmpi .eq c16_i32_439 c0_i32_440
  let c1_i32_441 : BitVec 32 := 1#32
  let v928 : BitVec 32 := Scalar.select v927 c1_i32_441 c16_i32_439
  let v929 : BitVec 32 := Scalar.remsi v926 v928
  let c0_i32_443 : BitVec 32 := 0#32
  let v931 : BitVec 1 := Scalar.cmpi .slt v929 c0_i32_443
  let c0_i32_444 : BitVec 32 := 0#32
  let v932 : BitVec 1 := Scalar.cmpi .slt v928 c0_i32_444
  let v933 : BitVec 1 := Scalar.xori v931 v932
  let c0_i32_442 : BitVec 32 := 0#32
  let v930 : BitVec 1 := Scalar.cmpi .ne v929 c0_i32_442
  let v934 : BitVec 1 := Scalar.andi v933 v930
  let v935 : BitVec 32 := Scalar.addi v929 v928
  let v936 : BitVec 32 := Scalar.select v934 v935 v929
  let c14_i32_445 : BitVec 32 := 14#32
  let v937 : BitVec 32 := Scalar.minsi v936 c14_i32_445
  let c32_i32_447 : BitVec 32 := 32#32
  let v939 : BitVec 32 := Scalar.muli v937 c32_i32_447
  let c0_i32_1324 : BitVec 32 := 0#32
  ![v939.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_450 : BitVec 32 := 4#32
  let v943 : BitVec 32 := Scalar.muli v752 c4_i32_450
  let c2_i32_451 : BitVec 32 := 2#32
  let v944 : BitVec 32 := Scalar.addi v943 c2_i32_451
  let v960 : BitVec 1 := Scalar.cmpi .ne v944 v2
  let v1995 : BitVec 32 := Scalar.extui v960
  let c0_i32_1221 : BitVec 32 := 0#32
  let v1996 : BitVec 1 := Scalar.cmpi .ne v1995 c0_i32_1221
  v1996

def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_450 : BitVec 32 := 4#32
  let v943 : BitVec 32 := Scalar.muli v752 c4_i32_450
  let c2_i32_451 : BitVec 32 := 2#32
  let v944 : BitVec 32 := Scalar.addi v943 c2_i32_451
  let c32_i32_460 : BitVec 32 := 32#32
  let v958 : BitVec 32 := Scalar.muli v944 c32_i32_460
  let c0_i32_1323 : BitVec 32 := 0#32
  ![v958.toNat, 0]
def k0_off73 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_450 : BitVec 32 := 4#32
  let v943 : BitVec 32 := Scalar.muli v752 c4_i32_450
  let c2_i32_451 : BitVec 32 := 2#32
  let v944 : BitVec 32 := Scalar.addi v943 c2_i32_451
  let v945 : BitVec 32 := Scalar.subi v2 v944
  let c1_i32_452 : BitVec 32 := 1#32
  let v946 : BitVec 32 := Scalar.subi v945 c1_i32_452
  let c16_i32_453 : BitVec 32 := 16#32
  let c0_i32_454 : BitVec 32 := 0#32
  let v947 : BitVec 1 := Scalar.cmpi .eq c16_i32_453 c0_i32_454
  let c1_i32_455 : BitVec 32 := 1#32
  let v948 : BitVec 32 := Scalar.select v947 c1_i32_455 c16_i32_453
  let v949 : BitVec 32 := Scalar.remsi v946 v948
  let c0_i32_457 : BitVec 32 := 0#32
  let v951 : BitVec 1 := Scalar.cmpi .slt v949 c0_i32_457
  let c0_i32_458 : BitVec 32 := 0#32
  let v952 : BitVec 1 := Scalar.cmpi .slt v948 c0_i32_458
  let v953 : BitVec 1 := Scalar.xori v951 v952
  let c0_i32_456 : BitVec 32 := 0#32
  let v950 : BitVec 1 := Scalar.cmpi .ne v949 c0_i32_456
  let v954 : BitVec 1 := Scalar.andi v953 v950
  let v955 : BitVec 32 := Scalar.addi v949 v948
  let v956 : BitVec 32 := Scalar.select v954 v955 v949
  let c14_i32_459 : BitVec 32 := 14#32
  let v957 : BitVec 32 := Scalar.minsi v956 c14_i32_459
  let c32_i32_461 : BitVec 32 := 32#32
  let v959 : BitVec 32 := Scalar.muli v957 c32_i32_461
  let c0_i32_1324 : BitVec 32 := 0#32
  ![v959.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_464 : BitVec 32 := 4#32
  let v963 : BitVec 32 := Scalar.muli v752 c4_i32_464
  let c3_i32_465 : BitVec 32 := 3#32
  let v964 : BitVec 32 := Scalar.addi v963 c3_i32_465
  let v980 : BitVec 1 := Scalar.cmpi .ne v964 v2
  let v1997 : BitVec 32 := Scalar.extui v980
  let c0_i32_1223 : BitVec 32 := 0#32
  let v1998 : BitVec 1 := Scalar.cmpi .ne v1997 c0_i32_1223
  v1998

def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_464 : BitVec 32 := 4#32
  let v963 : BitVec 32 := Scalar.muli v752 c4_i32_464
  let c3_i32_465 : BitVec 32 := 3#32
  let v964 : BitVec 32 := Scalar.addi v963 c3_i32_465
  let c32_i32_474 : BitVec 32 := 32#32
  let v978 : BitVec 32 := Scalar.muli v964 c32_i32_474
  let c0_i32_1323 : BitVec 32 := 0#32
  ![v978.toNat, 0]
def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_369 : BitVec 32 := 2#32
  let v742 : BitVec 32 := Scalar.addi v19 c2_i32_369
  let c4_i32_370 : BitVec 32 := 4#32
  let c0_i32_371 : BitVec 32 := 0#32
  let v743 : BitVec 1 := Scalar.cmpi .eq c4_i32_370 c0_i32_371
  let c1_i32_372 : BitVec 32 := 1#32
  let v744 : BitVec 32 := Scalar.select v743 c1_i32_372 c4_i32_370
  let v745 : BitVec 32 := Scalar.remsi v742 v744
  let c0_i32_374 : BitVec 32 := 0#32
  let v747 : BitVec 1 := Scalar.cmpi .slt v745 c0_i32_374
  let c0_i32_375 : BitVec 32 := 0#32
  let v748 : BitVec 1 := Scalar.cmpi .slt v744 c0_i32_375
  let v749 : BitVec 1 := Scalar.xori v747 v748
  let c0_i32_373 : BitVec 32 := 0#32
  let v746 : BitVec 1 := Scalar.cmpi .ne v745 c0_i32_373
  let v750 : BitVec 1 := Scalar.andi v749 v746
  let v751 : BitVec 32 := Scalar.addi v745 v744
  let v752 : BitVec 32 := Scalar.select v750 v751 v745
  let c4_i32_464 : BitVec 32 := 4#32
  let v963 : BitVec 32 := Scalar.muli v752 c4_i32_464
  let c3_i32_465 : BitVec 32 := 3#32
  let v964 : BitVec 32 := Scalar.addi v963 c3_i32_465
  let v965 : BitVec 32 := Scalar.subi v2 v964
  let c1_i32_466 : BitVec 32 := 1#32
  let v966 : BitVec 32 := Scalar.subi v965 c1_i32_466
  let c16_i32_467 : BitVec 32 := 16#32
  let c0_i32_468 : BitVec 32 := 0#32
  let v967 : BitVec 1 := Scalar.cmpi .eq c16_i32_467 c0_i32_468
  let c1_i32_469 : BitVec 32 := 1#32
  let v968 : BitVec 32 := Scalar.select v967 c1_i32_469 c16_i32_467
  let v969 : BitVec 32 := Scalar.remsi v966 v968
  let c0_i32_471 : BitVec 32 := 0#32
  let v971 : BitVec 1 := Scalar.cmpi .slt v969 c0_i32_471
  let c0_i32_472 : BitVec 32 := 0#32
  let v972 : BitVec 1 := Scalar.cmpi .slt v968 c0_i32_472
  let v973 : BitVec 1 := Scalar.xori v971 v972
  let c0_i32_470 : BitVec 32 := 0#32
  let v970 : BitVec 1 := Scalar.cmpi .ne v969 c0_i32_470
  let v974 : BitVec 1 := Scalar.andi v973 v970
  let v975 : BitVec 32 := Scalar.addi v969 v968
  let v976 : BitVec 32 := Scalar.select v974 v975 v969
  let c14_i32_473 : BitVec 32 := 14#32
  let v977 : BitVec 32 := Scalar.minsi v976 c14_i32_473
  let c32_i32_475 : BitVec 32 := 32#32
  let v979 : BitVec 32 := Scalar.muli v977 c32_i32_475
  let c0_i32_1324 : BitVec 32 := 0#32
  ![v979.toNat, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_531 : BitVec 32 := 4#32
  let v1144 : BitVec 32 := Scalar.muli v993 c4_i32_531
  let c0_i32_532 : BitVec 32 := 0#32
  let v1145 : BitVec 32 := Scalar.addi v1144 c0_i32_532
  let v1161 : BitVec 1 := Scalar.cmpi .ne v1145 v2
  let v1999 : BitVec 32 := Scalar.extui v1161
  let c0_i32_1225 : BitVec 32 := 0#32
  let v2000 : BitVec 1 := Scalar.cmpi .ne v1999 c0_i32_1225
  v2000

def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_531 : BitVec 32 := 4#32
  let v1144 : BitVec 32 := Scalar.muli v993 c4_i32_531
  let c0_i32_532 : BitVec 32 := 0#32
  let v1145 : BitVec 32 := Scalar.addi v1144 c0_i32_532
  let c32_i32_541 : BitVec 32 := 32#32
  let v1159 : BitVec 32 := Scalar.muli v1145 c32_i32_541
  let c0_i32_1323 : BitVec 32 := 0#32
  ![v1159.toNat, 0]
def k0_off77 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_531 : BitVec 32 := 4#32
  let v1144 : BitVec 32 := Scalar.muli v993 c4_i32_531
  let c0_i32_532 : BitVec 32 := 0#32
  let v1145 : BitVec 32 := Scalar.addi v1144 c0_i32_532
  let v1146 : BitVec 32 := Scalar.subi v2 v1145
  let c1_i32_533 : BitVec 32 := 1#32
  let v1147 : BitVec 32 := Scalar.subi v1146 c1_i32_533
  let c16_i32_534 : BitVec 32 := 16#32
  let c0_i32_535 : BitVec 32 := 0#32
  let v1148 : BitVec 1 := Scalar.cmpi .eq c16_i32_534 c0_i32_535
  let c1_i32_536 : BitVec 32 := 1#32
  let v1149 : BitVec 32 := Scalar.select v1148 c1_i32_536 c16_i32_534
  let v1150 : BitVec 32 := Scalar.remsi v1147 v1149
  let c0_i32_538 : BitVec 32 := 0#32
  let v1152 : BitVec 1 := Scalar.cmpi .slt v1150 c0_i32_538
  let c0_i32_539 : BitVec 32 := 0#32
  let v1153 : BitVec 1 := Scalar.cmpi .slt v1149 c0_i32_539
  let v1154 : BitVec 1 := Scalar.xori v1152 v1153
  let c0_i32_537 : BitVec 32 := 0#32
  let v1151 : BitVec 1 := Scalar.cmpi .ne v1150 c0_i32_537
  let v1155 : BitVec 1 := Scalar.andi v1154 v1151
  let v1156 : BitVec 32 := Scalar.addi v1150 v1149
  let v1157 : BitVec 32 := Scalar.select v1155 v1156 v1150
  let c14_i32_540 : BitVec 32 := 14#32
  let v1158 : BitVec 32 := Scalar.minsi v1157 c14_i32_540
  let c32_i32_542 : BitVec 32 := 32#32
  let v1160 : BitVec 32 := Scalar.muli v1158 c32_i32_542
  let c0_i32_1324 : BitVec 32 := 0#32
  ![v1160.toNat, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_545 : BitVec 32 := 4#32
  let v1164 : BitVec 32 := Scalar.muli v993 c4_i32_545
  let c1_i32_546 : BitVec 32 := 1#32
  let v1165 : BitVec 32 := Scalar.addi v1164 c1_i32_546
  let v1181 : BitVec 1 := Scalar.cmpi .ne v1165 v2
  let v2001 : BitVec 32 := Scalar.extui v1181
  let c0_i32_1227 : BitVec 32 := 0#32
  let v2002 : BitVec 1 := Scalar.cmpi .ne v2001 c0_i32_1227
  v2002

def k0_off78 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_545 : BitVec 32 := 4#32
  let v1164 : BitVec 32 := Scalar.muli v993 c4_i32_545
  let c1_i32_546 : BitVec 32 := 1#32
  let v1165 : BitVec 32 := Scalar.addi v1164 c1_i32_546
  let c32_i32_555 : BitVec 32 := 32#32
  let v1179 : BitVec 32 := Scalar.muli v1165 c32_i32_555
  let c0_i32_1323 : BitVec 32 := 0#32
  ![v1179.toNat, 0]
def k0_off79 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_545 : BitVec 32 := 4#32
  let v1164 : BitVec 32 := Scalar.muli v993 c4_i32_545
  let c1_i32_546 : BitVec 32 := 1#32
  let v1165 : BitVec 32 := Scalar.addi v1164 c1_i32_546
  let v1166 : BitVec 32 := Scalar.subi v2 v1165
  let c1_i32_547 : BitVec 32 := 1#32
  let v1167 : BitVec 32 := Scalar.subi v1166 c1_i32_547
  let c16_i32_548 : BitVec 32 := 16#32
  let c0_i32_549 : BitVec 32 := 0#32
  let v1168 : BitVec 1 := Scalar.cmpi .eq c16_i32_548 c0_i32_549
  let c1_i32_550 : BitVec 32 := 1#32
  let v1169 : BitVec 32 := Scalar.select v1168 c1_i32_550 c16_i32_548
  let v1170 : BitVec 32 := Scalar.remsi v1167 v1169
  let c0_i32_552 : BitVec 32 := 0#32
  let v1172 : BitVec 1 := Scalar.cmpi .slt v1170 c0_i32_552
  let c0_i32_553 : BitVec 32 := 0#32
  let v1173 : BitVec 1 := Scalar.cmpi .slt v1169 c0_i32_553
  let v1174 : BitVec 1 := Scalar.xori v1172 v1173
  let c0_i32_551 : BitVec 32 := 0#32
  let v1171 : BitVec 1 := Scalar.cmpi .ne v1170 c0_i32_551
  let v1175 : BitVec 1 := Scalar.andi v1174 v1171
  let v1176 : BitVec 32 := Scalar.addi v1170 v1169
  let v1177 : BitVec 32 := Scalar.select v1175 v1176 v1170
  let c14_i32_554 : BitVec 32 := 14#32
  let v1178 : BitVec 32 := Scalar.minsi v1177 c14_i32_554
  let c32_i32_556 : BitVec 32 := 32#32
  let v1180 : BitVec 32 := Scalar.muli v1178 c32_i32_556
  let c0_i32_1324 : BitVec 32 := 0#32
  ![v1180.toNat, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_559 : BitVec 32 := 4#32
  let v1184 : BitVec 32 := Scalar.muli v993 c4_i32_559
  let c2_i32_560 : BitVec 32 := 2#32
  let v1185 : BitVec 32 := Scalar.addi v1184 c2_i32_560
  let v1201 : BitVec 1 := Scalar.cmpi .ne v1185 v2
  let v2003 : BitVec 32 := Scalar.extui v1201
  let c0_i32_1229 : BitVec 32 := 0#32
  let v2004 : BitVec 1 := Scalar.cmpi .ne v2003 c0_i32_1229
  v2004

def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_559 : BitVec 32 := 4#32
  let v1184 : BitVec 32 := Scalar.muli v993 c4_i32_559
  let c2_i32_560 : BitVec 32 := 2#32
  let v1185 : BitVec 32 := Scalar.addi v1184 c2_i32_560
  let c32_i32_569 : BitVec 32 := 32#32
  let v1199 : BitVec 32 := Scalar.muli v1185 c32_i32_569
  let c0_i32_1323 : BitVec 32 := 0#32
  ![v1199.toNat, 0]
def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_559 : BitVec 32 := 4#32
  let v1184 : BitVec 32 := Scalar.muli v993 c4_i32_559
  let c2_i32_560 : BitVec 32 := 2#32
  let v1185 : BitVec 32 := Scalar.addi v1184 c2_i32_560
  let v1186 : BitVec 32 := Scalar.subi v2 v1185
  let c1_i32_561 : BitVec 32 := 1#32
  let v1187 : BitVec 32 := Scalar.subi v1186 c1_i32_561
  let c16_i32_562 : BitVec 32 := 16#32
  let c0_i32_563 : BitVec 32 := 0#32
  let v1188 : BitVec 1 := Scalar.cmpi .eq c16_i32_562 c0_i32_563
  let c1_i32_564 : BitVec 32 := 1#32
  let v1189 : BitVec 32 := Scalar.select v1188 c1_i32_564 c16_i32_562
  let v1190 : BitVec 32 := Scalar.remsi v1187 v1189
  let c0_i32_566 : BitVec 32 := 0#32
  let v1192 : BitVec 1 := Scalar.cmpi .slt v1190 c0_i32_566
  let c0_i32_567 : BitVec 32 := 0#32
  let v1193 : BitVec 1 := Scalar.cmpi .slt v1189 c0_i32_567
  let v1194 : BitVec 1 := Scalar.xori v1192 v1193
  let c0_i32_565 : BitVec 32 := 0#32
  let v1191 : BitVec 1 := Scalar.cmpi .ne v1190 c0_i32_565
  let v1195 : BitVec 1 := Scalar.andi v1194 v1191
  let v1196 : BitVec 32 := Scalar.addi v1190 v1189
  let v1197 : BitVec 32 := Scalar.select v1195 v1196 v1190
  let c14_i32_568 : BitVec 32 := 14#32
  let v1198 : BitVec 32 := Scalar.minsi v1197 c14_i32_568
  let c32_i32_570 : BitVec 32 := 32#32
  let v1200 : BitVec 32 := Scalar.muli v1198 c32_i32_570
  let c0_i32_1324 : BitVec 32 := 0#32
  ![v1200.toNat, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_573 : BitVec 32 := 4#32
  let v1204 : BitVec 32 := Scalar.muli v993 c4_i32_573
  let c3_i32_574 : BitVec 32 := 3#32
  let v1205 : BitVec 32 := Scalar.addi v1204 c3_i32_574
  let v1221 : BitVec 1 := Scalar.cmpi .ne v1205 v2
  let v2005 : BitVec 32 := Scalar.extui v1221
  let c0_i32_1231 : BitVec 32 := 0#32
  let v2006 : BitVec 1 := Scalar.cmpi .ne v2005 c0_i32_1231
  v2006

def k0_off82 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_573 : BitVec 32 := 4#32
  let v1204 : BitVec 32 := Scalar.muli v993 c4_i32_573
  let c3_i32_574 : BitVec 32 := 3#32
  let v1205 : BitVec 32 := Scalar.addi v1204 c3_i32_574
  let c32_i32_583 : BitVec 32 := 32#32
  let v1219 : BitVec 32 := Scalar.muli v1205 c32_i32_583
  let c0_i32_1323 : BitVec 32 := 0#32
  ![v1219.toNat, 0]
def k0_off83 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_478 : BitVec 32 := 3#32
  let v983 : BitVec 32 := Scalar.addi v19 c3_i32_478
  let c4_i32_479 : BitVec 32 := 4#32
  let c0_i32_480 : BitVec 32 := 0#32
  let v984 : BitVec 1 := Scalar.cmpi .eq c4_i32_479 c0_i32_480
  let c1_i32_481 : BitVec 32 := 1#32
  let v985 : BitVec 32 := Scalar.select v984 c1_i32_481 c4_i32_479
  let v986 : BitVec 32 := Scalar.remsi v983 v985
  let c0_i32_483 : BitVec 32 := 0#32
  let v988 : BitVec 1 := Scalar.cmpi .slt v986 c0_i32_483
  let c0_i32_484 : BitVec 32 := 0#32
  let v989 : BitVec 1 := Scalar.cmpi .slt v985 c0_i32_484
  let v990 : BitVec 1 := Scalar.xori v988 v989
  let c0_i32_482 : BitVec 32 := 0#32
  let v987 : BitVec 1 := Scalar.cmpi .ne v986 c0_i32_482
  let v991 : BitVec 1 := Scalar.andi v990 v987
  let v992 : BitVec 32 := Scalar.addi v986 v985
  let v993 : BitVec 32 := Scalar.select v991 v992 v986
  let c4_i32_573 : BitVec 32 := 4#32
  let v1204 : BitVec 32 := Scalar.muli v993 c4_i32_573
  let c3_i32_574 : BitVec 32 := 3#32
  let v1205 : BitVec 32 := Scalar.addi v1204 c3_i32_574
  let v1206 : BitVec 32 := Scalar.subi v2 v1205
  let c1_i32_575 : BitVec 32 := 1#32
  let v1207 : BitVec 32 := Scalar.subi v1206 c1_i32_575
  let c16_i32_576 : BitVec 32 := 16#32
  let c0_i32_577 : BitVec 32 := 0#32
  let v1208 : BitVec 1 := Scalar.cmpi .eq c16_i32_576 c0_i32_577
  let c1_i32_578 : BitVec 32 := 1#32
  let v1209 : BitVec 32 := Scalar.select v1208 c1_i32_578 c16_i32_576
  let v1210 : BitVec 32 := Scalar.remsi v1207 v1209
  let c0_i32_580 : BitVec 32 := 0#32
  let v1212 : BitVec 1 := Scalar.cmpi .slt v1210 c0_i32_580
  let c0_i32_581 : BitVec 32 := 0#32
  let v1213 : BitVec 1 := Scalar.cmpi .slt v1209 c0_i32_581
  let v1214 : BitVec 1 := Scalar.xori v1212 v1213
  let c0_i32_579 : BitVec 32 := 0#32
  let v1211 : BitVec 1 := Scalar.cmpi .ne v1210 c0_i32_579
  let v1215 : BitVec 1 := Scalar.andi v1214 v1211
  let v1216 : BitVec 32 := Scalar.addi v1210 v1209
  let v1217 : BitVec 32 := Scalar.select v1215 v1216 v1210
  let c14_i32_582 : BitVec 32 := 14#32
  let v1218 : BitVec 32 := Scalar.minsi v1217 c14_i32_582
  let c32_i32_584 : BitVec 32 := 32#32
  let v1220 : BitVec 32 := Scalar.muli v1218 c32_i32_584
  let c0_i32_1324 : BitVec 32 := 0#32
  ![v1220.toNat, 0]
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x16384 : Shape := ⟨2, ![1024, 16384]⟩
abbrev S16384x1024 : Shape := ⟨2, ![16384, 1024]⟩
abbrev S1x512x16384 : Shape := ⟨3, ![1, 512, 16384]⟩
abbrev S1x512x128x128 : Shape := ⟨4, ![1, 512, 128, 128]⟩
abbrev S_ : Shape := ⟨0, ![]⟩
abbrev S1x128x512x1 : Shape := ⟨4, ![1, 128, 512, 1]⟩
abbrev S1x128x512x512 : Shape := ⟨4, ![1, 128, 512, 512]⟩
abbrev S1x128x512 : Shape := ⟨3, ![1, 128, 512]⟩
abbrev S1x512x128x1 : Shape := ⟨4, ![1, 512, 128, 1]⟩
abbrev S1x128x128x512 : Shape := ⟨4, ![1, 128, 128, 512]⟩

abbrev nBuf : Space → Nat
  | .hbm => 51
  | .vmem => 0
  | .smem => 0
  | _ => 0

abbrev bufTy : (tb : Table) → Fin (tcTables nBuf tb) → BufTy
  | .hbm, ⟨0, _⟩ => ⟨S1x512x1024, .bf16⟩
  | .hbm, ⟨1, _⟩ => ⟨S1024x16384, .bf16⟩
  | .hbm, ⟨2, _⟩ => ⟨S1024x16384, .bf16⟩
  | .hbm, ⟨3, _⟩ => ⟨S1024x16384, .bf16⟩
  | .hbm, ⟨4, _⟩ => ⟨S16384x1024, .bf16⟩
  | .hbm, ⟨5, _⟩ => ⟨S1x512x1024, .f32⟩
  | .hbm, ⟨6, _⟩ => ⟨S1024x16384, .f32⟩
  | .hbm, ⟨7, _⟩ => ⟨S1024x16384, .f32⟩
  | .hbm, ⟨8, _⟩ => ⟨S1024x16384, .f32⟩
  | .hbm, ⟨9, _⟩ => ⟨S16384x1024, .f32⟩
  | .hbm, ⟨10, _⟩ => ⟨S1x512x16384, .f32⟩
  | .hbm, ⟨11, _⟩ => ⟨S1x512x128x128, .f32⟩
  | .hbm, ⟨12, _⟩ => ⟨S1x512x16384, .f32⟩
  | .hbm, ⟨13, _⟩ => ⟨S1x512x128x128, .f32⟩
  | .hbm, ⟨14, _⟩ => ⟨S1x512x16384, .f32⟩
  | .hbm, ⟨15, _⟩ => ⟨S1x512x128x128, .f32⟩
  | .hbm, ⟨16, _⟩ => ⟨S_, .f32⟩
  | .hbm, ⟨17, _⟩ => ⟨S1x512x128x128, .f32⟩
  | .hbm, ⟨18, _⟩ => ⟨S_, .f32⟩
  | .hbm, ⟨19, _⟩ => ⟨S1x128x512x1, .f32⟩
  | .hbm, ⟨20, _⟩ => ⟨S_, .f32⟩
  | .hbm, ⟨21, _⟩ => ⟨S1x128x512x1, .f32⟩
  | .hbm, ⟨22, _⟩ => ⟨S1x128x512x512, .f32⟩
  | .hbm, ⟨23, _⟩ => ⟨S_, .f32⟩
  | .hbm, ⟨24, _⟩ => ⟨S1x128x512x512, .f32⟩
  | .hbm, ⟨25, _⟩ => ⟨S1x128x512x512, .f32⟩
  | .hbm, ⟨26, _⟩ => ⟨S_, .f32⟩
  | .hbm, ⟨27, _⟩ => ⟨S1x128x512, .f32⟩
  | .hbm, ⟨28, _⟩ => ⟨S1x128x512x1, .f32⟩
  | .hbm, ⟨29, _⟩ => ⟨S1x128x512x1, .f32⟩
  | .hbm, ⟨30, _⟩ => ⟨S1x128x512x1, .f32⟩
  | .hbm, ⟨31, _⟩ => ⟨S1x128x512x1, .f32⟩
  | .hbm, ⟨32, _⟩ => ⟨S1x128x512x512, .f32⟩
  | .hbm, ⟨33, _⟩ => ⟨S1x128x512x512, .f32⟩
  | .hbm, ⟨34, _⟩ => ⟨S1x128x512x512, .f32⟩
  | .hbm, ⟨35, _⟩ => ⟨S1x128x512x1, .f32⟩
  | .hbm, ⟨36, _⟩ => ⟨S_, .f32⟩
  | .hbm, ⟨37, _⟩ => ⟨S1x128x512, .f32⟩
  | .hbm, ⟨38, _⟩ => ⟨S1x128x512x1, .f32⟩
  | .hbm, ⟨39, _⟩ => ⟨S1x128x512x1, .f32⟩
  | .hbm, ⟨40, _⟩ => ⟨S1x512x128x1, .f32⟩
  | .hbm, ⟨41, _⟩ => ⟨S1x512x128x128, .f32⟩
  | .hbm, ⟨42, _⟩ => ⟨S1x512x128x128, .f32⟩
  | .hbm, ⟨43, _⟩ => ⟨S1x128x128x512, .f32⟩
  | .hbm, ⟨44, _⟩ => ⟨S1x512x128x128, .f32⟩
  | .hbm, ⟨45, _⟩ => ⟨S1x512x128x128, .f32⟩
  | .hbm, ⟨46, _⟩ => ⟨S1x512x128x1, .f32⟩
  | .hbm, ⟨47, _⟩ => ⟨S1x512x128x128, .f32⟩
  | .hbm, ⟨48, _⟩ => ⟨S1x512x128x128, .f32⟩
  | .hbm, ⟨49, _⟩ => ⟨S1x512x16384, .f32⟩
  | .hbm, ⟨50, _⟩ => ⟨S1x512x1024, .f32⟩
  | _, _ => ⟨S1x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Values.lean ====
/-
# The contents the devices exchange

Every device `c` computes a 512 × 1024 partial product `pf c`. Row chunk `k` (32 rows) of the sum of the partial
products is gathered on device `k`, in three steps: the chunk rounded to bf16 goes from every device to device `k`
(`rsFull`), device `k` adds what arrived to its own chunk (`acc`), and sends the sum rounded to bf16 to every device
(`bcFull`). What a device ends with is `outF`.

Everything here is a function of `pf` alone, over any float values.
-/
module

public import proofs.«01_k».proof.Proof.Gen.KernelIdeal
public import proofs.«01_k».proof.Proof.Gen.KernelIdeal.Skeleton
public import Idealize.ShloMosaic.Lib.ValueIdxCore

@[expose] public section

noncomputable section

namespace Cert.KernelIdeal.Reduce

open Cert.KernelIdeal Cert.KernelIdeal.Gen
open Idealize.ShloMosaic
open Idealize.ShloMosaic.ValueIdx (ix2)

variable {F : FTy → Type} [FloatOps F]

/-! ## Devices, chunks, slots -/

/-- The device `o` places after `c` on the ring. -/
def nx (c : Dev nD) (o : ℕ) : Dev nD := ⟨(c.val + o) % 16, Nat.mod_lt _ (by decide)⟩

/-- The `i`-th chunk that device `c` sends: its own group of four chunks first, then the next groups in turn. -/
def chunk (c : Dev nD) (i : ℕ) : Dev nD :=
  ⟨((c.val / 4 + i / 4) % 4) * 4 + i % 4, by have := Nat.mod_lt (c.val / 4 + i / 4) (by decide : 0 < 4); have := Nat.mod_lt i (by decide : 0 < 4); show _ < 16; omega⟩

/-- The slot, on device `c`, of what comes from device `d`. -/
def sl (d c : Dev nD) : ℕ := (d.val + 15 - c.val) % 16

theorem dlt (c : Dev nD) : c.val < 16 := c.isLt

theorem nx_ne (c : Dev nD) {o : ℕ} (h1 : 1 ≤ o) (h2 : o < 16) : nx c o ≠ c := by
  intro h; have e := congrArg Fin.val h; have := dlt c; simp only [nx] at e; omega

theorem sl_lt {d c : Dev nD} (h : d ≠ c) : sl d c < 15 := by
  have h1 := dlt c; have h2 := dlt d
  have : d.val ≠ c.val := fun e => h (Fin.ext e)
  unfold sl; omega

theorem sl_nx (c : Dev nD) {o : ℕ} (h1 : 1 ≤ o) (h2 : o < 16) : sl c (nx c o) = 15 - o := by
  have := dlt c; simp only [sl, nx]; omega

/-- What lies in slot `sl d c` of device `c` comes from `d`. -/
theorem nx_sl {d c : Dev nD} (h : d ≠ c) : nx c (sl d c + 1) = d := by
  have h1 := dlt c; have h2 := dlt d
  have : d.val ≠ c.val := fun e => h (Fin.ext e)
  apply Fin.ext; simp only [nx, sl]; omega

/-! ## The contents -/

/-- The 32 rows of chunk `k`. -/
def rows32 {e : EltTy} (k : Dev nD) (f : Vec F S512x1024 e) : Vec F S32x1024 e :=
  fun j => f (ix2 ⟨32 * k.val + (j 0).val, by have := dlt k; have : (j 0).val < 32 := (j 0).isLt; show _ < 512; omega⟩ ⟨(j 1).val, (j 1).isLt⟩)

variable (pf : Dev nD → Vec F S512x1024 .f32)

/-- A partial product rounded to bf16. -/
def pb (c : Dev nD) : Vec F S512x1024 .bf16 := fun i => FloatOps.truncf .bf16 bitsLt_bf16_f32 (pf c i)

/-- What lies in device `c`'s receive slots after the first exchange: in slot `j`, chunk `c` of the partial product
    of the device `j + 1` places on. -/
def rsFull (c : Dev nD) : Vec F S480x1024 .bf16 :=
  fun i => pb pf (nx c ((i 0).val / 32 + 1))
    (ix2 ⟨32 * c.val + (i 0).val % 32, by have := dlt c; have : (i 0).val < 480 := (i 0).isLt; show _ < 512; omega⟩ ⟨(i 1).val, (i 1).isLt⟩)

/-- Chunk `c` of the sum. -/
def acc (c : Dev nD) : Vec F S32x1024 .f32 := k0_pay76 (rows32 c (pf c)) (rsFull pf c)

/-- The same rounded to bf16: what device `c` sends to all others. -/
def bcs (c : Dev nD) : Vec F S32x1024 .bf16 := k0_pay77 (rows32 c (pf c)) (rsFull pf c)

/-- What lies in device `c`'s slots after the second exchange: in slot `j`, what the device `j + 1` places on sent. -/
def bcFull (c : Dev nD) : Vec F S15x32x1024 .bf16 :=
  fun i => bcs pf (nx c ((i 0).val + 1)) (ix2 ⟨(i 1).val, (i 1).isLt⟩ ⟨(i 2).val, (i 2).isLt⟩)

/-- The device whose chunk row `r` belongs to. -/
def owner (r : Fin 512) : Dev nD := ⟨r.val / 32, by have := r.isLt; show _ < 16; omega⟩

/-- A place of the result within its chunk. -/
def inChunk (i : S512x1024.Idx) : S32x1024.Idx := ix2 ⟨(i 0).val % 32, Nat.mod_lt _ (by decide)⟩ ⟨(i 1).val, (i 1).isLt⟩

/-- The result on device `c`: its own chunk as summed there, every other chunk as it arrived. -/
def outF (c : Dev nD) : Vec F S512x1024 .f32 :=
  fun i => if owner ⟨(i 0).val, (i 0).isLt⟩ = c then acc pf c (inChunk i)
    else FloatOps.extf .f32 bitsLt_bf16_f32 (bcs pf (owner ⟨(i 0).val, (i 0).isLt⟩) (inChunk i))

end Cert.KernelIdeal.Reduce

end
-- ==== Proof.Protocol.lean ====
/-
# The protocol of the two exchanges

On every device: one barrier cell; sixteen send cells and fifteen receive cells for the first exchange (row chunks of
the partial products, each to the device that gathers it); fifteen send cells and fifteen receive cells for the second
(the gathered chunk, to everyone else). Every cell has one round.

* Barrier cell of `t`: one unit from every other device `d`, who hands over its own two slots for what `t` will send
  it, and the fact that its receive cells for them are open.
* Send cell: the source back.
* Receive cell: the slot, at NAMED contents (`rsFull`, `bcFull`).

Levels: a barrier cell at 1, the first exchange's receive cells at 2, the second's at 3, everything else at 0.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Idealize.ShloMosaic.Transfers (dealOf pointsTo_deal)

variable {F : FTy → Type} [FloatOps F]

/-! ## The ghost state -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Cells -/

abbrev barS : Sem sig := barrier0
/-- The `n`-th DMA semaphore. -/
def dsem (n : ℕ) : DmaSem sig := ⟨n % 68, Nat.mod_lt _ (by decide)⟩

theorem dsem_val {n : ℕ} (h : n < 68) : (dsem n).val = n := Nat.mod_eq_of_lt h

abbrev barCell (c : Dev nD) : GSem nD τ sig := ((c : Thread nD τ), .reg barS)
abbrev dCell (c : Dev nD) (n : ℕ) : GSem nD τ sig := ((c : Thread nD τ), .dma (dsem n))

/-- First exchange: the send cell of the `i`-th chunk sent, the receive cell of slot `j`. -/
abbrev rsSend (c : Dev nD) (i : ℕ) : GSem nD τ sig := dCell c (6 + i)
abbrev rsRecv (c : Dev nD) (j : ℕ) : GSem nD τ sig := dCell c (22 + j)
/-- Second exchange: the send cell towards the device `o` places on is number `o - 1`; the receive cell of slot `j`. -/
abbrev bcSend (c : Dev nD) (i : ℕ) : GSem nD τ sig := dCell c (37 + i)
abbrev bcRecv (c : Dev nD) (j : ℕ) : GSem nD τ sig := dCell c (52 + j)

/-- What one copy of 32 rows counts on its semaphores. -/
abbrev N : ℕ := (Memref.whole cc0_scratch2 : Memref sig .tc .vmem S32x1024 .bf16).view.dmaCredit
theorem N_pos : 0 < N := View.dmaCredit_pos _ (by decide)

/-! ## Parts of buffers -/

/-- Rows `32 k ..` of a 512 × 1024 buffer, of the receive buffer; slot `j` of the second receive buffer. -/
def chSet (k : ℕ) : Finset S512x1024.Idx := Finset.univ.filter fun i => (i 0).val / 32 = k
def rsSet (j : ℕ) : Finset S480x1024.Idx := Finset.univ.filter fun i => (i 0).val / 32 = j
def bcSet (j : ℕ) : Finset S15x32x1024.Idx := Finset.univ.filter fun i => (i 0).val = j

abbrev sndAt (c : Dev nD) (S : Finset S512x1024.Idx) (f : Vec F S512x1024 .bf16) : sProp 𝕄 :=
  ((c : Thread nD τ).loc cc0_scratch0) ↦[S]{fullShare} f
abbrev rsAt (c : Dev nD) (S : Finset S480x1024.Idx) (f : Vec F S480x1024 .bf16) : sProp 𝕄 :=
  ((c : Thread nD τ).loc cc0_scratch1) ↦[S]{fullShare} f
abbrev srcAt (c : Dev nD) (q : PosShare TreeShare) (f : Vec F S32x1024 .bf16) : sProp 𝕄 :=
  ((c : Thread nD τ).loc cc0_scratch2) ↦{q} f
abbrev bcAt (c : Dev nD) (S : Finset S15x32x1024.Idx) (f : Vec F S15x32x1024 .bf16) : sProp 𝕄 :=
  ((c : Thread nD τ).loc cc0_scratch3) ↦[S]{fullShare} f
abbrev outAt (c : Dev nD) (S : Finset S512x1024.Idx) (f : Vec F S512x1024 .f32) : sProp 𝕄 :=
  ((c : Thread nD τ).loc cc0_stg5_0) ↦[S]{fullShare} f

/-- The share of the second exchange's source that the copy towards the device `o` places on borrows. -/
def shr (o : ℕ) : PosShare TreeShare := dealOf fullShare (Finset.Ico 1 16) o

theorem srcAt_deal (c : Dev nD) (f : Vec F S32x1024 .bf16) :
    (srcAt c fullShare f : sProp 𝕄) = bigSep (Finset.Ico 1 16) fun o => srcAt c (shr o) f :=
  pointsTo_deal (Finset.Ico 1 16) ⟨1, by decide⟩ fullShare

/-! ## The schedule -/

variable (pf : Dev nD → Vec F S512x1024 .f32)

/-- What device `d` hands over with its unit on device `t`'s barrier cell. -/
def barPay (t d : Dev nD) : sProp 𝕄 :=
  iprop((∃ f, rsAt d (rsSet (sl t d)) f) ∗ (∃ f, bcAt d (bcSet (sl t d)) f)
    ∗ reached ER (rsRecv d (sl t d)) 0 ∗ reached ER (bcRecv d (sl t d)) 0)

/-- The payload of DMA cell number `n` of device `c`. -/
def dPay (c : Dev nD) (n : ℕ) : sProp 𝕄 :=
  if n < 22 then sndAt c (chSet (chunk c (n - 6)).val) (pb pf c)
  else if n < 37 then rsAt c (rsSet (n - 22)) (rsFull pf c)
  else if n < 52 then srcAt c (shr (n - 37 + 1)) (bcs pf c)
  else if n < 67 then bcAt c (bcSet (n - 52)) (bcFull pf c)
  else iprop(emp)

/-- Its duties: one, except that a chunk a device keeps is not sent. -/
def dDuty (c : Dev nD) (n : ℕ) : Finset (Dev nD) :=
  if n < 6 then ∅ else if n < 22 then (if chunk c (n - 6) = c then ∅ else {0}) else if n < 67 then {0} else ∅

def Rd : Rounds.Schedule (GSem nD τ sig) (Dev nD) 𝕄 where
  duties g r := if r = 0 ∧ g.1.2 = .tc then
      (match g.2 with
        | .reg _ => Finset.univ.erase g.1.1
        | .dma s => dDuty g.1.1 s.val) else ∅
  unitless _ := False
  amount g _ _ := match g.2 with
    | .reg _ => 1
    | .dma _ => N
  payload g _ d := match g.2 with
    | .reg _ => barPay g.1.1 d
    | .dma s => dPay pf g.1.1 s.val
  amount_pos g _ _ _ := by
    match g.2 with
    | .reg _ => exact Nat.one_pos
    | .dma _ => exact N_pos

instance Rd_storable (g : GSem nD τ sig) (r : ℕ) (d : Dev nD) : BI.Storable (upEmb : UEmb _ 𝕄) ((Rd pf).payload g r d) := by
  rcases g with ⟨t, s | s⟩
  · show BI.Storable upEmb (barPay t.1 d)
    unfold barPay; infer_instance
  · show BI.Storable upEmb (dPay pf t.1 s.val)
    unfold dPay
    (repeat' split) <;> infer_instance

section Sched
variable (c : Dev nD)

theorem duties_bar : (Rd pf).duties (barCell c) 0 = Finset.univ.erase c := by dsimp only [Rd]; exact if_pos ⟨rfl, rfl⟩
theorem duties_d (n : ℕ) (h : n < 68) : (Rd pf).duties (dCell c n) 0 = dDuty c n := by
  dsimp only [Rd]; rw [if_pos ⟨rfl, rfl⟩, dsem_val h]
theorem duties_later (g : GSem nD τ sig) : ∀ r, 1 ≤ r → (Rd pf).duties g r = ∅ :=
  fun r hr => by dsimp only [Rd]; exact if_neg fun h => by omega

theorem duties_rsSend {i : ℕ} (h : i < 16) (hk : chunk c i ≠ c) : (Rd pf).duties (rsSend c i) 0 = {0} := by
  rw [duties_d pf c _ (by omega)]; unfold dDuty
  rw [if_neg (by omega), if_pos (by omega), Nat.add_sub_cancel_left, if_neg hk]
theorem duties_rsSend_self {i : ℕ} (h : i < 16) (hk : chunk c i = c) : ∀ r, 0 ≤ r → (Rd pf).duties (rsSend c i) r = ∅ := by
  intro r _
  rcases Nat.eq_zero_or_pos r with rfl | hr
  · rw [duties_d pf c _ (by omega)]; unfold dDuty
    rw [if_neg (by omega), if_pos (by omega), Nat.add_sub_cancel_left, if_pos hk]
  · exact duties_later pf _ r hr
theorem duties_single {n : ℕ} (h1 : 22 ≤ n) (h2 : n < 67) : (Rd pf).duties (dCell c n) 0 = {0} := by
  rw [duties_d pf c _ (by omega)]; unfold dDuty
  rw [if_neg (by omega), if_neg (by omega), if_pos h2]
theorem duties_spare : ∀ r, 0 ≤ r → (Rd pf).duties (dCell c 67) r = ∅ := by
  intro r _
  rcases Nat.eq_zero_or_pos r with rfl | hr
  · rw [duties_d pf c _ (by omega)]; rfl
  · exact duties_later pf _ r hr

theorem amount_bar (d : Dev nD) : (Rd pf).amount (barCell c) 0 d = 1 := rfl
theorem amount_d (n : ℕ) (d : Dev nD) : (Rd pf).amount (dCell c n) 0 d = N := rfl

theorem expect_bar : (Rd pf).expect (barCell c) 0 = 15 := by
  unfold Schedule.expect Schedule.amountOf
  rw [duties_bar, Finset.sum_congr rfl fun d _ => amount_bar pf c d, Finset.sum_const, Finset.card_erase_of_mem (Finset.mem_univ _)]
  rfl
theorem expect_d {n : ℕ} (h : (Rd pf).duties (dCell c n) 0 = {0}) : (Rd pf).expect (dCell c n) 0 = N := by
  unfold Schedule.expect Schedule.amountOf
  rw [h, Finset.sum_singleton, amount_d]

theorem payload_bar (d : Dev nD) : (Rd pf).payload (barCell c) 0 d = barPay c d := rfl
theorem payload_d (n : ℕ) (h : n < 68) (d : Dev nD) : (Rd pf).payload (dCell c n) 0 d = dPay pf c n := by
  show dPay pf c (dsem n).val = _; rw [dsem_val h]

theorem dPay_rsSend {i : ℕ} (h : i < 16) : dPay pf c (6 + i) = sndAt c (chSet (chunk c i).val) (pb pf c) := by
  unfold dPay; rw [if_pos (by omega), Nat.add_sub_cancel_left]
theorem dPay_rsRecv {j : ℕ} (h : j < 15) : dPay pf c (22 + j) = rsAt c (rsSet j) (rsFull pf c) := by
  unfold dPay; rw [if_neg (by omega), if_pos (by omega), Nat.add_sub_cancel_left]
theorem dPay_bcSend {i : ℕ} (h : i < 15) : dPay pf c (37 + i) = srcAt c (shr (i + 1)) (bcs pf c) := by
  unfold dPay; rw [if_neg (by omega), if_neg (by omega), if_pos (by omega), Nat.add_sub_cancel_left]
theorem dPay_bcRecv {j : ℕ} (h : j < 15) : dPay pf c (52 + j) = bcAt c (bcSet j) (bcFull pf c) := by
  unfold dPay; rw [if_neg (by omega), if_neg (by omega), if_neg (by omega), if_pos (by omega), Nat.add_sub_cancel_left]

theorem rest_bar : bigSep ((Rd pf).duties (barCell c) 0 \ ∅) (fun d => (Rd pf).payload (barCell c) 0 d)
    = bigSep (Finset.univ.erase c) fun d => barPay c d := by
  rw [Finset.sdiff_empty, duties_bar]; rfl
theorem rest_d {n : ℕ} (h : n < 68) (hd : (Rd pf).duties (dCell c n) 0 = {0}) :
    bigSep ((Rd pf).duties (dCell c n) 0 \ ∅) (fun d => (Rd pf).payload (dCell c n) 0 d) = dPay pf c n := by
  rw [Finset.sdiff_empty, hd, bigSep_singleton, payload_d pf c n h]

end Sched

/-! ## What a device still owes -/

theorem Ico_first {a b : ℕ} (h : a < b) : Finset.Ico a b = insert a (Finset.Ico (a + 1) b) := by
  ext x; simp only [Finset.mem_insert, Finset.mem_Ico]; omega
theorem Ico_last {a b : ℕ} (h : a ≤ b) : Finset.Ico a (b + 1) = insert b (Finset.Ico a b) := by
  ext x; simp only [Finset.mem_insert, Finset.mem_Ico]; omega
theorem notMem_first {a b : ℕ} : a ∉ Finset.Ico (a + 1) b := by simp only [Finset.mem_Ico]; omega
theorem notMem_last {a b : ℕ} : b ∉ Finset.Ico a b := by simp only [Finset.mem_Ico]; omega

/-- Towards the `i`-th chunk it sends. -/
def rsT (c : Dev nD) (i : ℕ) : CellTallies nD τ sig Unit :=
  if chunk c i = c then 0 else tallyAt (rsRecv (chunk c i) (sl c (chunk c i))) () N

/-- After the signals before `n`, the sends before `i` and those before `o`. -/
def owed (c : Dev nD) (n i o : ℕ) : CellTallies nD τ sig Unit :=
  (∑ x ∈ Finset.Ico n 16, tallyAt (barCell (nx c x)) () 1) + (∑ x ∈ Finset.Ico i 16, rsT c x)
    + ∑ x ∈ Finset.Ico o 16, tallyAt (bcRecv (nx c x) (15 - x)) () N

theorem owed_signal (c : Dev nD) {n : ℕ} (h : n < 16) (i o : ℕ) :
    owed c n i o = owed c (n + 1) i o + tallyAt (barCell (nx c n)) () 1 := by
  unfold owed; rw [Ico_first h, Finset.sum_insert notMem_first]; ac_rfl
theorem owed_rs (c : Dev nD) {i : ℕ} (h : i < 16) (n o : ℕ) : owed c n i o = owed c n (i + 1) o + rsT c i := by
  unfold owed; rw [Ico_first h, Finset.sum_insert notMem_first]; ac_rfl
theorem owed_bc (c : Dev nD) {o : ℕ} (h : o < 16) (n i : ℕ) :
    owed c n i o = owed c n i (o + 1) + tallyAt (bcRecv (nx c o) (15 - o)) () N := by
  unfold owed; rw [Ico_first h, Finset.sum_insert notMem_first]; ac_rfl
theorem owed_end (c : Dev nD) : owed c 16 16 16 = 0 := by
  unfold owed; simp only [Finset.Ico_self, Finset.sum_empty, add_zero]

def L (g : GSem nD τ sig) : Finset Unit := if g.1.2 = .tc then {()} else ∅
def lv (g : GSem nD τ sig) (_ : Unit) : ℕ :=
  match g.2 with
  | .reg _ => 1
  | .dma s => if s.val < 22 then 0 else if s.val < 37 then 2 else if s.val < 52 then 0 else if s.val < 67 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_rsRecv (c : Dev nD) {j : ℕ} (h : j < 15) : lv (rsRecv c j) () = 2 := by
  show (if (dsem (22 + j)).val < 22 then 0 else if (dsem (22 + j)).val < 37 then 2 else _) = 2
  rw [dsem_val (by omega), if_neg (by omega), if_pos (by omega)]
theorem lv_bcRecv (c : Dev nD) {j : ℕ} (h : j < 15) : lv (bcRecv c j) () = 3 := by
  show (if (dsem (52 + j)).val < 22 then 0 else if (dsem (52 + j)).val < 37 then 2 else if (dsem (52 + j)).val < 52 then 0
    else if (dsem (52 + j)).val < 67 then 3 else 0) = 3
  rw [dsem_val (by omega), if_neg (by omega), if_neg (by omega), if_neg (by omega), if_pos (by omega)]

theorem tallyAt_pos {g g' : GSem nD τ sig} {u u' : Unit} {k : ℕ} (h : 0 < (tallyAt g u k : CellTallies nD τ sig Unit) g' u') :
    g' = g := by
  rw [tallyAt_apply] at h; by_contra hc; rw [if_neg (fun h => hc h.1)] at h; exact Nat.lt_irrefl 0 h
theorem add_pos_cases {T T' : CellTallies nD τ sig Unit} {g : GSem nD τ sig} {u : Unit} (h : 0 < (T + T') g u) :
    0 < T g u ∨ 0 < T' g u := by
  rw [Pi.add_apply, Finsupp.add_apply] at h; omega
theorem sum_pos_cases {s : Finset ℕ} {T : ℕ → CellTallies nD τ sig Unit} {g : GSem nD τ sig} {u : Unit}
    (h : 0 < (∑ i ∈ s, T i) g u) : ∃ i ∈ s, 0 < T i g u := by
  rw [Finset.sum_apply, Finsupp.finsetSum_apply] at h
  by_contra hc
  push Not at hc
  exact absurd (Finset.sum_eq_zero fun i hi => Nat.le_zero.mp (hc i hi)) (Nat.pos_iff_ne_zero.mp h)

/-- A cell a device still owes after its signals: a receive cell of the first exchange while it still sends there, or one
    of the second. -/
theorem owed_pos {c : Dev nD} {i o : ℕ} {g : GSem nD τ sig} {u : Unit} (ho : 1 ≤ o) (h : 0 < owed c 16 i o g u) :
    (∃ d j, j < 15 ∧ i < 16 ∧ g = rsRecv d j) ∨ ∃ d j, j < 15 ∧ g = bcRecv d j := by
  unfold owed at h
  rw [Finset.Ico_self, Finset.sum_empty, zero_add] at h
  rcases add_pos_cases h with h | h
  · obtain ⟨x, hx, h⟩ := sum_pos_cases h
    rw [Finset.mem_Ico] at hx
    unfold rsT at h
    by_cases hk : chunk c x = c
    · rw [if_pos hk] at h; exact absurd h (Nat.lt_irrefl 0)
    · rw [if_neg hk] at h
      exact .inl ⟨_, _, sl_lt (Ne.symm hk), by omega, tallyAt_pos h⟩
  · obtain ⟨x, hx, h⟩ := sum_pos_cases h
    rw [Finset.mem_Ico] at hx
    exact .inr ⟨_, _, by omega, tallyAt_pos h⟩

theorem mayWait_bar (c : Dev nD) :
    (levAts L lv : sProp 𝕄) ⊢ MayWait (c : Thread nD τ) (.reg barS) () (owed c 16 0 1) :=
  MayOwe.of_cut (L := L) (lev := lv) 1 (fun p hp => by rw [Finset.mem_singleton.mp hp, L_tc]; exact Finset.mem_singleton_self _)
    (fun g u hg => by
      rcases owed_pos (by decide) hg with ⟨d, j, hj, _, rfl⟩ | ⟨d, j, hj, rfl⟩ <;> (rw [L_tc]; exact Finset.mem_singleton_self _))
    (fun p hp => by rw [Finset.mem_singleton.mp hp]; exact le_refl 1)
    (fun g u hg => by
      rcases owed_pos (by decide) hg with ⟨d, j, hj, _, rfl⟩ | ⟨d, j, hj, rfl⟩
      · rw [lv_rsRecv d hj]; decide
      · rw [lv_bcRecv d hj]; decide)

theorem mayWait_rs (c : Dev nD) {j : ℕ} (hj : j < 15) :
    (levAts L lv : sProp 𝕄) ⊢ MayWait (c : Thread nD τ) (.dma (dsem (22 + j))) () (owed c 16 16 1) :=
  MayOwe.of_cut (L := L) (lev := lv) 2 (fun p hp => by rw [Finset.mem_singleton.mp hp, L_tc]; exact Finset.mem_singleton_self _)
    (fun g u hg => by
      rcases owed_pos (by decide) hg with ⟨d, j, hj, _, rfl⟩ | ⟨d, j, hj, rfl⟩ <;> (rw [L_tc]; exact Finset.mem_singleton_self _))
    (fun p hp => by rw [Finset.mem_singleton.mp hp]; exact le_of_eq (lv_rsRecv c hj))
    (fun g u hg => by
      rcases owed_pos (by decide) hg with ⟨d, j, hj, hi, rfl⟩ | ⟨d, j, hj, rfl⟩
      · exact absurd hi (by decide)
      · rw [lv_bcRecv d hj]; decide)

/-! ## All cells -/

def barEmb : Dev nD ↪ GSem nD τ sig := ⟨barCell, fun a b h => congrArg (fun g : GSem nD τ sig => g.1.1) h⟩

theorem dCell_inj {a b : Dev nD} {m n : ℕ} (hm : m < 68) (hn : n < 68) (h : dCell a m = dCell b n) : a = b ∧ m = n := by
  have h1 : a = b := congrArg (fun g : GSem nD τ sig => g.1.1) h
  have h2 : (SemLoc.dma (dsem m) : SemLoc sig) = .dma (dsem n) := congrArg (fun g : GSem nD τ sig => g.2) h
  have h3 : dsem m = dsem n := SemLoc.dma.inj h2
  have := congrArg Fin.val h3
  rw [dsem_val hm, dsem_val hn] at this
  exact ⟨h1, this⟩

def scEmb : Dev nD × Fin 62 ↪ GSem nD τ sig :=
  ⟨fun p => dCell p.1 (6 + p.2.val), fun a b h => by
    obtain ⟨h1, h2⟩ := dCell_inj (by have := a.2.isLt; omega) (by have := b.2.isLt; omega) h
    exact Prod.ext h1 (Fin.ext (by omega))⟩

/-- The barrier cells, open from the launch; the others, opened where the kernel is entered. -/
def barCells : Finset (GSem nD τ sig) := Finset.univ.map barEmb
def scCells : Finset (GSem nD τ sig) := Finset.univ.map scEmb

theorem mem_barCells (c : Dev nD) : barCell c ∈ barCells := Finset.mem_map.mpr ⟨c, Finset.mem_univ _, rfl⟩
theorem mem_scCells (c : Dev nD) {n : ℕ} (h1 : 6 ≤ n) (h2 : n < 68) : dCell c n ∈ scCells :=
  Finset.mem_map.mpr ⟨(c, ⟨n - 6, by omega⟩), Finset.mem_univ _, by
    show dCell c (6 + (n - 6)) = dCell c n; rw [Nat.add_sub_cancel' h1]⟩

theorem disjoint_cells : Disjoint barCells scCells := by
  rw [Finset.disjoint_left]
  intro g h1 h2
  obtain ⟨c, -, rfl⟩ := Finset.mem_map.mp h1
  obtain ⟨p, -, h⟩ := Finset.mem_map.mp h2
  have h : (SemLoc.dma (dsem (6 + p.2.val)) : SemLoc sig) = .reg barS := congrArg (fun g : GSem nD τ sig => g.2) h
  cases h

/-- The names of all cells, the barrier cells' rounds open, and the levels. -/
def recs (κ : GSem nD τ sig → ℕ) : sProp 𝕄 :=
  iprop(bigSep (barCells ∪ scCells) (fun g => cellInv ER (Rd pf) (κ g) g) ∗ bigSep barCells (fun g => reached ER g 0) ∗ levAts L lv)

instance recs_persistent (κ : GSem nD τ sig → ℕ) : BI.Persistent (recs pf κ) := by unfold recs; infer_instance

theorem cell_of {S : Finset (GSem nD τ sig)} (κ : GSem nD τ sig → ℕ) {g : GSem nD τ sig} (h : g ∈ S) :
    (bigSep S (fun g => cellInv ER (Rd pf) (κ g) g) : sProp 𝕄) ⊢ cellInv ER (Rd pf) (κ g) g := bigSep_elim h
theorem reached_of {S : Finset (GSem nD τ sig)} {g : GSem nD τ sig} (h : g ∈ S) :
    (bigSep S (fun g => reached ER g 0) : sProp 𝕄) ⊢ reached ER g 0 := bigSep_elim h

theorem recs_bar (κ : GSem nD τ sig → ℕ) (c : Dev nD) : recs pf κ ⊢ cellInv ER (Rd pf) (κ (barCell c)) (barCell c) := by
  unfold recs
  iintro ⟨H, -, -⟩
  iapply (cell_of pf κ (Finset.mem_union_left scCells (mem_barCells c))); iexact H
theorem recs_d (κ : GSem nD τ sig → ℕ) (c : Dev nD) {n : ℕ} (h1 : 6 ≤ n) (h2 : n < 68) :
    recs pf κ ⊢ cellInv ER (Rd pf) (κ (dCell c n)) (dCell c n) := by
  unfold recs
  iintro ⟨H, -, -⟩
  iapply (cell_of pf κ (Finset.mem_union_right barCells (mem_scCells c h1 h2))); iexact H
theorem recs_reached (κ : GSem nD τ sig → ℕ) (c : Dev nD) : recs pf κ ⊢ reached ER (barCell c) 0 := by
  unfold recs
  iintro ⟨-, H, -⟩
  iapply (reached_of (mem_barCells c)); iexact H
/-! ## Pools: what is left for the steps still to come, and what the steps done have left -/

abbrev pool (Φ : ℕ → sProp 𝕄) (a b : ℕ) : sProp 𝕄 := bigSep (Finset.Ico a b) Φ

theorem pool_step (Φ : ℕ → sProp 𝕄) {a b : ℕ} (h : a < b) : pool Φ a b = iprop(Φ a ∗ pool Φ (a + 1) b) := by
  unfold pool
  rw [Ico_first h, bigSep_insert notMem_first]; rfl
theorem pool_push (Φ : ℕ → sProp 𝕄) {a b : ℕ} (h : a ≤ b) : pool Φ a (b + 1) = iprop(Φ b ∗ pool Φ a b) := by
  unfold pool
  rw [Ico_last h, bigSep_insert notMem_last]; rfl
theorem pool_none (Φ : ℕ → sProp 𝕄) (a : ℕ) : pool Φ a a = iprop(emp) := by
  unfold pool; rw [Finset.Ico_self]; rfl

end Cert.KernelIdeal.Reduce

end
-- ==== Proof.Views.lean ====
/-
# The views the copies, loads and stores go through

Each view lies on a part of its buffer (`chSet`, `rsSet`, `bcSet`, and the row blocks `blkSet`); what is written through
it agrees, there, with the contents the protocol names.
-/
module

public import proofs.«01_k».proof.Proof.Protocol

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

abbrev sndM : Memref sig .tc .vmem S512x1024 .bf16 := Memref.whole cc0_scratch0
abbrev rsM : Memref sig .tc .vmem S480x1024 .bf16 := Memref.whole cc0_scratch1
abbrev srcM : Memref sig .tc .vmem S32x1024 .bf16 := Memref.whole cc0_scratch2
abbrev bcM : Memref sig .tc .vmem S15x32x1024 .bf16 := Memref.whole cc0_scratch3
abbrev outM : Memref sig .tc .vmem S512x1024 .f32 := Memref.whole cc0_stg5_0

/-- A row block of a 512 × 1024 buffer. -/
def blkSet (b : ℕ) : Finset S512x1024.Idx := Finset.univ.filter fun i => (i 0).val / 128 = b

/-- The row block a device computes in its `t`-th turn: its own group of four chunks first. -/
def rb (c : Dev nD) (t : ℕ) : ℕ := (c.val / 4 + t) % 4

/-! ## Where the rectangles lie -/

theorem rect_ch {off : Fin 2 → ℕ} {k : ℕ} (ho : off = ![32 * k, 0]) (inb : ∀ a, off a + S32x1024.size a ≤ S512x1024.size a) :
    (Rect.unit (s := S512x1024) off S32x1024.size inb).set = chSet k := by
  subst ho
  ext i
  have h1 : (i 1).val < 1024 := (i 1).isLt
  rw [Rect.mem_set_unit, chSet, Finset.mem_filter, Fin.forall_fin_two]
  show (32 * k ≤ (i 0).val ∧ (i 0).val < 32 * k + 32) ∧ (0 ≤ (i 1).val ∧ (i 1).val < 0 + 1024) ↔ _
  simp only [Finset.mem_univ, true_and]
  omega

theorem rect_blk {off : Fin 2 → ℕ} {b : ℕ} (ho : off = ![128 * b, 0]) (inb : ∀ a, off a + S128x1024.size a ≤ S512x1024.size a) :
    (Rect.unit (s := S512x1024) off S128x1024.size inb).set = blkSet b := by
  subst ho
  ext i
  have h1 : (i 1).val < 1024 := (i 1).isLt
  rw [Rect.mem_set_unit, blkSet, Finset.mem_filter, Fin.forall_fin_two]
  show (128 * b ≤ (i 0).val ∧ (i 0).val < 128 * b + 128) ∧ (0 ≤ (i 1).val ∧ (i 1).val < 0 + 1024) ↔ _
  simp only [Finset.mem_univ, true_and]
  omega

theorem rect_rs {off : Fin 2 → ℕ} {j : ℕ} (ho : off = ![32 * j, 0]) (inb : ∀ a, off a + S32x1024.size a ≤ S480x1024.size a) :
    (Rect.unit (s := S480x1024) off S32x1024.size inb).set = rsSet j := by
  subst ho
  ext i
  have h1 : (i 1).val < 1024 := (i 1).isLt
  rw [Rect.mem_set_unit, rsSet, Finset.mem_filter, Fin.forall_fin_two]
  show (32 * j ≤ (i 0).val ∧ (i 0).val < 32 * j + 32) ∧ (0 ≤ (i 1).val ∧ (i 1).val < 0 + 1024) ↔ _
  simp only [Finset.mem_univ, true_and]
  omega

theorem rect_bc {off : Fin 3 → ℕ} {j : ℕ} (ho : off = ![j, 0, 0]) (inb : ∀ a, off a + S1x32x1024.size a ≤ S15x32x1024.size a) :
    (Rect.unit (s := S15x32x1024) off S1x32x1024.size inb).set = bcSet j := by
  subst ho
  ext i
  have h1 : (i 1).val < 32 := (i 1).isLt
  have h2 : (i 2).val < 1024 := (i 2).isLt
  rw [Rect.mem_set_unit, bcSet, Finset.mem_filter, Fin.forall_fin_succ, Fin.forall_fin_two]
  show (j ≤ (i 0).val ∧ (i 0).val < j + 1) ∧ (0 ≤ (i 1).val ∧ (i 1).val < 0 + 32) ∧ (0 ≤ (i 2).val ∧ (i 2).val < 0 + 1024) ↔ _
  simp only [Finset.mem_univ, true_and]
  omega

theorem rs_view_set {off : Fin 2 → ℕ} {j : ℕ} (ho : off = ![32 * j, 0]) (inb : ∀ a, off a + S32x1024.size a ≤ S480x1024.size a)
    (hu : ∀ a, (Rect.unit (s := S480x1024) off S32x1024.size inb).stride a = 1) :
    (rsM.slice (Rect.unit (s := S480x1024) off S32x1024.size inb) hu).view.set = rsSet j :=
  (View.set_slice_whole _ _).trans (rect_rs ho inb)
theorem snd_view_set {off : Fin 2 → ℕ} {k : ℕ} (ho : off = ![32 * k, 0]) (inb : ∀ a, off a + S32x1024.size a ≤ S512x1024.size a)
    (hu : ∀ a, (Rect.unit (s := S512x1024) off S32x1024.size inb).stride a = 1) :
    (sndM.slice (Rect.unit (s := S512x1024) off S32x1024.size inb) hu).view.set = chSet k :=
  (View.set_slice_whole _ _).trans (rect_ch ho inb)
theorem bc_view_set {off : Fin 3 → ℕ} {j : ℕ} (ho : off = ![j, 0, 0]) (inb : ∀ a, off a + S1x32x1024.size a ≤ S15x32x1024.size a)
    (hu : ∀ a, (Rect.unit (s := S15x32x1024) off S1x32x1024.size inb).stride a = 1) (hs : S1x32x1024.Squeezes S32x1024) :
    ((bcM.slice (Rect.unit (s := S15x32x1024) off S1x32x1024.size inb) hu).squeeze S32x1024 hs).view.set = bcSet j :=
  (View.set_reshape _ _).trans ((View.set_slice_whole _ _).trans (rect_bc ho inb))

/-! ## What a write leaves -/

/-- Contents that hold, under each of the view's indices, what is written there agree with the write on the view. -/
theorem write_agree {sp : Space} {s : Shape} {e : EltTy} (v : View sig .tc sp s e) (f g : v.ty.Contents (Elt F)) (w : s.Idx → Elt F e)
    (h : ∀ y, g (v.emb y) = cast (congrArg (Elt F) v.elt_eq.symm) (w y)) :
    ∀ i ∈ v.set, v.write (Elt F) f w Finset.univ i = g i := by
  intro i hi
  obtain ⟨y, -, rfl⟩ := Finset.mem_map.mp hi
  rw [View.write_emb_of_mem f w (Finset.mem_univ y), h]

/-- A rank-2 index is known by its two coordinates. -/
theorem ext2 {n m : ℕ} {i j : (⟨2, ![n, m]⟩ : Shape).Idx} (h0 : (i 0).val = (j 0).val) (h1 : (i 1).val = (j 1).val) : i = j := by
  funext a
  fin_cases a
  · exact Fin.ext h0
  · exact Fin.ext h1

variable (pf : Dev nD → Vec F S512x1024 .f32)

/-- Chunk `k` of device `c`'s rounded partial product, landed in the slot device `k` keeps for `c`. -/
theorem rs_landed {c k : Dev nD} (hk : k ≠ c) {off1 off2 : Fin 2 → ℕ} (h1 : off1 = ![32 * sl c k, 0]) (h2 : off2 = ![32 * k.val, 0])
    (inb1 : ∀ a, off1 a + S32x1024.size a ≤ S480x1024.size a) (inb2 : ∀ a, off2 a + S32x1024.size a ≤ S512x1024.size a)
    (hu1 : ∀ a, (Rect.unit (s := S480x1024) off1 S32x1024.size inb1).stride a = 1)
    (hu2 : ∀ a, (Rect.unit (s := S512x1024) off2 S32x1024.size inb2).stride a = 1) (fd : Vec F S480x1024 .bf16) :
    ∀ i ∈ (rsM.slice (Rect.unit (s := S480x1024) off1 S32x1024.size inb1) hu1).view.set,
      (rsM.slice (Rect.unit (s := S480x1024) off1 S32x1024.size inb1) hu1).view.write (Elt F) fd
        ((sndM.slice (Rect.unit (s := S512x1024) off2 S32x1024.size inb2) hu2).view.read (Elt F) (pb pf c)) Finset.univ i = rsFull pf k i := by
  subst h1 h2
  refine write_agree _ _ _ _ fun y => ?_
  have hy : (y 0).val < 32 := (y 0).isLt
  show pb pf (nx k (((Rect.unit (s := S480x1024) ![32 * sl c k, 0] S32x1024.size inb1).emb y 0).val / 32 + 1)) _
    = pb pf c ((Rect.unit (s := S512x1024) ![32 * k.val, 0] S32x1024.size inb2).emb y)
  have e0 : ((Rect.unit (s := S480x1024) ![32 * sl c k, 0] S32x1024.size inb1).emb y 0).val = 32 * sl c k + 1 * (y 0).val := rfl
  have hd : ((Rect.unit (s := S480x1024) ![32 * sl c k, 0] S32x1024.size inb1).emb y 0).val / 32 = sl c k := by rw [e0]; omega
  rw [hd, nx_sl hk.symm]
  congr 1
  refine ext2 ?_ ?_
  · show 32 * k.val + ((Rect.unit (s := S480x1024) ![32 * sl c k, 0] S32x1024.size inb1).emb y 0).val % 32 = 32 * k.val + 1 * (y 0).val
    rw [e0]; omega
  · rfl

/-- Device `c`'s gathered chunk, landed in the slot the device `o` places on keeps for `c`. -/
theorem bc_landed {c : Dev nD} {o : ℕ} (ho1 : 1 ≤ o) (ho2 : o < 16) {off : Fin 3 → ℕ} (h : off = ![15 - o, 0, 0])
    (inb : ∀ a, off a + S1x32x1024.size a ≤ S15x32x1024.size a)
    (hu : ∀ a, (Rect.unit (s := S15x32x1024) off S1x32x1024.size inb).stride a = 1) (hs : S1x32x1024.Squeezes S32x1024)
    (fd : Vec F S15x32x1024 .bf16) :
    ∀ i ∈ ((bcM.slice (Rect.unit (s := S15x32x1024) off S1x32x1024.size inb) hu).squeeze S32x1024 hs).view.set,
      ((bcM.slice (Rect.unit (s := S15x32x1024) off S1x32x1024.size inb) hu).squeeze S32x1024 hs).view.write (Elt F) fd
        (srcM.view.read (Elt F) (bcs pf c)) Finset.univ i = bcFull pf (nx c o) i := by
  subst h
  refine write_agree _ _ _ _ fun y => ?_
  have hc : nx (nx c o) (15 - o + 1 * 0 + 1) = c := by
    have := dlt c; apply Fin.ext; simp only [nx]; omega
  show bcFull pf (nx c o) ((Rect.unit (s := S15x32x1024) ![15 - o, 0, 0] S1x32x1024.size inb).emb (Shape.reshapeEquiv hs.numel_eq y)) = bcs pf c y
  rw [show Shape.reshapeEquiv hs.numel_eq y = Fin.cons ⟨0, Nat.one_pos⟩ y from Shape.reshapeEquiv_cons_one _ y]
  show bcs pf (nx (nx c o) (15 - o + 1 * 0 + 1)) _ = _
  rw [hc]
  congr 1
  refine ext2 ?_ ?_
  · show 0 + 1 * (y 0).val = _; omega
  · show 0 + 1 * (y 1).val = _; omega

/-! ## Semaphores named through slices of semaphore arrays -/

/-- One entry of an array of consecutive semaphores. -/
theorem sem_entry {b n m : ℕ} (h : b + (⟨1, ![n]⟩ : Shape).numel ≤ m) {off : Fin 1 → ℕ} {j : ℕ} (ho : off = ![j])
    (inb : ∀ a, off a + S1.size a ≤ (⟨1, ![n]⟩ : Shape).size a) (hs : S1.Squeezes S_) :
    ((((SemArray.consecutive b ⟨1, ![n]⟩ h).slice (Rect.unit (s := ⟨1, ![n]⟩) off S1.size inb)).squeeze S_ hs).sem : Fin m).val = b + j := by
  subst ho
  show b + ((⟨1, ![n]⟩ : Shape).rowMajor ((Rect.unit (s := ⟨1, ![n]⟩) ![j] S1.size inb).emb _)).val = _
  rw [Shape.rowMajor_val_one, Rect.emb_apply]
  show b + (j + 1 * (_ : Fin 1).val) = _
  omega

theorem sem_send {off : Fin 1 → ℕ} {j : ℕ} (ho : off = ![j]) (inb : ∀ a, off a + S1.size a ≤ S16.size a) (hs : S1.Squeezes S_) :
    ((cc0_scratch4.slice (Rect.unit (s := S16) off S1.size inb)).squeeze S_ hs).sem = dsem (6 + j) := by
  have hj : j + 1 ≤ 16 := by subst ho; exact inb 0
  exact Fin.ext ((sem_entry _ ho inb hs).trans (dsem_val (by omega)).symm)
theorem sem_recv {off : Fin 1 → ℕ} {j : ℕ} (ho : off = ![j]) (inb : ∀ a, off a + S1.size a ≤ S15.size a) (hs : S1.Squeezes S_) :
    ((cc0_scratch5.slice (Rect.unit (s := S15) off S1.size inb)).squeeze S_ hs).sem = dsem (22 + j) := by
  have hj : j + 1 ≤ 15 := by subst ho; exact inb 0
  exact Fin.ext ((sem_entry _ ho inb hs).trans (dsem_val (by omega)).symm)
theorem sem_bsend {off : Fin 1 → ℕ} {j : ℕ} (ho : off = ![j]) (inb : ∀ a, off a + S1.size a ≤ S15.size a) (hs : S1.Squeezes S_) :
    ((cc0_scratch6.slice (Rect.unit (s := S15) off S1.size inb)).squeeze S_ hs).sem = dsem (37 + j) := by
  have hj : j + 1 ≤ 15 := by subst ho; exact inb 0
  exact Fin.ext ((sem_entry _ ho inb hs).trans (dsem_val (by omega)).symm)
theorem sem_brecv {off : Fin 1 → ℕ} {j : ℕ} (ho : off = ![j]) (inb : ∀ a, off a + S1.size a ≤ S15.size a) (hs : S1.Squeezes S_) :
    ((cc0_scratch7.slice (Rect.unit (s := S15) off S1.size inb)).squeeze S_ hs).sem = dsem (52 + j) := by
  have hj : j + 1 ≤ 15 := by subst ho; exact inb 0
  exact Fin.ext ((sem_entry _ ho inb hs).trans (dsem_val (by omega)).symm)

end Cert.KernelIdeal.Reduce

end
-- ==== Proof.Steps.lean ====
/-
# One step of each exchange

Every rule below takes the state of an exchange before its `n`-th operation to the state after it, at any program that goes
on from there. The states are pools: what the operations still to come need, and what those done have left.
-/
module

public import proofs.«01_k».proof.Proof.Views

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

abbrev 𝒱₀ : Variants := Variants.none

/-- The body's program on a device. -/
abbrev Pg (α : Type) : Type 1 := Prog (TpuEff nD τ sig (Elt F) Λ₀ .tc) α

/-- What remains to be shown of a program of device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `T`, whatever it has waited for. -/
def owing (c : Dev nD) (T : CellTallies nD τ sig Unit) : sProp 𝕄 := iprop(∃ W, owes (c : Thread nD τ) T W)

variable (pf : Dev nD → Vec F S512x1024 .f32) (κ : GSem nD τ sig → ℕ) (c : Dev nD)

omit [FloatOps F] in
theorem emp_sep_eq (P : sProp 𝕄) : iprop(emp ∗ P) = P :=
  Idealize.SL.BI.equiv_iff.mp ⟨(BIClass.emp_sep (PROP := sProp 𝕄)).1, (BIClass.emp_sep (PROP := sProp 𝕄)).2⟩
omit [FloatOps F] in
theorem bs_mono {I : Type} {s : Finset I} {Φ Ψ : I → sProp 𝕄} (h : ∀ i ∈ s, Φ i ⊢ Ψ i) : bigSep s Φ ⊢ bigSep s Ψ := bigSep_mono h
omit [FloatOps F] in
theorem bs_sep {I : Type} {s : Finset I} {Φ Ψ : I → sProp 𝕄} :
    bigSep s (fun i => iprop(Φ i ∗ Ψ i)) = iprop(bigSep s Φ ∗ bigSep s Ψ) := bigSep_sep s Φ Ψ

theorem cell_end {g : GSem nD τ sig} {R : ℕ} (h : ∀ r, R ≤ r → (Rd pf).duties g r = ∅) :
    iprop(cellInv ER (Rd pf) (κ g) g ∗ atPos ER g R ∅ 0) ⊢ (|={Set.univ}=> semVal g 0 : sProp 𝕄) :=
  Rounds.cell_close ER (Rd pf) (Set.mem_univ (κ g)) id h

/-- What follows from the levels alone follows from the records. -/
theorem recs_lev {X : sProp 𝕄} (h : (levAts L lv : sProp 𝕄) ⊢ X) : recs pf κ ⊢ X := by
  unfold recs
  iintro ⟨-, -, H⟩
  iapply h; iexact H

/-! ## The barrier -/

def sigRes (o : ℕ) : sProp 𝕄 := iprop(dutyTok ER (barCell (nx c o)) 0 c ∗ barPay (nx c o) c)
/-- Before the `n`-th signal. -/
def sigSt (n : ℕ) : sProp 𝕄 := iprop(recs pf κ ∗ owing c (owed c n 0 1) ∗ pool (sigRes c) n 16)

theorem step_signal {n : ℕ} (h1 : 1 ≤ n) (h2 : n < 16) {dev : Dev nD} (hd : dev = nx c n) {α : Type} {k : PUnit → Pg α} {Q : α → sProp 𝕄} :
    sigSt pf κ c n ⊢ iprop((sigSt pf κ c (n + 1) -∗ run c (k ⟨⟩) Q) -∗ run c (.op (.semSignal (dev : Thread nD τ) barS ((1 : ℕ) : ℤ)) k) Q) := by
  subst hd
  unfold sigSt owing
  rw [pool_step (sigRes c) h2, owed_signal c h2]
  unfold sigRes
  iintro ⟨#HR, ⟨%W, HO⟩, ⟨Ht, Hp⟩, Hpool⟩ Hk
  iapply (Rounds.wp_signal 𝒱₀ ER (Rd pf) (c : Thread nD τ) none (dst := (nx c n : Thread nD τ)) (sem := barS) (r := 0) (d := c)
      (κ := κ (barCell (nx c n)))
      (by rw [duties_bar]; exact Finset.mem_erase.mpr ⟨(nx_ne c h1 h2).symm, Finset.mem_univ _⟩)
      (amount_bar pf (nx c n) c) () (owed c (n + 1) 0 1) rfl) $$ [HO Ht Hp]
  · isplitr; · iapply (recs_bar pf κ (nx c n)); iexact HR
    isplitl [HO]; · iexact HO
    isplitl [Ht]; · iexact Ht
    isplitl [Hp]; · rw [payload_bar]; iexact Hp
    iapply (recs_reached pf κ (nx c n)); iexact HR
  iintro HO
  iapply Hk
  isplitr; · iexact HR
  isplitl [HO]; · iexists W; iexact HO
  iexact Hpool

/-- What device `c` holds of device `d` after the barrier, for the first exchange and for the second. -/
def rsGot (d : Dev nD) : sProp 𝕄 := iprop((∃ f, rsAt d (rsSet (sl c d)) f) ∗ reached ER (rsRecv d (sl c d)) 0)
def bcGot (o : ℕ) : sProp 𝕄 := iprop((∃ f, bcAt (nx c o) (bcSet (15 - o)) f) ∗ reached ER (bcRecv (nx c o) (15 - o)) 0)

theorem univ_chunk : ∀ c : Dev nD, (Finset.Ico 0 16).image (chunk c) = Finset.univ := by decide +kernel
theorem chunk_inj (c : Dev nD) : Set.InjOn (chunk c) (Finset.Ico 0 16 : Finset ℕ) := by
  intro a ha b hb h
  rw [Finset.mem_coe, Finset.mem_Ico] at ha hb
  have h := congrArg Fin.val h
  simp only [chunk] at h
  omega
theorem univ_nx : ∀ c : Dev nD, (Finset.Ico 1 16).image (nx c) = Finset.univ.erase c := by decide +kernel
theorem nx_inj (c : Dev nD) : Set.InjOn (nx c) (Finset.Ico 1 16 : Finset ℕ) := by
  intro a ha b hb h
  rw [Finset.mem_coe, Finset.mem_Ico] at ha hb
  have h := congrArg Fin.val h
  have := dlt c
  simp only [nx] at h
  omega

/-- A family over the other devices, along the chunks sent and along the ring. -/
theorem others_chunk (Φ : Dev nD → sProp 𝕄) :
    bigSep (Finset.univ.erase c) Φ = pool (fun i => if chunk c i = c then iprop(emp) else Φ (chunk c i)) 0 16 := by
  have e : bigSep (Finset.univ.erase c) Φ = bigSep Finset.univ (fun d => if d = c then iprop(emp) else Φ d) := by
    conv_rhs => rw [← Finset.insert_erase (Finset.mem_univ c)]
    rw [bigSep_insert (Finset.notMem_erase c _), if_pos rfl]
    rw [show bigSep (Finset.univ.erase c) (fun d => if d = c then iprop(emp) else Φ d) = bigSep (Finset.univ.erase c) Φ from
      bigSep_congr fun d hd => if_neg (Finset.ne_of_mem_erase hd)]
    exact (emp_sep_eq _).symm
  rw [e, ← univ_chunk c, bigSep_image_of_injOn (chunk_inj c)]
theorem others_nx (Φ : Dev nD → sProp 𝕄) : bigSep (Finset.univ.erase c) Φ = pool (fun o => Φ (nx c o)) 1 16 := by
  rw [← univ_nx c, bigSep_image_of_injOn (nx_inj c)]

theorem bar_split : (bigSep (Finset.univ.erase c) (fun d => barPay c d) : sProp 𝕄)
    ⊢ iprop(pool (fun i => if chunk c i = c then iprop(emp) else rsGot c (chunk c i)) 0 16 ∗ pool (bcGot c) 1 16) := by
  have h : (bigSep (Finset.univ.erase c) (fun d => barPay c d) : sProp 𝕄)
      ⊢ bigSep (Finset.univ.erase c) (fun d => iprop(rsGot c d ∗ ((∃ f, bcAt d (bcSet (sl c d)) f) ∗ reached ER (bcRecv d (sl c d)) 0))) :=
    bs_mono fun d _ => by
      unfold barPay rsGot
      iintro ⟨H1, H2, H3, H4⟩
      isplitl [H1 H3]
      · isplitl [H1] <;> iassumption
      · isplitl [H2] <;> iassumption
  refine h.trans (Entails.of_eq ?_)
  rw [bs_sep, others_chunk c (rsGot c), others_nx c]
  rw [show pool (fun o => iprop((∃ f, bcAt (nx c o) (bcSet (sl c (nx c o))) f) ∗ reached ER (bcRecv (nx c o) (sl c (nx c o))) 0)) 1 16
      = pool (bcGot (F := F) c) 1 16 from bigSep_congr fun o ho => by
    rw [Finset.mem_Ico] at ho
    unfold bcGot
    rw [sl_nx c ho.1 ho.2]]

theorem step_barrier {α : Type} {k : PUnit → Pg α} {Q : α → sProp 𝕄} :
    iprop(recs pf κ ∗ owing c (owed c 16 0 1) ∗ atPos ER (barCell c) 0 ∅ 0 ∗ cred (tallyAt (barCell c) () 15))
      ⊢ iprop(((owing c (owed c 16 0 1) ∗ semVal (barCell c) 0
            ∗ pool (fun i => if chunk c i = c then iprop(emp) else rsGot c (chunk c i)) 0 16 ∗ pool (bcGot c) 1 16) -∗ run c (k ⟨⟩) Q)
          -∗ run c (.op (.semWait barS 15) k) Q) := by
  have hw : recs pf κ ⊢ MayWait (c : Thread nD τ) (.reg barS) () (owed c 16 0 1) := recs_lev pf κ (mayWait_bar c)
  unfold owing
  iintro ⟨#HR, ⟨%W, HO⟩, Hat, Hc⟩ Hk
  iapply (Rounds.wp_wait_rest_token 𝒱₀ ER (Rd pf) (c : Thread nD τ) none (κ := κ (barCell c))
      (wpE_semWait_eq 𝒱₀ (c : Thread nD τ) none Set.univ) (Set.mem_univ _) () (O := owed c 16 0 1) (W := W) (R := 0) (m := 0) (T := ∅)
      ((Nat.zero_add _).trans (expect_bar pf c).symm)) $$ [Hc HO Hat]
  · isplitr; · iapply (recs_bar pf κ c); iexact HR
    isplitl [Hc]; · iexact Hc
    isplitl [HO]; · iexact HO
    isplitr; · iapply hw; iexact HR
    iexact Hat
  iintro ⟨HO, Hat, -, Hpay⟩
  ihave Hp := ((Entails.of_eq (rest_bar pf c)).trans (bar_split c)) $$ Hpay
  icases Hp with ⟨Hp1, Hp2⟩
  rw [← fupd_wp_eq]
  imod (cell_end pf κ (duties_later pf (barCell c))) $$ [Hat] with Hv
  · isplitr; · iapply (recs_bar pf κ c); iexact HR
    iexact Hat
  imodintro
  iapply Hk
  isplitl [HO]; · iexists _; iexact HO
  isplitl [Hv]; · iexact Hv
  isplitl [Hp1] <;> iassumption

/-! ## A wait for one copy -/

theorem step_wait {n : ℕ} (h1 : 6 ≤ n) (h2 : n < 68) (hd : (Rd pf).duties (dCell c n) 0 = {0}) {sem : DmaSem sig} (hs : sem = dsem n)
    {O : CellTallies nD τ sig Unit} (hO : (levAts L lv : sProp 𝕄) ⊢ MayWait (c : Thread nD τ) (.dma (dsem n)) () O)
    {sp sp' : Space} {s s' : Shape} {e e' : EltTy} {src : Memref sig .tc sp' s' e'} {dst : Memref sig .tc sp s e}
    {hsrc : src.view.WordExact} {hdst : dst.view.WordExact} (hN : dst.view.dmaCredit = N) {α : Type} {k : PUnit → Pg α} {Q : α → sProp 𝕄} :
    iprop(recs pf κ ∗ owing c O ∗ atPos ER (dCell c n) 0 ∅ 0 ∗ cred (tallyAt (dCell c n) () N))
      ⊢ iprop(((owing c O ∗ semVal (dCell c n) 0 ∗ dPay pf c n) -∗ run c (k ⟨⟩) Q)
          -∗ run c (.op (.waitDma2 sem src dst hsrc hdst) k) Q) := by
  subst hs
  have hw : recs pf κ ⊢ MayWait (c : Thread nD τ) (.dma (dsem n)) () O := recs_lev pf κ hO
  unfold owing
  iintro ⟨#HR, ⟨%W, HO⟩, Hat, Hc⟩ Hk
  iapply (Rounds.wp_wait_rest_token 𝒱₀ ER (Rd pf) (c : Thread nD τ) none (κ := κ (dCell c n)) (k' := N)
      (fun K => (wpE_waitDma2_eq (src := src) (dst := dst) 𝒱₀ (c : Thread nD τ) none Set.univ K).trans (by rw [hN]))
      (Set.mem_univ _) () (O := O) (W := W) (R := 0) (m := 0) (T := ∅)
      ((Nat.zero_add _).trans (expect_d pf c hd).symm)) $$ [Hc HO Hat]
  · isplitr; · iapply (recs_d pf κ c h1 h2); iexact HR
    isplitl [Hc]; · iexact Hc
    isplitl [HO]; · iexact HO
    isplitr; · iapply hw; iexact HR
    iexact Hat
  iintro ⟨HO, Hat, -, Hpay⟩
  ihave Hp := (Entails.of_eq (rest_d pf c h2 hd)) $$ Hpay
  rw [← fupd_wp_eq]
  imod (cell_end pf κ (duties_later pf (dCell c n))) $$ [Hat] with Hv
  · isplitr; · iapply (recs_d pf κ c h1 h2); iexact HR
    iexact Hat
  imodintro
  iapply Hk
  isplitl [HO]; · iexists _; iexact HO
  isplitl [Hv] <;> iassumption

/-! ## The first exchange -/

def rsRes (i : ℕ) : sProp 𝕄 :=
  iprop((if chunk c i = c then iprop(emp) else rsGot c (chunk c i))
    ∗ (if chunk c i = c then iprop(emp) else iprop(dutyTok ER (rsRecv (chunk c i) (sl c (chunk c i))) 0 0 ∗ dutyTok ER (rsSend c i) 0 0))
    ∗ reached ER (rsSend c i) 0 ∗ atPos ER (rsSend c i) 0 ∅ 0)
def rsSent (i : ℕ) : sProp 𝕄 :=
  iprop((if chunk c i = c then sndAt c (chSet c.val) (pb pf c) else cred (tallyAt (rsSend c i) () N)) ∗ atPos ER (rsSend c i) 0 ∅ 0)
/-- Before the `i`-th chunk's turn. -/
def rsSt (i : ℕ) : sProp 𝕄 :=
  iprop(recs pf κ ∗ owing c (owed c 16 i 1) ∗ pool (rsRes c) i 16 ∗ pool (rsSent pf c) 0 i)

theorem run_fupd {α : Type} {k : Pg α} {Q : α → sProp 𝕄} : iprop(|={Set.univ}=> run c k Q) ⊢ run c k Q :=
  Entails.of_eq (fupd_wp_eq _ _ _ _ _)

/-- Two branches that go on alike: it is enough to bring each to where they meet. -/
theorem run_dite {p : Prop} [Decidable p] {α : Type} {A : p → Pg (F := F) α} {k : Pg α} {Q : α → sProp 𝕄} {P R : sProp 𝕄}
    (h1 : ∀ h : p, P ⊢ iprop((R -∗ run c k Q) -∗ run c (A h) Q)) (h2 : ¬p → P ⊢ (|={Set.univ}=> R)) :
    P ⊢ iprop((R -∗ run c k Q) -∗ run c (dite p A fun _ => k) Q) := by
  by_cases h : p
  · rw [dif_pos h]; exact h1 h
  · rw [dif_neg h]
    iintro H Hk
    iapply (run_fupd c)
    imod (h2 h) $$ H with HR
    imodintro
    iapply Hk; iexact HR

/-- The `i`-th chunk sent, its device, semaphores and views named. -/
theorem send_rs {i : ℕ} (hi : i < 16) (hk : chunk c i ≠ c) {x1 x2 : DmaSem sig} (e1 : x1 = dsem (6 + i))
    (e2 : x2 = dsem (22 + sl c (chunk c i))) {x3 : Dev nD} (e3 : x3 = chunk c i) {oD oR : Fin 2 → ℕ}
    (iD : ∀ a, oD a + S32x1024.size a ≤ S480x1024.size a) (iR : ∀ a, oR a + S32x1024.size a ≤ S512x1024.size a)
    (eD : oD = ![32 * sl c (chunk c i), 0]) (eR : oR = ![32 * (chunk c i).val, 0])
    {hu : ∀ a, (Rect.unit (s := S480x1024) oD S32x1024.size iD).stride a = 1}
    {hu' : ∀ a, (Rect.unit (s := S512x1024) oR S32x1024.size iR).stride a = 1}
    {hsc : (rsM.slice (Rect.unit (s := S480x1024) oD S32x1024.size iD) hu).view.ref.isScScratch = false}
    {hsrc : (sndM.slice (Rect.unit (s := S512x1024) oR S32x1024.size iR) hu').view.WordExact}
    {hdst : (rsM.slice (Rect.unit (s := S480x1024) oD S32x1024.size iD) hu).view.WordExact}
    {hsem : DmaTarget.Typed .vmem (.dma x2) (.remote (Dev.tc x3) (rsM.slice (Rect.unit (s := S480x1024) oD S32x1024.size iD) hu)
        (.dma x1) hsc : DmaTarget nD τ sig .tc .vmem S32x1024 .bf16)}
    {α : Type} {k : PUnit → Pg α} {Q : α → sProp 𝕄} :
    iprop(rsSt pf κ c i ∗ sndAt c (chSet (chunk c i).val) (pb pf c))
      ⊢ iprop((rsSt pf κ c (i + 1) -∗ run c (k ⟨⟩) Q)
          -∗ run c (.op (.enqueueDma (sndM.slice (Rect.unit (s := S512x1024) oR S32x1024.size iR) hu')
              (.remote (Dev.tc x3) (rsM.slice (Rect.unit (s := S480x1024) oD S32x1024.size iD) hu) (.dma x1) hsc)
              (.dma x2) hsrc hdst hsem) k) Q) := by
  have s1 := rs_view_set eD iD hu
  have s2 := snd_view_set eR iR hu'
  have l1 := rs_landed pf hk eD eR iD iR hu hu'
  have hsl := sl_lt hk.symm
  subst e1 e2 e3
  unfold rsSt owing
  rw [pool_step (rsRes c) hi, owed_rs c hi, pool_push (rsSent pf c) (Nat.zero_le i)]
  unfold rsRes rsSent rsT
  simp only [if_neg hk]
  unfold rsGot
  iintro ⟨⟨#HR, ⟨%W, HO⟩, ⟨⟨⟨⟨%f, Hd⟩, #Hr⟩, ⟨Ht2, Ht1⟩, #Hr1, Hat⟩, Hpool⟩, Hdone⟩, Hsrc⟩ Hk
  iapply (Rounds.wp_send_pointsTo 𝒱₀ ER (Rd pf) (c : Thread nD τ) none (c' := (chunk c i : Thread nD τ))
      (src := sndM.slice (Rect.unit (s := S512x1024) oR S32x1024.size iR) hu')
      (dst := rsM.slice (Rect.unit (s := S480x1024) oD S32x1024.size iD) hu)
      (sS := .dma (dsem (6 + i))) (sem := .dma (dsem (22 + sl c (chunk c i)))) (q := fullShare) (fs := pb pf c)
      (κ₁ := κ (rsSend c i)) (κ₂ := κ (rsRecv (chunk c i) (sl c (chunk c i)))) (r₁ := 0) (r₂ := 0) (d₁ := 0) (d₂ := 0) (fd := f)
      (by rw [duties_rsSend pf c hi hk]; exact Finset.mem_singleton_self _)
      (by rw [duties_single pf (chunk c i) (by omega) (by omega)]; exact Finset.mem_singleton_self _)
      () () N rfl rfl rfl (owed c 16 (i + 1) 1) rfl (W := W)
      (by rw [payload_d pf c _ (by omega), dPay_rsSend pf c hi, s2])
      (by rw [payload_d pf (chunk c i) _ (by omega), dPay_rsRecv pf (chunk c i) hsl, pointsTo_congr (l1 f), s1]))
    $$ [HO Hd Ht1 Ht2 Hsrc]
  · isplitr; · iapply (recs_d pf κ c (by omega) (by omega)); iexact HR
    isplitr; · iapply (recs_d pf κ (chunk c i) (by omega) (by omega)); iexact HR
    isplitl [Hsrc]; · rw [s2]; iexact Hsrc
    isplitl [Hd]; · rw [s1]; iexact Hd
    isplitl [HO]; · iexact HO
    isplitl [Ht1]; · iexact Ht1
    isplitr; · iexact Hr1
    isplitl [Ht2]; · iexact Ht2
    iexact Hr
  iintro ⟨Hc, HO⟩
  iapply Hk
  isplitr; · iexact HR
  isplitl [HO]; · iexists W; iexact HO
  isplitl [Hpool]; · iexact Hpool
  isplitl [Hc Hat]
  · isplitl [Hc] <;> iassumption
  iexact Hdone

theorem step_rs {i : ℕ} (hi : i < 16) {p : Prop} [Decidable p] (hp : p ↔ chunk c i ≠ c)
    {oS oV : Fin 1 → ℕ} {oD oR : Fin 2 → ℕ} {dev : ℕ}
    (iS : ∀ a, oS a + S1.size a ≤ S16.size a) (iV : p → ∀ a, oV a + S1.size a ≤ S15.size a)
    (iD : p → ∀ a, oD a + S32x1024.size a ≤ S480x1024.size a) (iR : p → ∀ a, oR a + S32x1024.size a ≤ S512x1024.size a)
    (hdev : p → dev < 16)
    (eS : oS = ![i]) (eV : p → oV = ![sl c (chunk c i)]) (eD : p → oD = ![32 * sl c (chunk c i), 0])
    (eR : p → oR = ![32 * (chunk c i).val, 0]) (ed : p → dev = (chunk c i).val)
    {hs hs' : S1.Squeezes S_} {hu : ∀ h : p, ∀ a, (Rect.unit (s := S480x1024) oD S32x1024.size (iD h)).stride a = 1}
    {hu' : ∀ h : p, ∀ a, (Rect.unit (s := S512x1024) oR S32x1024.size (iR h)).stride a = 1}
    {hsc : ∀ h : p, (rsM.slice (Rect.unit (s := S480x1024) oD S32x1024.size (iD h)) (hu h)).view.ref.isScScratch = false}
    {hsrc : ∀ h : p, (sndM.slice (Rect.unit (s := S512x1024) oR S32x1024.size (iR h)) (hu' h)).view.WordExact}
    {hdst : ∀ h : p, (rsM.slice (Rect.unit (s := S480x1024) oD S32x1024.size (iD h)) (hu h)).view.WordExact}
    {hsem : ∀ h : p, DmaTarget.Typed .vmem (.dma ((cc0_scratch5.slice (Rect.unit (s := S15) oV S1.size (iV h))).squeeze S_ hs').sem)
      (.remote (Dev.tc (⟨dev, hdev h⟩ : Dev nD)) (rsM.slice (Rect.unit (s := S480x1024) oD S32x1024.size (iD h)) (hu h))
        (.dma ((cc0_scratch4.slice (Rect.unit (s := S16) oS S1.size iS)).squeeze S_ hs).sem) (hsc h) : DmaTarget nD τ sig .tc .vmem S32x1024 .bf16)}
    {α : Type} {k : Pg α} {Q : α → sProp 𝕄} :
    iprop(rsSt pf κ c i ∗ sndAt c (chSet (chunk c i).val) (pb pf c))
      ⊢ iprop((rsSt pf κ c (i + 1) -∗ run c k Q)
          -∗ run c (dite p (fun h => .op (.enqueueDma (sndM.slice (Rect.unit (s := S512x1024) oR S32x1024.size (iR h)) (hu' h))
              (.remote (Dev.tc (⟨dev, hdev h⟩ : Dev nD)) (rsM.slice (Rect.unit (s := S480x1024) oD S32x1024.size (iD h)) (hu h))
                (.dma ((cc0_scratch4.slice (Rect.unit (s := S16) oS S1.size iS)).squeeze S_ hs).sem) (hsc h))
              (.dma ((cc0_scratch5.slice (Rect.unit (s := S15) oV S1.size (iV h))).squeeze S_ hs').sem) (hsrc h) (hdst h) (hsem h)) fun _ => k)
            fun _ => k) Q) := by
  refine run_dite c (fun h => ?_) fun h => ?_
  · exact send_rs (k := fun _ => k) (Q := Q) pf κ c hi (hp.mp h) (sem_send eS iS hs) (sem_recv (eV h) (iV h) hs') (x3 := ⟨dev, hdev h⟩) (Fin.ext (ed h)) (iD h) (iR h) (eD h) (eR h)
  · have hk : chunk c i = c := by by_contra hk; exact h (hp.mpr hk)
    unfold rsSt owing
    rw [pool_step (rsRes c) hi, owed_rs c hi, pool_push (rsSent pf c) (Nat.zero_le i)]
    unfold rsRes rsSent rsT
    simp only [if_pos hk, add_zero]
    iintro ⟨⟨#HR, HO, ⟨⟨-, -, -, Hat⟩, Hpool⟩, Hdone⟩, Hsrc⟩
    imodintro
    isplitr; · iexact HR
    isplitl [HO]; · iexact HO
    isplitl [Hpool]; · iexact Hpool
    isplitl [Hsrc Hat]
    · isplitl [Hsrc]; · rw [hk]; iexact Hsrc
      iexact Hat
    iexact Hdone

/-- What device `c` holds of a receive cell of its own, of the first exchange, before it waits there and after. -/
def rsWait (j : ℕ) : sProp 𝕄 := iprop(atPos ER (rsRecv c j) 0 ∅ 0 ∗ cred (tallyAt (rsRecv c j) () N))
def rsHere (j : ℕ) : sProp 𝕄 := iprop(semVal (rsRecv c j) 0 ∗ rsAt c (rsSet j) (rsFull pf c))
/-- Before the wait for slot `j`. -/
def rwSt (j : ℕ) : sProp 𝕄 :=
  iprop(recs pf κ ∗ owing c (owed c 16 16 1) ∗ pool (rsWait c) j 15 ∗ pool (rsHere pf c) 0 j)

theorem step_rw {j : ℕ} (hj : j < 15) {off : Fin 1 → ℕ} (ho : off = ![j]) {inb : ∀ a, off a + S1.size a ≤ S15.size a} {hs : S1.Squeezes S_}
    {sp sp' : Space} {s s' : Shape} {e e' : EltTy} {src : Memref sig .tc sp' s' e'} {dst : Memref sig .tc sp s e}
    {hsrc : src.view.WordExact} {hdst : dst.view.WordExact} (hN : dst.view.dmaCredit = N) {α : Type} {k : PUnit → Pg α} {Q : α → sProp 𝕄} :
    rwSt pf κ c j
      ⊢ iprop((rwSt pf κ c (j + 1) -∗ run c (k ⟨⟩) Q)
          -∗ run c (.op (.waitDma2 ((cc0_scratch5.slice (Rect.unit (s := S15) off S1.size inb)).squeeze S_ hs).sem src dst hsrc hdst) k) Q) := by
  unfold rwSt
  rw [pool_step (rsWait c) hj, pool_push (rsHere pf c) (Nat.zero_le j)]
  unfold rsWait rsHere
  iintro ⟨#HR, HO, ⟨⟨Hat, Hc⟩, Hpool⟩, Hdone⟩ Hk
  iapply (step_wait pf κ c (n := 22 + j) (by omega) (by omega) (duties_single pf c (by omega) (by omega)) (sem_recv ho inb hs)
    (mayWait_rs c hj) hN) $$ [HO Hat Hc]
  · isplitr; · iexact HR
    isplitl [HO]; · iexact HO
    isplitl [Hat] <;> iassumption
  iintro ⟨HO, Hv, Hp⟩
  iapply Hk
  isplitr; · iexact HR
  isplitl [HO]; · iexact HO
  isplitl [Hpool]; · iexact Hpool
  isplitl [Hv Hp]
  · isplitl [Hv]; · iexact Hv
    iapply (Entails.of_eq (dPay_rsRecv pf c hj)); iexact Hp
  iexact Hdone

/-! ## The second exchange -/

def bcRes (o : ℕ) : sProp 𝕄 :=
  iprop(bcGot c o ∗ (dutyTok ER (bcRecv (nx c o) (15 - o)) 0 0 ∗ dutyTok ER (bcSend c (o - 1)) 0 0)
    ∗ (reached ER (bcSend c (o - 1)) 0 ∗ atPos ER (bcSend c (o - 1)) 0 ∅ 0) ∗ srcAt c (shr o) (bcs pf c))
def bcSent (o : ℕ) : sProp 𝕄 := iprop(cred (tallyAt (bcSend c (o - 1)) () N) ∗ atPos ER (bcSend c (o - 1)) 0 ∅ 0)
/-- Before the copy towards the device `o` places on. -/
def bcSt (o : ℕ) : sProp 𝕄 :=
  iprop(recs pf κ ∗ owing c (owed c 16 16 o) ∗ pool (bcRes pf c) o 16 ∗ pool (bcSent c) 1 o)

theorem send_bc {o : ℕ} (h1 : 1 ≤ o) (h2 : o < 16) {x1 x2 : DmaSem sig} (e1 : x1 = dsem (37 + (o - 1))) (e2 : x2 = dsem (52 + (15 - o)))
    {x3 : Dev nD} (e3 : x3 = nx c o) {off : Fin 3 → ℕ} {inb : ∀ a, off a + S1x32x1024.size a ≤ S15x32x1024.size a} (ho : off = ![15 - o, 0, 0])
    {hu : ∀ a, (Rect.unit (s := S15x32x1024) off S1x32x1024.size inb).stride a = 1} {hs : S1x32x1024.Squeezes S32x1024}
    {hsc : ((bcM.slice (Rect.unit (s := S15x32x1024) off S1x32x1024.size inb) hu).squeeze S32x1024 hs).view.ref.isScScratch = false}
    {hsrc : srcM.view.WordExact}
    {hdst : ((bcM.slice (Rect.unit (s := S15x32x1024) off S1x32x1024.size inb) hu).squeeze S32x1024 hs).view.WordExact}
    {hsem : DmaTarget.Typed .vmem (.dma x2) (.remote (Dev.tc x3)
        ((bcM.slice (Rect.unit (s := S15x32x1024) off S1x32x1024.size inb) hu).squeeze S32x1024 hs)
        (.dma x1) hsc : DmaTarget nD τ sig .tc .vmem S32x1024 .bf16)}
    {α : Type} {k : PUnit → Pg α} {Q : α → sProp 𝕄} :
    bcSt pf κ c o
      ⊢ iprop((bcSt pf κ c (o + 1) -∗ run c (k ⟨⟩) Q)
          -∗ run c (.op (.enqueueDma srcM
              (.remote (Dev.tc x3) ((bcM.slice (Rect.unit (s := S15x32x1024) off S1x32x1024.size inb) hu).squeeze S32x1024 hs) (.dma x1) hsc)
              (.dma x2) hsrc hdst hsem) k) Q) := by
  have s1 : ((bcM.slice (Rect.unit (s := S15x32x1024) off S1x32x1024.size inb) hu).squeeze S32x1024 hs).view.set = bcSet (15 - o) :=
    bc_view_set ho inb hu hs
  have s2 : srcM.view.set = Finset.univ := View.set_whole _
  have l1 := bc_landed pf (c := c) h1 h2 ho inb hu hs
  subst e1 e2 e3
  unfold bcSt owing
  rw [pool_step (bcRes pf c) h2, owed_bc c h2, pool_push (bcSent c) h1]
  unfold bcRes bcSent bcGot
  iintro ⟨#HR, ⟨%W, HO⟩, ⟨⟨⟨⟨%f, Hd⟩, #Hr⟩, ⟨Ht2, Ht1⟩, ⟨#Hr1, Hat⟩, Hsrc⟩, Hpool⟩, Hdone⟩ Hk
  iapply (Rounds.wp_send_pointsTo 𝒱₀ ER (Rd pf) (c : Thread nD τ) none (c' := (nx c o : Thread nD τ))
      (src := srcM) (dst := (bcM.slice (Rect.unit (s := S15x32x1024) off S1x32x1024.size inb) hu).squeeze S32x1024 hs)
      (sS := .dma (dsem (37 + (o - 1)))) (sem := .dma (dsem (52 + (15 - o)))) (q := shr o) (fs := bcs pf c)
      (κ₁ := κ (bcSend c (o - 1))) (κ₂ := κ (bcRecv (nx c o) (15 - o))) (r₁ := 0) (r₂ := 0) (d₁ := 0) (d₂ := 0) (fd := f)
      (by rw [duties_single pf c (by omega) (by omega)]; exact Finset.mem_singleton_self _)
      (by rw [duties_single pf (nx c o) (by omega) (by omega)]; exact Finset.mem_singleton_self _)
      () () N rfl rfl rfl (owed c 16 16 (o + 1)) rfl (W := W)
      (by rw [payload_d pf c _ (by omega), dPay_bcSend pf c (by omega), s2, Nat.sub_add_cancel h1])
      (by rw [payload_d pf (nx c o) _ (by omega), dPay_bcRecv pf (nx c o) (by omega), pointsTo_congr (l1 f), s1]))
    $$ [HO Hd Ht1 Ht2 Hsrc]
  · isplitr; · iapply (recs_d pf κ c (by omega) (by omega)); iexact HR
    isplitr; · iapply (recs_d pf κ (nx c o) (by omega) (by omega)); iexact HR
    isplitl [Hsrc]; · rw [s2]; iexact Hsrc
    isplitl [Hd]; · rw [s1]; iexact Hd
    isplitl [HO]; · iexact HO
    isplitl [Ht1]; · iexact Ht1
    isplitr; · iexact Hr1
    isplitl [Ht2]; · iexact Ht2
    iexact Hr
  iintro ⟨Hc, HO⟩
  iapply Hk
  isplitr; · iexact HR
  isplitl [HO]; · iexists W; iexact HO
  isplitl [Hpool]; · iexact Hpool
  isplitl [Hc Hat]
  · isplitl [Hc] <;> iassumption
  iexact Hdone

/-! ## Gathering -/

def gaWait (j : ℕ) : sProp 𝕄 := iprop(atPos ER (bcRecv c j) 0 ∅ 0 ∗ cred (tallyAt (bcRecv c j) () N))
def gaHere (j : ℕ) : sProp 𝕄 := iprop(semVal (bcRecv c j) 0 ∗ bcAt c (bcSet j) (bcFull pf c))
/-- The chunk of the result that slot `j` fills, before and after. -/
def gaOld (j : ℕ) : sProp 𝕄 := outAt c (chSet (nx c (j + 1)).val) (pf c)
def gaNew (j : ℕ) : sProp 𝕄 := outAt c (chSet (nx c (j + 1)).val) (outF pf c)
/-- Slots before `j` have arrived, slots before `i` have been stored. -/
def gaSt (j i : ℕ) : sProp 𝕄 :=
  iprop(recs pf κ ∗ owing c 0 ∗ pool (gaWait c) j 15 ∗ pool (gaHere pf c) 0 j ∗ pool (gaOld pf c) i 15 ∗ pool (gaNew pf c) 0 i)

theorem step_gw {i j : ℕ} (hj : j < 15) {off : Fin 1 → ℕ} (ho : off = ![j]) {inb : ∀ a, off a + S1.size a ≤ S15.size a} {hs : S1.Squeezes S_}
    {sp sp' : Space} {s s' : Shape} {e e' : EltTy} {src : Memref sig .tc sp' s' e'} {dst : Memref sig .tc sp s e}
    {hsrc : src.view.WordExact} {hdst : dst.view.WordExact} (hN : dst.view.dmaCredit = N) {α : Type} {k : PUnit → Pg α} {Q : α → sProp 𝕄} :
    gaSt pf κ c j i
      ⊢ iprop((gaSt pf κ c (j + 1) i -∗ run c (k ⟨⟩) Q)
          -∗ run c (.op (.waitDma2 ((cc0_scratch7.slice (Rect.unit (s := S15) off S1.size inb)).squeeze S_ hs).sem src dst hsrc hdst) k) Q) := by
  unfold gaSt
  rw [pool_step (gaWait c) hj, pool_push (gaHere pf c) (Nat.zero_le j)]
  unfold gaWait gaHere
  iintro ⟨#HR, HO, ⟨⟨Hat, Hc⟩, Hpool⟩, Hdone, Hold, Hnew⟩ Hk
  iapply (step_wait pf κ c (n := 52 + j) (by omega) (by omega) (duties_single pf c (by omega) (by omega)) (sem_brecv ho inb hs)
    (by rw [MayWait_zero]; iintro H; iempintro) hN) $$ [HO Hat Hc]
  · isplitr; · iexact HR
    isplitl [HO]; · iexact HO
    isplitl [Hat] <;> iassumption
  iintro ⟨HO, Hv, Hp⟩
  iapply Hk
  isplitr; · iexact HR
  isplitl [HO]; · iexact HO
  isplitl [Hpool]; · iexact Hpool
  isplitl [Hv Hp Hdone]
  · isplitl [Hv Hp]
    · isplitl [Hv]; · iexact Hv
      iapply (Entails.of_eq (dPay_bcRecv pf c hj)); iexact Hp
    iexact Hdone
  isplitl [Hold] <;> iassumption

/-- A device's gathered chunk in the shape of a slot. -/
def slotv (d : Dev nD) : Vec F S1x32x1024 .bf16 := fun y => bcs pf d (ix2 ⟨(y 1).val, (y 1).isLt⟩ ⟨(y 2).val, (y 2).isLt⟩)

theorem read_slot {j : ℕ} {off : Fin 3 → ℕ} (ho : off = ![j, 0, 0]) (inb : ∀ a, off a + S1x32x1024.size a ≤ S15x32x1024.size a) :
    bcM.view.readAt (Elt F) (Rect.unit (s := S15x32x1024) off S1x32x1024.size inb).toLoadRect (bcFull pf c) = slotv pf (nx c (j + 1)) := by
  subst ho
  rw [View.readAt_rect]
  funext y
  have hy : (y 0).val = 0 := by have : (y 0).val < 1 := (y 0).isLt; omega
  show bcs pf (nx c (j + 1 * (y 0).val + 1)) _ = bcs pf (nx c (j + 1)) _
  rw [hy]
  show bcs pf (nx c (j + 1)) _ = bcs pf (nx c (j + 1)) _
  congr 1
  refine ext2 ?_ ?_
  · show 0 + 1 * (y 1).val = (y 1).val; omega
  · show 0 + 1 * (y 2).val = (y 2).val; omega

theorem step_gl {i j : ℕ} (hj : j < 15) {off : Fin 3 → ℕ} (ho : off = ![j, 0, 0]) {inb : ∀ a, off a + S1x32x1024.size a ≤ S15x32x1024.size a}
    {hl : bcM.view.LoadsAt (Rect.unit (s := S15x32x1024) off S1x32x1024.size inb).toLoadRect}
    {α : Type} {k : Vec F S1x32x1024 .bf16 → Pg α} {Q : α → sProp 𝕄} :
    gaSt pf κ c (j + 1) i
      ⊢ iprop((gaSt pf κ c (j + 1) i -∗ run c (k (slotv pf (nx c (j + 1)))) Q)
          -∗ run c (.op (.load bcM (Rect.unit (s := S15x32x1024) off S1x32x1024.size inb).toLoadRect hl) k) Q) := by
  have hs : bcM.view.setOn (Rect.unit (s := S15x32x1024) off S1x32x1024.size inb).toLoadRect.set ⊆ bcSet j := by
    rw [← rect_bc ho inb]
    exact Finset.map_refl.subset
  unfold gaSt
  rw [pool_push (gaHere pf c) (Nat.zero_le j)]
  unfold gaHere
  iintro ⟨HR, HO, Hw, ⟨⟨Hv, Hs⟩, Hh⟩, Hrest⟩ Hk
  iapply (wp_load 𝒱₀ (c : Thread nD τ) none Set.univ (m := bcM) hs) $$ Hs
  iintro Hs
  rw [read_slot pf c ho inb]
  iapply Hk
  isplitl [HR]; · iexact HR
  isplitl [HO]; · iexact HO
  isplitl [Hw]; · iexact Hw
  isplitl [Hv Hs Hh]
  · isplitl [Hv Hs]
    · isplitl [Hv] <;> iassumption
    iexact Hh
  iexact Hrest

/-- The load that comes before a store and is not used. -/
theorem step_gd {i j : ℕ} (hi : i < 15) {off : Fin 2 → ℕ} (ho : off = ![32 * (nx c (i + 1)).val, 0])
    {inb : ∀ a, off a + S32x1024.size a ≤ S512x1024.size a}
    {hl : outM.view.LoadsAt (Rect.unit (s := S512x1024) off S32x1024.size inb).toLoadRect}
    {α : Type} {k : Vec F S32x1024 .f32 → Pg α} {Q : α → sProp 𝕄} :
    gaSt pf κ c j i
      ⊢ iprop((∀ v, gaSt pf κ c j i -∗ run c (k v) Q)
          -∗ run c (.op (.load outM (Rect.unit (s := S512x1024) off S32x1024.size inb).toLoadRect hl) k) Q) := by
  have hs : outM.view.setOn (Rect.unit (s := S512x1024) off S32x1024.size inb).toLoadRect.set ⊆ chSet (nx c (i + 1)).val := by
    rw [← rect_ch ho inb]
    exact Finset.map_refl.subset
  unfold gaSt
  rw [pool_step (gaOld pf c) hi]
  unfold gaOld
  iintro ⟨HR, HO, Hw, Hh, ⟨Hs, Hold⟩, Hnew⟩ Hk
  iapply (wp_load 𝒱₀ (c : Thread nD τ) none Set.univ (m := outM) hs) $$ Hs
  iintro Hs
  iapply Hk
  isplitl [HR]; · iexact HR
  isplitl [HO]; · iexact HO
  isplitl [Hw]; · iexact Hw
  isplitl [Hh]; · iexact Hh
  isplitl [Hs Hold]
  · isplitl [Hs] <;> iassumption
  iexact Hnew

/-- A chunk of another device stored where it belongs. -/
theorem out_stored {k : Dev nD} {off : Fin 2 → ℕ} (ho : off = ![32 * k.val, 0]) (inb : ∀ a, off a + S32x1024.size a ≤ S512x1024.size a)
    (f : Vec F S512x1024 .f32) (w : Vec F S32x1024 .f32)
    (hw : ∀ y, w y = if k = c then acc pf c y else FloatOps.extf .f32 bitsLt_bf16_f32 (bcs pf k y)) :
    ∀ i ∈ chSet k.val, (outM.access (Rect.unit (s := S512x1024) off S32x1024.size inb)).write (Elt F) f w Finset.univ i = outF pf c i := by
  subst ho
  have hset : (outM.access (Rect.unit (s := S512x1024) ![32 * k.val, 0] S32x1024.size inb)).set = chSet k.val :=
    (View.set_slice_whole _ _).trans (rect_ch rfl inb)
  rw [← hset]
  refine write_agree (outM.access (Rect.unit (s := S512x1024) ![32 * k.val, 0] S32x1024.size inb)) f (outF pf c) w fun y => ?_
  have hy : (y 0).val < 32 := (y 0).isLt
  have hk := dlt k
  have hi : inChunk ((Rect.unit (s := S512x1024) ![32 * k.val, 0] S32x1024.size inb).emb y) = y := by
    refine ext2 ?_ ?_
    · show (32 * k.val + 1 * (y 0).val) % 32 = (y 0).val; omega
    · show 0 + 1 * (y 1).val = (y 1).val; omega
  have ho : owner ⟨((Rect.unit (s := S512x1024) ![32 * k.val, 0] S32x1024.size inb).emb y 0).val, (((Rect.unit (s := S512x1024) ![32 * k.val, 0] S32x1024.size inb).emb y) 0).isLt⟩ = k := by
    apply Fin.ext; show (32 * k.val + 1 * (y 0).val) / 32 = k.val; omega
  show (if owner ⟨((Rect.unit (s := S512x1024) ![32 * k.val, 0] S32x1024.size inb).emb y 0).val, _⟩ = c then
      acc pf c (inChunk ((Rect.unit (s := S512x1024) ![32 * k.val, 0] S32x1024.size inb).emb y))
    else FloatOps.extf .f32 bitsLt_bf16_f32 (bcs pf (owner ⟨((Rect.unit (s := S512x1024) ![32 * k.val, 0] S32x1024.size inb).emb y 0).val, _⟩)
      (inChunk ((Rect.unit (s := S512x1024) ![32 * k.val, 0] S32x1024.size inb).emb y)))) = w y
  rw [hi, ho, hw]

theorem step_gs {i j : ℕ} (hi : i < 15) {off : Fin 2 → ℕ} (ho : off = ![32 * (nx c (i + 1)).val, 0])
    {inb : ∀ a, off a + S32x1024.size a ≤ S512x1024.size a} {w : Vec F S32x1024 .f32}
    (hw : ∀ y, w y = FloatOps.extf .f32 bitsLt_bf16_f32 (bcs pf (nx c (i + 1)) y))
    {hx : (outM.access (Rect.unit (s := S512x1024) off S32x1024.size inb)).Stores Finset.univ}
    {hm : (Finset.univ : Finset S32x1024.Idx) = Finset.univ ∨ ∀ a, (Rect.unit (s := S512x1024) off S32x1024.size inb).stride a = 1}
    {α : Type} {k : PUnit → Pg α} {Q : α → sProp 𝕄} :
    gaSt pf κ c j i
      ⊢ iprop((gaSt pf κ c j (i + 1) -∗ run c (k ⟨⟩) Q)
          -∗ run c (.op (.store outM (Rect.unit (s := S512x1024) off S32x1024.size inb) w Finset.univ hx hm) k) Q) := by
  have hs : (outM.access (Rect.unit (s := S512x1024) off S32x1024.size inb)).setOn Finset.univ ⊆ chSet (nx c (i + 1)).val := by
    rw [← rect_ch ho inb]
    exact (View.set_slice_whole _ _).subset
  unfold gaSt
  rw [pool_step (gaOld pf c) hi, pool_push (gaNew pf c) (Nat.zero_le i)]
  unfold gaOld gaNew
  iintro ⟨HR, HO, Hw, Hh, ⟨Hs, Hold⟩, Hnew⟩ Hk
  iapply (wp_store 𝒱₀ (c : Thread nD τ) none Set.univ (m := outM) hs) $$ Hs
  iintro Hs
  iapply Hk
  isplitl [HR]; · iexact HR
  isplitl [HO]; · iexact HO
  isplitl [Hw]; · iexact Hw
  isplitl [Hh]; · iexact Hh
  isplitl [Hold]; · iexact Hold
  isplitl [Hs]
  · iapply (Entails.of_eq (pointsTo_congr (out_stored pf c ho inb (pf c) w fun y => by
      rw [hw, if_neg (nx_ne c (by omega) (by omega))])))
    iexact Hs
  iexact Hnew

/-! ## The copies out, all waited for -/

def rsDone (i : ℕ) : sProp 𝕄 := iprop(semVal (rsSend c i) 0 ∗ sndAt c (chSet (chunk c i).val) (pb pf c))
def wdSt (i : ℕ) : sProp 𝕄 := iprop(recs pf κ ∗ owing c 0 ∗ pool (rsSent pf c) i 16 ∗ pool (rsDone pf c) 0 i)

theorem step_wd {i : ℕ} (hi : i < 16) {p : Prop} [Decidable p] (hp : p ↔ chunk c i ≠ c) {off : Fin 1 → ℕ} (ho : off = ![i])
    {inb : ∀ a, off a + S1.size a ≤ S16.size a} {hs : S1.Squeezes S_}
    {sp sp' : Space} {s s' : Shape} {e e' : EltTy} {src : p → Memref sig .tc sp' s' e'} {dst : p → Memref sig .tc sp s e}
    {hsrc : ∀ h, (src h).view.WordExact} {hdst : ∀ h, (dst h).view.WordExact} (hN : ∀ h, (dst h).view.dmaCredit = N)
    {α : Type} {k : Pg α} {Q : α → sProp 𝕄} :
    wdSt pf κ c i
      ⊢ iprop((wdSt pf κ c (i + 1) -∗ run c k Q)
          -∗ run c (dite p (fun h => .op (.waitDma2 ((cc0_scratch4.slice (Rect.unit (s := S16) off S1.size inb)).squeeze S_ hs).sem
              (src h) (dst h) (hsrc h) (hdst h)) fun _ => k) fun _ => k) Q) := by
  refine run_dite c (fun h => ?_) fun h => ?_
  · have hk : chunk c i ≠ c := hp.mp h
    unfold wdSt
    rw [pool_step (rsSent pf c) hi, pool_push (rsDone pf c) (Nat.zero_le i)]
    unfold rsSent rsDone
    simp only [if_neg hk]
    iintro ⟨#HR, HO, ⟨⟨Hc, Hat⟩, Hpool⟩, Hdone⟩ Hk
    iapply (step_wait (k := fun _ => k) pf κ c (n := 6 + i) (by omega) (by omega) (duties_rsSend pf c hi hk) (sem_send ho inb hs)
      (O := 0) (by rw [MayWait_zero]; iintro H; iempintro) (hN h)) $$ [HO Hat Hc]
    · isplitr; · iexact HR
      isplitl [HO]; · iexact HO
      isplitl [Hat] <;> iassumption
    iintro ⟨HO, Hv, Hp⟩
    iapply Hk
    isplitr; · iexact HR
    isplitl [HO]; · iexact HO
    isplitl [Hpool]; · iexact Hpool
    isplitl [Hv Hp]
    · isplitl [Hv]; · iexact Hv
      iapply (Entails.of_eq (dPay_rsSend pf c hi)); iexact Hp
    iexact Hdone
  · have hk : chunk c i = c := by by_contra hk; exact h (hp.mpr hk)
    unfold wdSt
    rw [pool_step (rsSent pf c) hi, pool_push (rsDone pf c) (Nat.zero_le i)]
    unfold rsSent rsDone
    simp only [if_pos hk]
    iintro ⟨#HR, HO, ⟨⟨Hs, Hat⟩, Hpool⟩, Hdone⟩
    imod (cell_end pf κ (duties_rsSend_self pf c hi hk)) $$ [Hat] with Hv
    · isplitr; · iapply (recs_d pf κ c (by omega) (by omega)); iexact HR
      iexact Hat
    imodintro
    isplitr; · iexact HR
    isplitl [HO]; · iexact HO
    isplitl [Hpool]; · iexact Hpool
    isplitl [Hv Hs]
    · isplitl [Hv]; · iexact Hv
      rw [hk]; iexact Hs
    iexact Hdone

def bcDone (o : ℕ) : sProp 𝕄 := iprop(semVal (bcSend c (o - 1)) 0 ∗ srcAt c (shr o) (bcs pf c))
def wbSt (o : ℕ) : sProp 𝕄 := iprop(recs pf κ ∗ owing c 0 ∗ pool (bcSent c) o 16 ∗ pool (bcDone pf c) 1 o)

theorem step_wb {o : ℕ} (h1 : 1 ≤ o) (h2 : o < 16) {off : Fin 1 → ℕ} (ho : off = ![o - 1])
    {inb : ∀ a, off a + S1.size a ≤ S15.size a} {hs : S1.Squeezes S_}
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {k : PUnit → Pg α} {Q : α → sProp 𝕄} :
    wbSt pf κ c o
      ⊢ iprop((wbSt pf κ c (o + 1) -∗ run c (k ⟨⟩) Q)
          -∗ run c (.op (.waitDma2 ((cc0_scratch6.slice (Rect.unit (s := S15) off S1.size inb)).squeeze S_ hs).sem src dst hsrc hdst) k) Q) := by
  unfold wbSt
  rw [pool_step (bcSent c) h2, pool_push (bcDone pf c) h1]
  unfold bcSent bcDone
  iintro ⟨#HR, HO, ⟨⟨Hc, Hat⟩, Hpool⟩, Hdone⟩ Hk
  iapply (step_wait pf κ c (n := 37 + (o - 1)) (by omega) (by omega) (duties_single pf c (by omega) (by omega)) (sem_bsend ho inb hs)
    (O := 0) (by rw [MayWait_zero]; iintro H; iempintro) hN) $$ [HO Hat Hc]
  · isplitr; · iexact HR
    isplitl [HO]; · iexact HO
    isplitl [Hat] <;> iassumption
  iintro ⟨HO, Hv, Hp⟩
  iapply Hk
  isplitr; · iexact HR
  isplitl [HO]; · iexact HO
  isplitl [Hpool]; · iexact Hpool
  isplitl [Hv Hp]
  · isplitl [Hv]; · iexact Hv
    iapply (Entails.of_eq ((dPay_bcSend pf c (i := o - 1) (by omega)).trans (by rw [Nat.sub_add_cancel h1]))); iexact Hp
  iexact Hdone

end Cert.KernelIdeal.Reduce

end
-- ==== Proof.Attn.lean ====
/-
# The attention of a block of rows

What a device computes of 128 rows of its partial product (`attnBlk`), written once, and that each of the four
passes of the kernel's loop, which cut the same sequence of operations at different places, computes it
(`pass0` … `pass3`).
-/
module

public import proofs.«01_k».proof.Proof.Values

@[expose] public section

noncomputable section

namespace Cert.KernelIdeal.Reduce

open Cert.KernelIdeal Cert.KernelIdeal.Gen
open Idealize.ShloMosaic
open Idealize.ShloMosaic.ValueIdx (ix2)

variable {F : FTy → Type} [FloatOps F]

/-- Softmax of the scaled scores `s`, over the keys, against the values `v`. -/
def soft (s : FVec F S128x512 .f32) (v : FVec F S512x128 .bf16) : FVec F S128x128 .bf16 :=
  let m := multiReduction .maximumf [1] S128 s 0xFF800000#32 reduces_S128x512_S128 (.inl rfl) rfl
  let p := exp (subf s (broadcastTo S128x512 (shapeCast S128x1 m shapeCasts_S128_S128x1) broadcasts_S128x1_S128x512))
  let l := multiReduction .add [1] S128 p 0x00000000#32 reduces_S128x512_S128 (.inl rfl) rfl
  truncf .bf16
    (divf (matmul dot_S128x512_S512x128_S128x128_1_0_0_1_n_n none (truncf .bf16 p bitsLt_bf16_f32) v (constant S128x128 .f32 0x00000000#32))
      (broadcastTo S128x128 (shapeCast S128x1 l shapeCasts_S128_S128x1) broadcasts_S128x1_S128x128)) bitsLt_bf16_f32

/-- The scaled scores of one head. -/
def scores (q : FVec F S128x128 .f32) (k : FVec F S512x128 .bf16) : FVec F S128x512 .f32 :=
  mulf (matmul dot_S128x128_S512x128_S128x512_1_1_0_0_n_n none (truncf .bf16 q bitsLt_bf16_f32) k (constant S128x512 .f32 0x00000000#32))
    (broadcast S128x512 (Scalar.ofBits .f32 0x3DB504F3#32 : F .f32))

theorem slicesQ : ∀ h : Fin 8, S128x1024.Slices ![0, 128 * h.val] S128x128 := by decide
theorem slicesK : ∀ h : Fin 8, S512x1024.Slices ![0, 128 * h.val] S512x128 := by decide

/-- Head `h` of keys or values. -/
def kvHead (h : Fin 8) (k : FVec F S512x1024 .f32) : FVec F S512x128 .bf16 :=
  truncf .bf16 (extractStridedSlice S512x128 ![0, 128 * h.val] k (slicesK h)) bitsLt_bf16_f32

/-- Head `h` of the attention of the rows whose queries are `q`. -/
def headOut (q : FVec F S128x1024 .f32) (k v : FVec F S512x1024 .f32) (h : Fin 8) : FVec F S128x128 .bf16 :=
  soft (scores (extractStridedSlice S128x128 ![0, 128 * h.val] q (slicesQ h)) (kvHead h k)) (kvHead h v)

/-- The heads side by side. -/
def headsOut (q : FVec F S128x1024 .f32) (k v : FVec F S512x1024 .f32) : FVec F S128x1024 .bf16 :=
  concatenate S128x1024 1 [⟨S128x128, headOut q k v 0⟩, ⟨S128x128, headOut q k v 1⟩, ⟨S128x128, headOut q k v 2⟩,
    ⟨S128x128, headOut q k v 3⟩, ⟨S128x128, headOut q k v 4⟩, ⟨S128x128, headOut q k v 5⟩, ⟨S128x128, headOut q k v 6⟩,
    ⟨S128x128, headOut q k v 7⟩]
    concatenates_S128x128_S128x128_S128x128_S128x128_S128x128_S128x128_S128x128_S128x128_S128x1024_d1

/-- The partial product of a block of rows, from its queries and the keys and values of all rows. -/
def attnQ (wo : FVec F S1024x1024 .bf16) (q : FVec F S128x1024 .f32) (k v : FVec F S512x1024 .f32) : FVec F S128x1024 .f32 :=
  matmul dot_S128x1024_S1024x1024_S128x1024_1_0_0_1_n_n none (headsOut q k v) wo (constant S128x1024 .f32 0x00000000#32)

/-- The partial product of the rows `xb`, among the rows `x`, with the device's columns of the four weights. -/
def attnBlk (x : Vec F S512x1024 .bf16) (wq wk wv wo : Vec F S1024x1024 .bf16) (xb : Vec F S128x1024 .bf16) : FVec F S128x1024 .f32 :=
  attnQ (k0_pay3 wo) (k0_pay22 (k0_pay2 wq) xb) (k0_pay4 x wk) (k0_pay5 x wv)

/-- Rows `128 b` to `128 b + 127`. -/
def rows128 {e : EltTy} (b : Fin 4) (f : Vec F S512x1024 e) : Vec F S128x1024 e :=
  fun j => f (ix2 ⟨128 * b.val + (j 0).val, by have := b.isLt; have : (j 0).val < 128 := (j 0).isLt; show _ < 512; omega⟩ ⟨(j 1).val, (j 1).isLt⟩)

/-- The partial product of a device: block by block. -/
def pfOf (x : Vec F S512x1024 .bf16) (wq wk wv wo : Vec F S1024x1024 .bf16) : Vec F S512x1024 .f32 := fun i =>
  attnBlk x wq wk wv wo (rows128 ⟨(i 0).val / 128, by have : (i 0).val < 512 := (i 0).isLt; omega⟩ x)
    (ix2 ⟨(i 0).val % 128, Nat.mod_lt _ (by decide)⟩ ⟨(i 1).val, (i 1).isLt⟩)

variable (wo : FVec F S1024x1024 .bf16) (wq : FVec F S1024x1024 .bf16) (k v : FVec F S512x1024 .f32) (xb : Vec F S128x1024 .bf16)

theorem pass0 : k0_pay33 wo (k0_pay12 k) (k0_pay13 k) (k0_pay19 v) (k0_pay20 v) (k0_pay21 v) (k0_pay22 wq xb)
    (k0_pay24 (k0_pay14 v) (k0_pay23 wq (k0_pay6 k) xb)) (k0_pay25 (k0_pay7 k) (k0_pay15 v) (k0_pay22 wq xb))
    (k0_pay29 (k0_pay27 (k0_pay8 k) (k0_pay16 v) (k0_pay22 wq xb)) (k0_pay28 (k0_pay8 k) (k0_pay22 wq xb)))
    (k0_pay30 (k0_pay9 k) (k0_pay17 v) (k0_pay22 wq xb)) (k0_pay31 (k0_pay10 k) (k0_pay18 v) (k0_pay22 wq xb))
    (k0_pay32 (k0_pay11 k) (k0_pay22 wq xb)) = attnQ wo (k0_pay22 wq xb) k v := rfl

theorem pass1 : k0_pay47 wo (k0_pay12 k) (k0_pay13 k) (k0_pay19 v) (k0_pay20 v) (k0_pay21 v) (k0_pay36 wq xb)
    (k0_pay38 (k0_pay14 v) (k0_pay37 wq (k0_pay6 k) xb)) (k0_pay39 (k0_pay7 k) (k0_pay15 v) (k0_pay36 wq xb))
    (k0_pay40 (k0_pay8 k) (k0_pay16 v) (k0_pay36 wq xb))
    (k0_pay42 (k0_pay9 k) (k0_pay17 v) (k0_pay41 (k0_pay36 wq xb))) (k0_pay43 (k0_pay10 k) (k0_pay18 v) (k0_pay36 wq xb))
    (k0_pay45 (k0_pay11 k) (k0_pay36 wq xb)) (k0_pay46 (k0_pay11 k) (k0_pay36 wq xb)) (constant S128x128 .f32 0x00000000#32)
      = attnQ wo (k0_pay22 wq xb) k v := rfl

theorem pass2 : k0_pay60 wo (k0_pay12 k) (k0_pay13 k) (k0_pay20 v) (k0_pay21 v) (k0_pay50 wq xb)
    (k0_pay52 (k0_pay14 v) (k0_pay51 wq (k0_pay6 k) xb)) (k0_pay53 (k0_pay7 k) (k0_pay15 v) (k0_pay50 wq xb))
    (k0_pay54 (k0_pay8 k) (k0_pay16 v) (k0_pay50 wq xb))
    (k0_pay57 (k0_pay17 v) (k0_pay55 (k0_pay9 k) (k0_pay50 wq xb)) (k0_pay56 (F := F))) (k0_pay58 (k0_pay10 k) (k0_pay18 v) (k0_pay50 wq xb))
    (k0_pay59 (k0_pay11 k) (k0_pay19 v) (k0_pay50 wq xb)) = attnQ wo (k0_pay22 wq xb) k v := rfl

theorem pass3 : k0_pay74 wo (k0_pay13 k) (k0_pay20 v) (k0_pay21 v) (k0_pay62 wq xb)
    (k0_pay65 (k0_pay14 v) (k0_pay63 wq (k0_pay6 k) xb) (k0_pay64 wq (k0_pay6 k) xb)) (k0_pay66 (k0_pay7 k) (k0_pay15 v) (k0_pay62 wq xb))
    (k0_pay67 (k0_pay8 k) (k0_pay16 v) (k0_pay62 wq xb))
    (k0_pay70 (k0_pay17 v) (k0_pay68 (k0_pay9 k) (k0_pay62 wq xb)) (k0_pay69 (k0_pay9 k) (k0_pay62 wq xb))) (k0_pay71 (k0_pay10 k) (k0_pay18 v) (k0_pay62 wq xb))
    (k0_pay72 (k0_pay11 k) (k0_pay19 v) (k0_pay62 wq xb)) (k0_pay73 (k0_pay12 k) (k0_pay62 wq xb)) = attnQ wo (k0_pay22 wq xb) k v := rfl

end Cert.KernelIdeal.Reduce

end
-- ==== Proof.Blocks.lean ====
/-
# The row blocks, and the buffers as unions of their parts

How the buffers divide into row blocks, chunks and slots; the state of a device while it computes its four row blocks
and sends their chunks (`atSt`), with one lemma per step; the device's own chunk of the sum.
-/
module

public import proofs.«01_k».proof.Proof.Steps
public import proofs.«01_k».proof.Proof.Attn
public import Idealize.ShloMosaic.Lib.Pipeline.Value
public import Idealize.ShloMosaic.Lib.ValueLayout

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

/-- A part of a buffer divided into pieces numbered `a` to `b - 1`. -/
theorem split_by {ℓ : Loc nD τ sig} {q : PosShare TreeShare} {f : Buf (Elt F) ℓ} {T : Finset (Idx ℓ)} {K : ℕ → Finset (Idx ℓ)}
    {a b : ℕ} (sub : ∀ i, a ≤ i → i < b → ∀ x ∈ K i, x ∈ T) (cov : ∀ x ∈ T, ∃ i, a ≤ i ∧ i < b ∧ x ∈ K i)
    (inj : ∀ i j x, a ≤ i → i < b → a ≤ j → j < b → x ∈ K i → x ∈ K j → i = j) :
    (ℓ ↦[T]{q} f : sProp 𝕄) = pool (fun i => ℓ ↦[K i]{q} f) a b := by
  classical
  have e : T = (Finset.Ico a b).biUnion K := by
    ext x
    rw [Finset.mem_biUnion]
    constructor
    · intro h; obtain ⟨i, h1, h2, h3⟩ := cov x h; exact ⟨i, Finset.mem_Ico.mpr ⟨h1, h2⟩, h3⟩
    · rintro ⟨i, hi, h3⟩; rw [Finset.mem_Ico] at hi; exact sub i hi.1 hi.2 x h3
  rw [e]
  refine pointsTo_biUnion _ _ fun i hi j hj hij => ?_
  rw [Finset.mem_Ico] at hi hj
  rw [Finset.disjoint_left]
  intro x h1 h2
  exact hij (inj i j x hi.1 hi.2 hj.1 hj.2 h1 h2)

omit [FloatOps F] in
theorem pool_sep (Φ Ψ : ℕ → sProp 𝕄) (a b : ℕ) : pool (fun i => iprop(Φ i ∗ Ψ i)) a b = iprop(pool Φ a b ∗ pool Ψ a b) := bigSep_sep _ Φ Ψ

section Parts
variable (c : Dev nD)

theorem mem_ch {k : ℕ} {x : S512x1024.Idx} : x ∈ chSet k ↔ (x 0).val / 32 = k := by unfold chSet; simp
theorem mem_blk {k : ℕ} {x : S512x1024.Idx} : x ∈ blkSet k ↔ (x 0).val / 128 = k := by unfold blkSet; simp
theorem mem_rs {k : ℕ} {x : S480x1024.Idx} : x ∈ rsSet k ↔ (x 0).val / 32 = k := by unfold rsSet; simp
theorem mem_bc {k : ℕ} {x : S15x32x1024.Idx} : x ∈ bcSet k ↔ (x 0).val = k := by unfold bcSet; simp

theorem snd_blocks (f : Vec F S512x1024 .bf16) :
    (sndAt c Finset.univ f : sProp 𝕄) = pool (fun t => sndAt c (blkSet (rb c t)) f) 0 4 :=
  split_by (fun i _ _ x _ => Finset.mem_univ x)
    (fun x _ => by
      have h : (x 0).val < 512 := (x 0).isLt
      refine ⟨((x 0).val / 128 + 4 - c.val / 4 % 4) % 4, by omega, by omega, mem_blk.mpr ?_⟩
      unfold rb; omega)
    (fun i j x _ hi _ hj h1 h2 => by rw [mem_blk] at h1 h2; unfold rb at h1 h2; omega)
theorem out_blocks (f : Vec F S512x1024 .f32) :
    (outAt c Finset.univ f : sProp 𝕄) = pool (fun t => outAt c (blkSet (rb c t)) f) 0 4 :=
  split_by (fun i _ _ x _ => Finset.mem_univ x)
    (fun x _ => by
      have h : (x 0).val < 512 := (x 0).isLt
      refine ⟨((x 0).val / 128 + 4 - c.val / 4 % 4) % 4, by omega, by omega, mem_blk.mpr ?_⟩
      unfold rb; omega)
    (fun i j x _ hi _ hj h1 h2 => by rw [mem_blk] at h1 h2; unfold rb at h1 h2; omega)
/-- A row block of the send buffer is its four chunks. -/
theorem snd_chunks (f : Vec F S512x1024 .bf16) (t : ℕ) :
    (sndAt c (blkSet (rb c t)) f : sProp 𝕄) = pool (fun i => sndAt c (chSet (chunk c i).val) f) (4 * t) (4 * t + 4) :=
  split_by (fun i h1 h2 x h => by rw [mem_ch] at h; rw [mem_blk]; simp only [chunk] at h; unfold rb; omega)
    (fun x h => by
      rw [mem_blk] at h; unfold rb at h
      refine ⟨4 * t + (x 0).val / 32 % 4, by omega, by omega, mem_ch.mpr ?_⟩
      simp only [chunk]; omega)
    (fun i j x _ hi _ hj h1 h2 => by rw [mem_ch] at h1 h2; simp only [chunk] at h1 h2; omega)
theorem snd_all (f : Vec F S512x1024 .bf16) :
    (sndAt c Finset.univ f : sProp 𝕄) = pool (fun i => sndAt c (chSet (chunk c i).val) f) 0 16 :=
  split_by (fun i _ _ x _ => Finset.mem_univ x)
    (fun x _ => by
      have h : (x 0).val < 512 := (x 0).isLt
      have hc := dlt c
      refine ⟨4 * (((x 0).val / 128 + 4 - c.val / 4) % 4) + (x 0).val / 32 % 4, by omega, by omega, mem_ch.mpr ?_⟩
      simp only [chunk]; omega)
    (fun i j x _ hi _ hj h1 h2 => by rw [mem_ch] at h1 h2; simp only [chunk] at h1 h2; omega)
theorem out_ring (f : Vec F S512x1024 .f32) :
    (outAt c Finset.univ f : sProp 𝕄) = iprop(outAt c (chSet c.val) f ∗ pool (fun j => outAt c (chSet (nx c (j + 1)).val) f) 0 15) := by
  have hc := dlt c
  have h : (outAt c Finset.univ f : sProp 𝕄) = pool (fun j => outAt c (chSet (nx c (j + 1)).val) f) 0 16 :=
    split_by (fun i _ _ x _ => Finset.mem_univ x)
      (fun x _ => by
        have h : (x 0).val < 512 := (x 0).isLt
        refine ⟨((x 0).val / 32 + 15 - c.val) % 16, by omega, by omega, mem_ch.mpr ?_⟩
        simp only [nx]; omega)
      (fun i j x _ hi _ hj h1 h2 => by rw [mem_ch] at h1 h2; simp only [nx] at h1 h2; omega)
  rw [h, pool_push _ (by decide : 0 ≤ 15)]
  rw [show (nx c (15 + 1)).val = c.val by simp only [nx]; omega]
theorem rs_slots (f : Vec F S480x1024 .bf16) : (rsAt c Finset.univ f : sProp 𝕄) = pool (fun j => rsAt c (rsSet j) f) 0 15 :=
  split_by (fun i _ _ x _ => Finset.mem_univ x)
    (fun x _ => by
      have h : (x 0).val < 480 := (x 0).isLt
      exact ⟨(x 0).val / 32, by omega, by omega, mem_rs.mpr rfl⟩)
    (fun i j x _ hi _ hj h1 h2 => by rw [mem_rs] at h1 h2; omega)
theorem bc_slots (f : Vec F S15x32x1024 .bf16) : (bcAt c Finset.univ f : sProp 𝕄) = pool (fun j => bcAt c (bcSet j) f) 0 15 :=
  split_by (fun i _ _ x _ => Finset.mem_univ x)
    (fun x _ => by
      have h : (x 0).val < 15 := (x 0).isLt
      exact ⟨(x 0).val, by omega, by omega, mem_bc.mpr rfl⟩)
    (fun i j x _ hi _ hj h1 h2 => by rw [mem_bc] at h1 h2; omega)

end Parts

/-! ## Four row blocks -/

variable (pf : Dev nD → Vec F S512x1024 .f32) (κ : GSem nD τ sig → ℕ) (c : Dev nD)

abbrev xM : Memref sig .tc .vmem S512x1024 .bf16 := Memref.whole cc0_stg0_0
abbrev xAt (x : Vec F S512x1024 .bf16) : sProp 𝕄 := ((c : Thread nD τ).loc cc0_stg0_0) ↦{fullShare} x

def sndCh (i : ℕ) : sProp 𝕄 := sndAt c (chSet (chunk c i).val) (pb pf c)
def rawOut (t : ℕ) : sProp 𝕄 := iprop(∃ f, outAt c (blkSet (rb c t)) f)
def rawSnd (t : ℕ) : sProp 𝕄 := iprop(∃ f, sndAt c (blkSet (rb c t)) f)
def outBlk (t : ℕ) : sProp 𝕄 := outAt c (blkSet (rb c t)) (pf c)

/-- Row blocks before `a` are in the result, those before `b` in the send buffer, and `i` chunks have had their turn. -/
def atSt (x : Vec F S512x1024 .bf16) (a b i : ℕ) : sProp 𝕄 :=
  iprop(rsSt pf κ c i ∗ pool (sndCh pf c) i (4 * b) ∗ pool (rawOut c) a 4 ∗ pool (outBlk pf c) 0 a ∗ pool (rawSnd c) b 4 ∗ xAt c x)

theorem rb_lt (t : ℕ) : rb c t < 4 := Nat.mod_lt _ (by decide)
/-- The rows of a device's `t`-th block. -/
abbrev rowsAt {e : EltTy} (t : ℕ) (x : Vec F S512x1024 e) : Vec F S128x1024 e := rows128 ⟨rb c t, rb_lt c t⟩ x

theorem read_rows {b : Fin 4} {off : Fin 2 → ℕ} (ho : off = ![128 * b.val, 0])
    (inb : ∀ a, off a + S128x1024.size a ≤ S512x1024.size a) (x : Vec F S512x1024 .bf16) :
    xM.view.readAt (Elt F) (Rect.unit (s := S512x1024) off S128x1024.size inb).toLoadRect x = rows128 b x := by
  subst ho
  rw [View.readAt_rect]
  funext y
  show x _ = x _
  congr 1
  refine ext2 ?_ ?_
  · show 128 * b.val + 1 * (y 0).val = 128 * b.val + (y 0).val; omega
  · show 0 + 1 * (y 1).val = (y 1).val; omega

theorem step_xl {x : Vec F S512x1024 .bf16} {a b i t : ℕ} {off : Fin 2 → ℕ} (ho : off = ![128 * rb c t, 0])
    {inb : ∀ a, off a + S128x1024.size a ≤ S512x1024.size a}
    {hl : xM.view.LoadsAt (Rect.unit (s := S512x1024) off S128x1024.size inb).toLoadRect}
    {α : Type} {k : Vec F S128x1024 .bf16 → Pg α} {Q : α → sProp 𝕄} :
    atSt pf κ c x a b i ⊢ iprop((atSt pf κ c x a b i -∗ run c (k (rowsAt c t x)) Q)
        -∗ run c (.op (.load xM (Rect.unit (s := S512x1024) off S128x1024.size inb).toLoadRect hl) k) Q) := by
  have hr := read_rows (b := ⟨rb c t, rb_lt c t⟩) ho inb x
  unfold atSt
  iintro ⟨H1, H2, H3, H4, H5, Hx⟩ Hk
  iapply (wp_load 𝒱₀ (c : Thread nD τ) none Set.univ (m := xM) (Finset.subset_univ _)) $$ Hx
  iintro Hx
  rw [hr]
  iapply Hk
  isplitl [H1]; · iexact H1
  isplitl [H2]; · iexact H2
  isplitl [H3]; · iexact H3
  isplitl [H4]; · iexact H4
  isplitl [H5] <;> iassumption

/-- Loads that come before a store and are not used. -/
theorem step_od {x : Vec F S512x1024 .bf16} {a b i : ℕ} (ha : a < 4) {off : Fin 2 → ℕ} (ho : off = ![128 * rb c a, 0])
    {inb : ∀ a, off a + S128x1024.size a ≤ S512x1024.size a}
    {hl : outM.view.LoadsAt (Rect.unit (s := S512x1024) off S128x1024.size inb).toLoadRect}
    {α : Type} {k : Vec F S128x1024 .f32 → Pg α} {Q : α → sProp 𝕄} :
    atSt pf κ c x a b i ⊢ iprop((∀ v, atSt pf κ c x a b i -∗ run c (k v) Q)
        -∗ run c (.op (.load outM (Rect.unit (s := S512x1024) off S128x1024.size inb).toLoadRect hl) k) Q) := by
  have hs : outM.view.setOn (Rect.unit (s := S512x1024) off S128x1024.size inb).toLoadRect.set ⊆ blkSet (rb c a) := by
    rw [← rect_blk ho inb]
    exact Finset.map_refl.subset
  unfold atSt
  rw [pool_step (rawOut c) ha]
  unfold rawOut
  iintro ⟨H1, H2, ⟨⟨%f, Hs⟩, H3⟩, Hrest⟩ Hk
  iapply (wp_load 𝒱₀ (c : Thread nD τ) none Set.univ (m := outM) hs) $$ Hs
  iintro Hs
  iapply Hk
  isplitl [H1]; · iexact H1
  isplitl [H2]; · iexact H2
  isplitl [Hs H3]
  · isplitl [Hs]; · iexists f; iexact Hs
    iexact H3
  iexact Hrest
theorem step_sd {x : Vec F S512x1024 .bf16} {a b i : ℕ} (hb : b < 4) {off : Fin 2 → ℕ} (ho : off = ![128 * rb c b, 0])
    {inb : ∀ a, off a + S128x1024.size a ≤ S512x1024.size a}
    {hl : sndM.view.LoadsAt (Rect.unit (s := S512x1024) off S128x1024.size inb).toLoadRect}
    {α : Type} {k : Vec F S128x1024 .bf16 → Pg α} {Q : α → sProp 𝕄} :
    atSt pf κ c x a b i ⊢ iprop((∀ v, atSt pf κ c x a b i -∗ run c (k v) Q)
        -∗ run c (.op (.load sndM (Rect.unit (s := S512x1024) off S128x1024.size inb).toLoadRect hl) k) Q) := by
  have hs : sndM.view.setOn (Rect.unit (s := S512x1024) off S128x1024.size inb).toLoadRect.set ⊆ blkSet (rb c b) := by
    rw [← rect_blk ho inb]
    exact Finset.map_refl.subset
  unfold atSt
  rw [pool_step (rawSnd c) hb]
  unfold rawSnd
  iintro ⟨H1, H2, H3, H4, ⟨⟨%f, Hs⟩, H5⟩, Hx⟩ Hk
  iapply (wp_load 𝒱₀ (c : Thread nD τ) none Set.univ (m := sndM) hs) $$ Hs
  iintro Hs
  iapply Hk
  isplitl [H1]; · iexact H1
  isplitl [H2]; · iexact H2
  isplitl [H3]; · iexact H3
  isplitl [H4]; · iexact H4
  isplitl [Hs H5]
  · isplitl [Hs]; · iexists f; iexact Hs
    iexact H5
  iexact Hx

/-- A block of the partial product, in its place. -/
theorem pf_at {x : Vec F S512x1024 .bf16} {wq wk wv wo : Vec F S1024x1024 .bf16} (hpf : pf c = pfOf x wq wk wv wo) (t : ℕ) {off : Fin 2 → ℕ}
    (ho : off = ![128 * rb c t, 0]) (inb : ∀ a, off a + S128x1024.size a ≤ S512x1024.size a) (y : S128x1024.Idx) :
    pf c ((Rect.unit (s := S512x1024) off S128x1024.size inb).emb y) = attnBlk x wq wk wv wo (rowsAt c t x) y := by
  subst ho
  have hy : (y 0).val < 128 := (y 0).isLt
  have hb := rb_lt c t
  rw [hpf]
  have e0 : ((Rect.unit (s := S512x1024) ![128 * rb c t, 0] S128x1024.size inb).emb y 0).val = 128 * rb c t + 1 * (y 0).val := rfl
  have h1 : (⟨((Rect.unit (s := S512x1024) ![128 * rb c t, 0] S128x1024.size inb).emb y 0).val / 128, by rw [e0]; omega⟩ : Fin 4) = ⟨rb c t, hb⟩ :=
    Fin.ext (by show ((Rect.unit (s := S512x1024) ![128 * rb c t, 0] S128x1024.size inb).emb y 0).val / 128 = rb c t; rw [e0]; omega)
  show attnBlk x wq wk wv wo (rows128 ⟨((Rect.unit (s := S512x1024) ![128 * rb c t, 0] S128x1024.size inb).emb y 0).val / 128, _⟩ x) _ = _
  rw [h1]
  congr 1
  refine ext2 ?_ ?_
  · show (128 * rb c t + 1 * (y 0).val) % 128 = (y 0).val; omega
  · show 0 + 1 * (y 1).val = (y 1).val; omega

theorem step_os {x : Vec F S512x1024 .bf16} {wq wk wv wo : Vec F S1024x1024 .bf16} (hpf : pf c = pfOf x wq wk wv wo)
    {a b i : ℕ} (ha : a < 4) {off : Fin 2 → ℕ} (ho : off = ![128 * rb c a, 0])
    {inb : ∀ a, off a + S128x1024.size a ≤ S512x1024.size a} {w : Vec F S128x1024 .f32}
    (hw : w = attnBlk x wq wk wv wo (rowsAt c a x))
    {hx : (outM.access (Rect.unit (s := S512x1024) off S128x1024.size inb)).Stores Finset.univ}
    {hm : (Finset.univ : Finset S128x1024.Idx) = Finset.univ ∨ ∀ a, (Rect.unit (s := S512x1024) off S128x1024.size inb).stride a = 1}
    {α : Type} {k : PUnit → Pg α} {Q : α → sProp 𝕄} :
    atSt pf κ c x a b i ⊢ iprop((atSt pf κ c x (a + 1) b i -∗ run c (k ⟨⟩) Q)
        -∗ run c (.op (.store outM (Rect.unit (s := S512x1024) off S128x1024.size inb) w Finset.univ hx hm) k) Q) := by
  have hset : (outM.access (Rect.unit (s := S512x1024) off S128x1024.size inb)).set = blkSet (rb c a) :=
    (View.set_slice_whole _ _).trans (rect_blk ho inb)
  have hs : (outM.access (Rect.unit (s := S512x1024) off S128x1024.size inb)).setOn Finset.univ ⊆ blkSet (rb c a) := hset.subset
  have hv : ∀ f, ∀ i ∈ blkSet (rb c a), (outM.access (Rect.unit (s := S512x1024) off S128x1024.size inb)).write (Elt F) f w Finset.univ i = pf c i := by
    intro f; rw [← hset]
    exact write_agree (outM.access (Rect.unit (s := S512x1024) off S128x1024.size inb)) f (pf c) w fun y => by
      rw [hw]; exact pf_at pf c hpf a ho inb y
  unfold atSt
  rw [pool_step (rawOut c) ha, pool_push (outBlk pf c) (Nat.zero_le a)]
  unfold rawOut outBlk
  iintro ⟨H1, H2, ⟨⟨%f, Hs⟩, H3⟩, H4, Hrest⟩ Hk
  iapply (wp_store 𝒱₀ (c : Thread nD τ) none Set.univ (m := outM) hs) $$ Hs
  iintro Hs
  iapply Hk
  isplitl [H1]; · iexact H1
  isplitl [H2]; · iexact H2
  isplitl [H3]; · iexact H3
  isplitl [Hs H4]
  · isplitl [Hs]; · iapply (Entails.of_eq (pointsTo_congr (hv f))); iexact Hs
    iexact H4
  iexact Hrest

theorem step_ss {x : Vec F S512x1024 .bf16} {wq wk wv wo : Vec F S1024x1024 .bf16} (hpf : pf c = pfOf x wq wk wv wo)
    {a b i : ℕ} (hb : b < 4) (hi : i = 4 * b) {off : Fin 2 → ℕ} (ho : off = ![128 * rb c b, 0])
    {inb : ∀ a, off a + S128x1024.size a ≤ S512x1024.size a} {w : Vec F S128x1024 .bf16}
    (hw : w = truncf .bf16 (attnBlk x wq wk wv wo (rowsAt c b x)) bitsLt_bf16_f32)
    {hx : (sndM.access (Rect.unit (s := S512x1024) off S128x1024.size inb)).Stores Finset.univ}
    {hm : (Finset.univ : Finset S128x1024.Idx) = Finset.univ ∨ ∀ a, (Rect.unit (s := S512x1024) off S128x1024.size inb).stride a = 1}
    {α : Type} {k : PUnit → Pg α} {Q : α → sProp 𝕄} :
    atSt pf κ c x a b i ⊢ iprop((atSt pf κ c x a (b + 1) i -∗ run c (k ⟨⟩) Q)
        -∗ run c (.op (.store sndM (Rect.unit (s := S512x1024) off S128x1024.size inb) w Finset.univ hx hm) k) Q) := by
  have hset : (sndM.access (Rect.unit (s := S512x1024) off S128x1024.size inb)).set = blkSet (rb c b) :=
    (View.set_slice_whole _ _).trans (rect_blk ho inb)
  have hs : (sndM.access (Rect.unit (s := S512x1024) off S128x1024.size inb)).setOn Finset.univ ⊆ blkSet (rb c b) := hset.subset
  have hv : ∀ f, ∀ i ∈ blkSet (rb c b), (sndM.access (Rect.unit (s := S512x1024) off S128x1024.size inb)).write (Elt F) f w Finset.univ i = pb pf c i := by
    intro f; rw [← hset]
    exact write_agree (sndM.access (Rect.unit (s := S512x1024) off S128x1024.size inb)) f (pb pf c) w fun y => by
      rw [hw]; exact congrArg (FloatOps.truncf .bf16 bitsLt_bf16_f32) (pf_at pf c hpf b ho inb y)
  subst hi
  unfold atSt
  rw [pool_step (rawSnd c) hb, pool_none]
  unfold rawSnd
  iintro ⟨H1, -, H3, H4, ⟨⟨%f, Hs⟩, H5⟩, Hx⟩ Hk
  iapply (wp_store 𝒱₀ (c : Thread nD τ) none Set.univ (m := sndM) hs) $$ Hs
  iintro Hs
  iapply Hk
  isplitl [H1]; · iexact H1
  isplitl [Hs]
  · iapply (Entails.of_eq ((pointsTo_congr (hv f)).trans (snd_chunks c (pb pf c) b))); iexact Hs
  isplitl [H3]; · iexact H3
  isplitl [H4]; · iexact H4
  isplitl [H5] <;> iassumption

/-- A chunk's turn, among the rest. -/
theorem at_step {x : Vec F S512x1024 .bf16} {a b i : ℕ} (hi : i < 4 * b) {α : Type} {p k : Pg (F := F) α} {Q : α → sProp 𝕄}
    (h : iprop(rsSt pf κ c i ∗ sndAt c (chSet (chunk c i).val) (pb pf c)) ⊢ iprop((rsSt pf κ c (i + 1) -∗ run c k Q) -∗ run c p Q)) :
    atSt pf κ c x a b i ⊢ iprop((atSt pf κ c x a b (i + 1) -∗ run c k Q) -∗ run c p Q) := by
  unfold atSt
  rw [pool_step (sndCh pf c) hi]
  unfold sndCh
  iintro ⟨H1, ⟨Hs, H2⟩, Hrest⟩ Hk
  iapply h $$ [H1 Hs]
  · isplitl [H1] <;> iassumption
  iintro H1
  iapply Hk
  isplitl [H1]; · iexact H1
  isplitl [H2] <;> iassumption

end Cert.KernelIdeal.Reduce

end
-- ==== Proof.Parts.lean ====
/-
# The parts of the body

What the parts below have in common: the buffers and semaphores they are called with, and the sends that a device makes
only of the chunks of others.
-/
module

public import proofs.«01_k».proof.Proof.Blocks

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

/-- A part of the body, at the buffers and semaphores the kernel is called with. -/
abbrev atArgs {β : Type 1} (p : (arg0 : Memref sig .tc .vmem S512x1024 .bf16) → arg0.IsWhole → (arg1 : Memref sig .tc .vmem S1024x1024 .bf16) → arg1.IsWhole → (arg2 : Memref sig .tc .vmem S1024x1024 .bf16) → arg2.IsWhole →
    (arg3 : Memref sig .tc .vmem S1024x1024 .bf16) → arg3.IsWhole → (arg4 : Memref sig .tc .vmem S1024x1024 .bf16) → arg4.IsWhole → (arg5 : Memref sig .tc .vmem S512x1024 .f32) → arg5.IsWhole →
    (arg6 : Memref sig .tc .vmem S512x1024 .bf16) → arg6.IsWhole → (arg7 : Memref sig .tc .vmem S480x1024 .bf16) → arg7.IsWhole → (arg8 : Memref sig .tc .vmem S32x1024 .bf16) → arg8.IsWhole →
    (arg9 : Memref sig .tc .vmem S15x32x1024 .bf16) → arg9.IsWhole → DmaSems sig S16 → DmaSems sig S15 → DmaSems sig S15 → DmaSems sig S15 → DmaSems sig S1 → β) : β :=
  p (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8

variable (pf : Dev nD → Vec F S512x1024 .f32) (κ : GSem nD τ sig → ℕ) (c : Dev nD)

theorem run_bind {α β : Type} {p : Pg (F := F) β} {k : β → Pg α} {Q : α → sProp 𝕄} :
    run c p (fun r => run c (k r) Q) ⊢ run c (p >>= k) Q := Entails.of_eq (wp_bind _ _ _ p k Q).symm
theorem run_ret {β : Type} {r : β} {Q : β → sProp 𝕄} : Q r ⊢ run c (.ret r) Q := by
  iintro H; rw [show run c (.ret r) Q = iprop(|={Set.univ}=> Q r) from wp_ret _ _ _ r Q]; imodintro; iexact H

/-- The condition, the offsets and the device of the `i`-th chunk's send, as the body computes them. -/
def SendAt (i : ℕ) (cond : Dev nD → BitVec 1) (oV : Dev nD → Fin 1 → ℕ) (oD oR : Dev nD → Fin 2 → ℕ) (dev : Dev nD → ℕ) : Prop :=
  ∀ c : Dev nD, (cond c = 1#1 ↔ chunk c i ≠ c) ∧ (cond c = 1#1 → oV c = ![sl c (chunk c i)] ∧ oD c = ![32 * sl c (chunk c i), 0]
    ∧ oR c = ![32 * (chunk c i).val, 0] ∧ dev c = (chunk c i).val)

theorem send1 : SendAt 0 k0_cond1 k0_off2 k0_off3 k0_off4 k0_dev16 := by unfold SendAt; decide +kernel
theorem send2 : SendAt 1 k0_cond2 k0_off5 k0_off6 k0_off7 k0_dev17 := by unfold SendAt; decide +kernel
theorem send3 : SendAt 2 k0_cond3 k0_off8 k0_off9 k0_off10 k0_dev18 := by unfold SendAt; decide +kernel
theorem send4 : SendAt 3 k0_cond4 k0_off11 k0_off12 k0_off13 k0_dev19 := by unfold SendAt; decide +kernel
theorem send5 : SendAt 4 k0_cond5 k0_off14 k0_off15 k0_off16 k0_dev20 := by unfold SendAt; decide +kernel
theorem send6 : SendAt 5 k0_cond6 k0_off17 k0_off18 k0_off19 k0_dev21 := by unfold SendAt; decide +kernel
theorem send7 : SendAt 6 k0_cond7 k0_off20 k0_off21 k0_off22 k0_dev22 := by unfold SendAt; decide +kernel
theorem send8 : SendAt 7 k0_cond8 k0_off23 k0_off24 k0_off25 k0_dev23 := by unfold SendAt; decide +kernel
theorem send9 : SendAt 8 k0_cond9 k0_off26 k0_off27 k0_off28 k0_dev24 := by unfold SendAt; decide +kernel
theorem send10 : SendAt 9 k0_cond10 k0_off29 k0_off30 k0_off31 k0_dev25 := by unfold SendAt; decide +kernel
theorem send11 : SendAt 10 k0_cond11 k0_off32 k0_off33 k0_off34 k0_dev26 := by unfold SendAt; decide +kernel
theorem send12 : SendAt 11 k0_cond12 k0_off35 k0_off36 k0_off37 k0_dev27 := by unfold SendAt; decide +kernel
theorem send13 : SendAt 12 k0_cond13 k0_off38 k0_off39 k0_off40 k0_dev28 := by unfold SendAt; decide +kernel
theorem send14 : SendAt 13 k0_cond14 k0_off41 k0_off42 k0_off43 k0_dev29 := by unfold SendAt; decide +kernel
theorem send15 : SendAt 14 k0_cond15 k0_off44 k0_off45 k0_off46 k0_dev30 := by unfold SendAt; decide +kernel
theorem send16 : SendAt 15 k0_cond16 k0_off47 k0_off48 k0_off49 k0_dev31 := by unfold SendAt; decide +kernel

/-- A conditional send, among the rest of the state. -/
theorem at_rs {i : ℕ} {cond : Dev nD → BitVec 1} {oV : Dev nD → Fin 1 → ℕ} {oD oR : Dev nD → Fin 2 → ℕ} {dev : Dev nD → ℕ}
    (h : SendAt i cond oV oD oR dev) (hi : i < 16) {x : Vec F S512x1024 .bf16} {a b : ℕ} (hb : i < 4 * b)
    {iS : ∀ a, (![i] : Fin 1 → ℕ) a + S1.size a ≤ S16.size a} {iV : cond c = 1#1 → ∀ a, oV c a + S1.size a ≤ S15.size a}
    {iD : cond c = 1#1 → ∀ a, oD c a + S32x1024.size a ≤ S480x1024.size a} {iR : cond c = 1#1 → ∀ a, oR c a + S32x1024.size a ≤ S512x1024.size a}
    {hdev : cond c = 1#1 → dev c < 16}
    {hs hs' : S1.Squeezes S_} {hu : ∀ h : cond c = 1#1, ∀ a, (Rect.unit (s := S480x1024) (oD c) S32x1024.size (iD h)).stride a = 1}
    {hu' : ∀ h : cond c = 1#1, ∀ a, (Rect.unit (s := S512x1024) (oR c) S32x1024.size (iR h)).stride a = 1}
    {hsc : ∀ h : cond c = 1#1, (rsM.slice (Rect.unit (s := S480x1024) (oD c) S32x1024.size (iD h)) (hu h)).view.ref.isScScratch = false}
    {hsrc : ∀ h : cond c = 1#1, (sndM.slice (Rect.unit (s := S512x1024) (oR c) S32x1024.size (iR h)) (hu' h)).view.WordExact}
    {hdst : ∀ h : cond c = 1#1, (rsM.slice (Rect.unit (s := S480x1024) (oD c) S32x1024.size (iD h)) (hu h)).view.WordExact}
    {hsem : ∀ h : cond c = 1#1, DmaTarget.Typed .vmem (.dma ((cc0_scratch5.slice (Rect.unit (s := S15) (oV c) S1.size (iV h))).squeeze S_ hs').sem)
      (.remote (Dev.tc (⟨dev c, hdev h⟩ : Dev nD)) (rsM.slice (Rect.unit (s := S480x1024) (oD c) S32x1024.size (iD h)) (hu h))
        (.dma ((cc0_scratch4.slice (Rect.unit (s := S16) ![i] S1.size iS)).squeeze S_ hs).sem) (hsc h) : DmaTarget nD τ sig .tc .vmem S32x1024 .bf16)}
    {α : Type} {k : Pg α} {Q : α → sProp 𝕄} :
    atSt pf κ c x a b i ⊢ iprop((atSt pf κ c x a b (i + 1) -∗ run c k Q)
        -∗ run c (dite (cond c = 1#1) (fun h => .op (.enqueueDma (sndM.slice (Rect.unit (s := S512x1024) (oR c) S32x1024.size (iR h)) (hu' h))
              (.remote (Dev.tc (⟨dev c, hdev h⟩ : Dev nD)) (rsM.slice (Rect.unit (s := S480x1024) (oD c) S32x1024.size (iD h)) (hu h))
                (.dma ((cc0_scratch4.slice (Rect.unit (s := S16) ![i] S1.size iS)).squeeze S_ hs).sem) (hsc h))
              (.dma ((cc0_scratch5.slice (Rect.unit (s := S15) (oV c) S1.size (iV h))).squeeze S_ hs').sem) (hsrc h) (hdst h) (hsem h)) fun _ => k)
            fun _ => k) Q) :=
  at_step pf κ c hb (step_rs pf κ c hi (h c).1 iS iV iD iR hdev rfl (fun p => ((h c).2 p).1) (fun p => ((h c).2 p).2.1)
    (fun p => ((h c).2 p).2.2.1) fun p => ((h c).2 p).2.2.2)

/-- The device that the `n`-th signal or the `n`-th copy of the second exchange goes to. -/
theorem dev_nx {n : ℕ} {dev : Dev nD → ℕ} (h : ∀ c : Dev nD, dev c = (nx c n).val) (hl : dev c < 16) : (⟨dev c, hl⟩ : Dev nD) = nx c n :=
  Fin.ext (h c)

end Cert.KernelIdeal.Reduce

end
-- ==== Proof.PartsA.lean ====
/-
# The parts of the body up to the first exchange's sends

Each theorem says what one part needs and what it leaves, at any program that goes on from it.
-/
module

public import proofs.«01_k».proof.Proof.Parts

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (pf : Dev nD → Vec F S512x1024 .f32) (κ : GSem nD τ sig → ℕ) (c : Dev nD)

/-- The staged operands: all rows, and the device's columns of the four weights. -/
def inp (x : Vec F S512x1024 .bf16) (wq wk wv wo : Vec F S1024x1024 .bf16) : sProp 𝕄 :=
  iprop(xAt c x ∗ (((c : Thread nD τ).loc cc0_stg1_0) ↦{fullShare} wq) ∗ (((c : Thread nD τ).loc cc0_stg2_0) ↦{fullShare} wk)
    ∗ (((c : Thread nD τ).loc cc0_stg3_0) ↦{fullShare} wv) ∗ (((c : Thread nD τ).loc cc0_stg4_0) ↦{fullShare} wo))

theorem zero2 : (![0, 0] : Fin 2 → ℕ) = fun _ => 0 := by funext a; fin_cases a <;> rfl

theorem part1 {x : Vec F S512x1024 .bf16} {wq wk wv wo : Vec F S1024x1024 .bf16} {α : Type}
    {k : _ → Pg α} {Q : α → sProp 𝕄} :
    inp c x wq wk wv wo
      ⊢ iprop((∀ v2 v19 v33 v16 v34, inp c x wq wk wv wo
          -∗ run c (k ⟨c, v2, v19, k0_pay2 wq, k0_pay3 wo, k0_pay4 x wk, k0_pay5 x wv, SemArray.scalar (sig.barrier 0 rfl), v33, v16, v34⟩) Q)
      -∗ run c (atArgs (k0_part1 (F := F)) >>= k) Q) := by
  iintro HS Hk
  iapply (run_bind c)
  unfold atArgs
  rw [k0_part1_eq_skeleton]
  unfold k0_part1_skel
  simp only [Prog.lift, Prog.bind_op, Prog.bind_ret, Prog.pure_eq_ret, wp_deviceId]
  unfold inp
  icases HS with ⟨Hx, Hq, Hk2, Hv, Ho⟩
  iapply (wp_load 𝒱₀ (c : Thread nD τ) none Set.univ (m := Memref.whole cc0_stg0_0) (Finset.subset_univ _)) $$ Hx
  iintro Hx
  rw [show (Memref.whole cc0_stg0_0).view.readAt (Elt F) (Rect.unit (s := S512x1024) ![0, 0] S512x1024.size inb_S512x1024_S512x1024_0_0).toLoadRect x = x
    from Memref.readAt_unit_zero (Elt F) cc0_stg0_0 zero2 _ x]
  iapply (wp_load 𝒱₀ (c : Thread nD τ) none Set.univ (m := Memref.whole cc0_stg1_0) (Finset.subset_univ _)) $$ Hq
  iintro Hq
  rw [show (Memref.whole cc0_stg1_0).view.readAt (Elt F) (Rect.unit (s := S1024x1024) ![0, 0] S1024x1024.size inb_S1024x1024_S1024x1024_0_0).toLoadRect wq = wq
    from Memref.readAt_unit_zero (Elt F) cc0_stg1_0 zero2 _ wq]
  iapply (wp_load 𝒱₀ (c : Thread nD τ) none Set.univ (m := Memref.whole cc0_stg4_0) (Finset.subset_univ _)) $$ Ho
  iintro Ho
  rw [show (Memref.whole cc0_stg4_0).view.readAt (Elt F) (Rect.unit (s := S1024x1024) ![0, 0] S1024x1024.size inb_S1024x1024_S1024x1024_0_0).toLoadRect wo = wo
    from Memref.readAt_unit_zero (Elt F) cc0_stg4_0 zero2 _ wo]
  iapply (wp_load 𝒱₀ (c : Thread nD τ) none Set.univ (m := Memref.whole cc0_stg2_0) (Finset.subset_univ _)) $$ Hk2
  iintro Hk2
  rw [show (Memref.whole cc0_stg2_0).view.readAt (Elt F) (Rect.unit (s := S1024x1024) ![0, 0] S1024x1024.size inb_S1024x1024_S1024x1024_0_0).toLoadRect wk = wk
    from Memref.readAt_unit_zero (Elt F) cc0_stg2_0 zero2 _ wk]
  iapply (wp_load 𝒱₀ (c : Thread nD τ) none Set.univ (m := Memref.whole cc0_stg3_0) (Finset.subset_univ _)) $$ Hv
  iintro Hv
  rw [show (Memref.whole cc0_stg3_0).view.readAt (Elt F) (Rect.unit (s := S1024x1024) ![0, 0] S1024x1024.size inb_S1024x1024_S1024x1024_0_0).toLoadRect wv = wv
    from Memref.readAt_unit_zero (Elt F) cc0_stg3_0 zero2 _ wv]
  iapply (run_ret c)
  iapply Hk
  isplitl [Hx]; · iexact Hx
  isplitl [Hq]; · iexact Hq
  isplitl [Hk2]; · iexact Hk2
  isplitl [Hv] <;> iassumption

theorem part2 {v2 v33 c16_i32_16 : BitVec 32} {v34 : BitVec 1} {α : Type}
    {k : _ → Pg α} {Q : α → sProp 𝕄} :
    sigSt pf κ c 1
      ⊢ iprop((∀ r, sigSt pf κ c 3 -∗ run c (k r) Q)
      -∗ run c (atArgs (k0_part2 (F := F)) c v2 (SemArray.scalar (sig.barrier 0 rfl)) v33 c16_i32_16 v34 >>= k) Q) := by
  iintro HS Hk
  iapply (run_bind c)
  unfold atArgs
  rw [k0_part2_eq_skeleton]
  unfold k0_part2_skel
  simp only [Prog.lift, Prog.bind_op, Prog.bind_ret, Prog.pure_eq_ret, semSignalWord]
  iapply (step_signal pf κ c (n := 1) (by decide) (by decide) (dev_nx c (by decide +kernel) _)) $$ HS; iintro HS
  iapply (step_signal pf κ c (n := 2) (by decide) (by decide) (dev_nx c (by decide +kernel) _)) $$ HS; iintro HS
  iapply (run_ret c)
  iapply Hk; iexact HS

theorem part3 {v2 v62 : BitVec 32} {v67 : BitVec 1} {v68 : BitVec 32} {α : Type}
    {k : _ → Pg α} {Q : α → sProp 𝕄} :
    sigSt pf κ c 3
      ⊢ iprop((∀ r, sigSt pf κ c 6 -∗ run c (k r) Q)
      -∗ run c (atArgs (k0_part3 (F := F)) c v2 (SemArray.scalar (sig.barrier 0 rfl)) v62 v67 v68 >>= k) Q) := by
  iintro HS Hk
  iapply (run_bind c)
  unfold atArgs
  rw [k0_part3_eq_skeleton]
  unfold k0_part3_skel
  simp only [Prog.lift, Prog.bind_op, Prog.bind_ret, Prog.pure_eq_ret, semSignalWord]
  iapply (step_signal pf κ c (n := 3) (by decide) (by decide) (dev_nx c (by decide +kernel) _)) $$ HS; iintro HS
  iapply (step_signal pf κ c (n := 4) (by decide) (by decide) (dev_nx c (by decide +kernel) _)) $$ HS; iintro HS
  iapply (step_signal pf κ c (n := 5) (by decide) (by decide) (dev_nx c (by decide +kernel) _)) $$ HS; iintro HS
  iapply (run_ret c)
  iapply Hk; iexact HS

theorem part4 {v2 v98 c16_i32_62 : BitVec 32} {v99 : BitVec 1} {α : Type}
    {k : _ → Pg α} {Q : α → sProp 𝕄} :
    sigSt pf κ c 6
      ⊢ iprop((∀ r, sigSt pf κ c 8 -∗ run c (k r) Q)
      -∗ run c (atArgs (k0_part4 (F := F)) c v2 (SemArray.scalar (sig.barrier 0 rfl)) v98 c16_i32_62 v99 >>= k) Q) := by
  iintro HS Hk
  iapply (run_bind c)
  unfold atArgs
  rw [k0_part4_eq_skeleton]
  unfold k0_part4_skel
  simp only [Prog.lift, Prog.bind_op, Prog.bind_ret, Prog.pure_eq_ret, semSignalWord]
  iapply (step_signal pf κ c (n := 6) (by decide) (by decide) (dev_nx c (by decide +kernel) _)) $$ HS; iintro HS
  iapply (step_signal pf κ c (n := 7) (by decide) (by decide) (dev_nx c (by decide +kernel) _)) $$ HS; iintro HS
  iapply (run_ret c)
  iapply Hk; iexact HS

theorem part5 {v2 v127 : BitVec 32} {v132 : BitVec 1} {v133 : BitVec 32} {α : Type}
    {k : _ → Pg α} {Q : α → sProp 𝕄} :
    sigSt pf κ c 8
      ⊢ iprop((∀ r, sigSt pf κ c 11 -∗ run c (k r) Q)
      -∗ run c (atArgs (k0_part5 (F := F)) c v2 (SemArray.scalar (sig.barrier 0 rfl)) v127 v132 v133 >>= k) Q) := by
  iintro HS Hk
  iapply (run_bind c)
  unfold atArgs
  rw [k0_part5_eq_skeleton]
  unfold k0_part5_skel
  simp only [Prog.lift, Prog.bind_op, Prog.bind_ret, Prog.pure_eq_ret, semSignalWord]
  iapply (step_signal pf κ c (n := 8) (by decide) (by decide) (dev_nx c (by decide +kernel) _)) $$ HS; iintro HS
  iapply (step_signal pf κ c (n := 9) (by decide) (by decide) (dev_nx c (by decide +kernel) _)) $$ HS; iintro HS
  iapply (step_signal pf κ c (n := 10) (by decide) (by decide) (dev_nx c (by decide +kernel) _)) $$ HS; iintro HS
  iapply (run_ret c)
  iapply Hk; iexact HS

theorem part6 {v2 v163 c16_i32_107 : BitVec 32} {v164 : BitVec 1} {α : Type}
    {k : _ → Pg α} {Q : α → sProp 𝕄} :
    sigSt pf κ c 11
      ⊢ iprop((∀ r, sigSt pf κ c 13 -∗ run c (k r) Q)
      -∗ run c (atArgs (k0_part6 (F := F)) c v2 (SemArray.scalar (sig.barrier 0 rfl)) v163 c16_i32_107 v164 >>= k) Q) := by
  iintro HS Hk
  iapply (run_bind c)
  unfold atArgs
  rw [k0_part6_eq_skeleton]
  unfold k0_part6_skel
  simp only [Prog.lift, Prog.bind_op, Prog.bind_ret, Prog.pure_eq_ret, semSignalWord]
  iapply (step_signal pf κ c (n := 11) (by decide) (by decide) (dev_nx c (by decide +kernel) _)) $$ HS; iintro HS
  iapply (step_signal pf κ c (n := 12) (by decide) (by decide) (dev_nx c (by decide +kernel) _)) $$ HS; iintro HS
  iapply (run_ret c)
  iapply Hk; iexact HS

theorem part7 {v2 : BitVec 32} {v28 : FVec F S512x1024 .f32} {v192 : BitVec 32} {v197 : BitVec 1} {v198 : BitVec 32} {α : Type}
    {k : _ → Pg α} {Q : α → sProp 𝕄} :
    iprop(sigSt pf κ c 13 ∗ atPos ER (barCell c) 0 ∅ 0 ∗ cred (tallyAt (barCell c) () 15))
      ⊢ iprop(((owing c (owed c 16 0 1) ∗ semVal (barCell c) 0
            ∗ pool (fun i => if chunk c i = c then iprop(emp) else rsGot c (chunk c i)) 0 16 ∗ pool (bcGot c) 1 16) -∗ run c (k (k0_pay6 v28)) Q)
      -∗ run c (atArgs (k0_part7 (F := F)) c v2 v28 (SemArray.scalar (sig.barrier 0 rfl)) v192 v197 v198 >>= k) Q) := by
  iintro ⟨HS, Ha, Hc⟩ Hk
  iapply (run_bind c)
  unfold atArgs
  rw [k0_part7_eq_skeleton]
  unfold k0_part7_skel
  simp only [Prog.lift, Prog.bind_op, Prog.bind_ret, Prog.pure_eq_ret, semSignalWord, semWaitWord]
  iapply (step_signal pf κ c (n := 13) (by decide) (by decide) (dev_nx c (by decide +kernel) _)) $$ HS; iintro HS
  iapply (step_signal pf κ c (n := 14) (by decide) (by decide) (dev_nx c (by decide +kernel) _)) $$ HS; iintro HS
  iapply (step_signal pf κ c (n := 15) (by decide) (by decide) (dev_nx c (by decide +kernel) _)) $$ HS; iintro HS
  unfold sigSt
  icases HS with ⟨#HR, HO, -⟩
  iapply (step_barrier pf κ c) $$ [HO Ha Hc]
  · isplitr; · iexact HR
    isplitl [HO]; · iexact HO
    isplitl [Ha] <;> iassumption
  iintro HS
  iapply (run_ret c)
  iapply Hk; iexact HS

theorem part8 {x : Vec F S512x1024 .bf16} {v19 : BitVec 32} {v23 : FVec F S1024x1024 .bf16} {v28 v31 : FVec F S512x1024 .f32} {v229 : FVec F S512x128 .bf16} {α : Type}
    {k : _ → Pg α} {Q : α → sProp 𝕄} :
    atSt pf κ c x 0 0 0
      ⊢ iprop((∀ v270 v271, atSt pf κ c x 0 0 0 -∗ run c (k ⟨k0_pay7 v28, k0_pay8 v28, k0_pay9 v28, k0_pay10 v28, k0_pay11 v28, k0_pay12 v28, k0_pay13 v28, k0_pay14 v31, k0_pay15 v31, k0_pay16 v31, k0_pay17 v31, k0_pay18 v31, k0_pay19 v31, k0_pay20 v31, k0_pay21 v31, v270, v271, k0_pay22 v23 (rowsAt c 0 x), k0_pay23 v23 v229 (rowsAt c 0 x)⟩) Q)
      -∗ run c (atArgs (k0_part8 (F := F)) c v19 v23 v28 v31 v229 >>= k) Q) := by
  iintro HS Hk
  iapply (run_bind c)
  unfold atArgs
  rw [k0_part8_eq_skeleton]
  unfold k0_part8_skel
  simp only [Prog.lift, Prog.bind_op, Prog.bind_ret, Prog.pure_eq_ret]
  iapply (step_xl pf κ c (t := 0) ((by decide +kernel : ∀ c : Dev nD, k0_off1 c 0#32 = ![128 * rb c 0, 0]) c)) $$ HS; iintro HS
  iapply (run_ret c)
  iapply Hk; iexact HS

theorem part9 {v231 v233 v245 v247 v249 : FVec F S512x128 .bf16} {v275 : FVec F S128x1024 .f32} {v278 : FVec F S128x512 .f32} {α : Type}
    {k : _ → Pg α} {Q : α → sProp 𝕄} :
    run c (k ⟨k0_pay24 v245 v278, k0_pay25 v231 v247 v275, k0_pay27 v233 v249 v275, k0_pay28 v233 v275⟩) Q ⊢ run c (atArgs (k0_part9 (F := F)) v231 v233 v245 v247 v249 v275 v278 >>= k) Q := by
  unfold atArgs
  rw [k0_part9_eq_skeleton]
  unfold k0_part9_skel
  exact .rfl

theorem part10 {v235 v237 v239 v251 v253 : FVec F S512x128 .bf16} {v275 : FVec F S128x1024 .f32} {v323 v324 : FVec F S128x128 .f32} {α : Type}
    {k : _ → Pg α} {Q : α → sProp 𝕄} :
    run c (k ⟨k0_pay29 v323 v324, k0_pay30 v235 v251 v275, k0_pay31 v237 v253 v275, k0_pay32 v239 v275⟩) Q ⊢ run c (atArgs (k0_part10 (F := F)) v235 v237 v239 v251 v253 v275 v323 v324 >>= k) Q := by
  unfold atArgs
  rw [k0_part10_eq_skeleton]
  unfold k0_part10_skel
  exact .rfl

theorem part11 {x : Vec F S512x1024 .bf16} {wq wk wv wo : Vec F S1024x1024 .bf16} (hpf : pf c = pfOf x wq wk wv wo) {v25 : FVec F S1024x1024 .bf16} {v241 v243 v255 v257 v259 : FVec F S512x128 .bf16} {v271 : BitVec 32} {v275 : FVec F S128x1024 .f32} {v292 v309 v326 v343 v360 : FVec F S128x128 .bf16} {v370 : FVec F S128x512 .f32} (hw : k0_pay33 v25 v241 v243 v255 v257 v259 v275 v292 v309 v326 v343 v360 v370 = attnBlk x wq wk wv wo (rowsAt c 0 x)) {α : Type}
    {k : _ → Pg α} {Q : α → sProp 𝕄} :
    atSt pf κ c x 0 0 0
      ⊢ iprop((atSt pf κ c x 1 0 0 -∗ run c (k (truncf .bf16 (attnBlk x wq wk wv wo (rowsAt c 0 x)) bitsLt_bf16_f32)) Q)
      -∗ run c (atArgs (k0_part11 (F := F)) c v25 v241 v243 v255 v257 v259 v271 v275 v292 v309 v326 v343 v360 v370 >>= k) Q) := by
  iintro HS Hk
  iapply (run_bind c)
  unfold atArgs
  rw [k0_part11_eq_skeleton]
  unfold k0_part11_skel
  simp only [Prog.lift, Prog.bind_op, Prog.bind_ret, Prog.pure_eq_ret]
  iapply (step_od pf κ c (by decide) ((by decide +kernel : ∀ c : Dev nD, k0_off1 c 0#32 = ![128 * rb c 0, 0]) c)) $$ HS; iintro %_ HS
  iapply (step_os pf κ c hpf (by decide) ((by decide +kernel : ∀ c : Dev nD, k0_off1 c 0#32 = ![128 * rb c 0, 0]) c) hw) $$ HS; iintro HS
  have e : k0_pay34 v25 v241 v243 v255 v257 v259 v275 v292 v309 v326 v343 v360 v370 = truncf .bf16 (k0_pay33 v25 v241 v243 v255 v257 v259 v275 v292 v309 v326 v343 v360 v370) bitsLt_bf16_f32 := rfl
  rw [e, hw]
  iapply (run_ret c)
  iapply Hk; iexact HS

theorem part12 {x : Vec F S512x1024 .bf16} {wq wk wv wo : Vec F S1024x1024 .bf16} (hpf : pf c = pfOf x wq wk wv wo) {v2 v270 v271 : BitVec 32} {α : Type}
    {k : _ → Pg α} {Q : α → sProp 𝕄} :
    atSt pf κ c x 1 0 0
      ⊢ iprop((∀ r, atSt pf κ c x 1 1 1 -∗ run c (k r) Q)
      -∗ run c (atArgs (k0_part12 (F := F)) c v2 v270 v271 (truncf .bf16 (attnBlk x wq wk wv wo (rowsAt c 0 x)) bitsLt_bf16_f32) >>= k) Q) := by
  iintro HS Hk
  iapply (run_bind c)
  unfold atArgs
  rw [k0_part12_eq_skeleton]
  unfold k0_part12_skel
  simp only [Prog.lift, Prog.bind_op, Prog.bind_ret, Prog.pure_eq_ret]
  iapply (step_sd pf κ c (by decide) ((by decide +kernel : ∀ c : Dev nD, k0_off1 c 0#32 = ![128 * rb c 0, 0]) c)) $$ HS; iintro %_ HS
  iapply (step_ss pf κ c hpf (by decide) rfl ((by decide +kernel : ∀ c : Dev nD, k0_off1 c 0#32 = ![128 * rb c 0, 0]) c) (shapeCast_self _ _)) $$ HS; iintro HS
  iapply (at_rs pf κ c send1 (by decide) (by decide)) $$ HS; iintro HS
  iapply (run_ret c)
  iapply Hk; iexact HS

theorem part13 {x : Vec F S512x1024 .bf16} {v2 v270 v442 v446 v447 : BitVec 32} {v448 v449 v450 : BitVec 1} {α : Type}
    {k : _ → Pg α} {Q : α → sProp 𝕄} :
    atSt pf κ c x 1 1 1
      ⊢ iprop((∀ r, atSt pf κ c x 1 1 3 -∗ run c (k r) Q)
      -∗ run c (atArgs (k0_part13 (F := F)) c v2 v270 v442 v446 v447 v448 v449 v450 >>= k) Q) := by
  iintro HS Hk
  iapply (run_bind c)
  unfold atArgs
  rw [k0_part13_eq_skeleton]
  unfold k0_part13_skel
  simp only [Prog.lift, Prog.bind_op, Prog.bind_ret, Prog.pure_eq_ret]
  iapply (at_rs pf κ c send2 (by decide) (by decide)) $$ HS; iintro HS
  iapply (at_rs pf κ c send3 (by decide) (by decide)) $$ HS; iintro HS
  iapply (run_ret c)
  iapply Hk; iexact HS

theorem part14 {x : Vec F S512x1024 .bf16} {v2 v19 : BitVec 32} {v23 : FVec F S1024x1024 .bf16} {v229 : FVec F S512x128 .bf16} {v482 v484 c16_i32_249 c0_i32_250 : BitVec 32} {α : Type}
    {k : _ → Pg α} {Q : α → sProp 𝕄} :
    atSt pf κ c x 1 1 3
      ⊢ iprop((∀ v498 v511 v512, atSt pf κ c x 1 1 4 -∗ run c (k ⟨v498, v511, v512, k0_pay36 v23 (rowsAt c 1 x), k0_pay37 v23 v229 (rowsAt c 1 x)⟩) Q)
      -∗ run c (atArgs (k0_part14 (F := F)) c v2 v19 v23 v229 v482 v484 c16_i32_249 c0_i32_250 >>= k) Q) := by
  iintro HS Hk
  iapply (run_bind c)
  unfold atArgs
  rw [k0_part14_eq_skeleton]
  unfold k0_part14_skel
  simp only [Prog.lift, Prog.bind_op, Prog.bind_ret, Prog.pure_eq_ret]
  iapply (at_rs pf κ c send4 (by decide) (by decide)) $$ HS; iintro HS
  iapply (step_xl pf κ c (t := 1) ((by decide +kernel : ∀ c : Dev nD, k0_off1 c 1#32 = ![128 * rb c 1, 0]) c)) $$ HS; iintro HS
  iapply (run_ret c)
  iapply Hk; iexact HS

theorem part15 {v231 v233 v245 v247 v249 : FVec F S512x128 .bf16} {v516 : FVec F S128x1024 .f32} {v521 : FVec F S128x512 .f32} {α : Type}
    {k : _ → Pg α} {Q : α → sProp 𝕄} :
    run c (k ⟨k0_pay38 v245 v521, k0_pay39 v231 v247 v516, k0_pay40 v233 v249 v516, k0_pay41 v516⟩) Q ⊢ run c (atArgs (k0_part15 (F := F)) v231 v233 v245 v247 v249 v516 v521 >>= k) Q := by
  unfold atArgs
  rw [k0_part15_eq_skeleton]
  unfold k0_part15_skel
  exact .rfl

theorem part16 {v235 v237 v239 v251 v253 : FVec F S512x128 .bf16} {v516 : FVec F S128x1024 .f32} {v569 : FVec F S128x128 .bf16} {α : Type}
    {k : _ → Pg α} {Q : α → sProp 𝕄} :
    run c (k ⟨k0_pay42 v235 v251 v569, k0_pay43 v237 v253 v516, k0_pay45 v239 v516, k0_pay46 v239 v516, constant S128x128 .f32 0x00000000#32⟩) Q ⊢ run c (atArgs (k0_part16 (F := F)) v235 v237 v239 v251 v253 v516 v569 >>= k) Q := by
  unfold atArgs
  rw [k0_part16_eq_skeleton]
  unfold k0_part16_skel
  exact .rfl

theorem part17 {x : Vec F S512x1024 .bf16} {wq wk wv wo : Vec F S1024x1024 .bf16} (hpf : pf c = pfOf x wq wk wv wo) {v25 : FVec F S1024x1024 .bf16} {v241 v243 v255 v257 v259 : FVec F S512x128 .bf16} {v512 : BitVec 32} {v516 : FVec F S128x1024 .f32} {v533 v550 v567 v584 v601 : FVec F S128x128 .bf16} {v613 : FVec F S128x1 .f32} {v614 : FVec F S128x512 .bf16} {cst_299 : FVec F S128x128 .f32} (hw : k0_pay47 v25 v241 v243 v255 v257 v259 v516 v533 v550 v567 v584 v601 v613 v614 cst_299 = attnBlk x wq wk wv wo (rowsAt c 1 x)) {α : Type}
    {k : _ → Pg α} {Q : α → sProp 𝕄} :
    atSt pf κ c x 1 1 4
      ⊢ iprop((atSt pf κ c x 2 1 4 -∗ run c (k (truncf .bf16 (attnBlk x wq wk wv wo (rowsAt c 1 x)) bitsLt_bf16_f32)) Q)
      -∗ run c (atArgs (k0_part17 (F := F)) c v25 v241 v243 v255 v257 v259 v512 v516 v533 v550 v567 v584 v601 v613 v614 cst_299 >>= k) Q) := by
  iintro HS Hk
  iapply (run_bind c)
  unfold atArgs
  rw [k0_part17_eq_skeleton]
  unfold k0_part17_skel
  simp only [Prog.lift, Prog.bind_op, Prog.bind_ret, Prog.pure_eq_ret]
  iapply (step_od pf κ c (by decide) ((by decide +kernel : ∀ c : Dev nD, k0_off1 c 1#32 = ![128 * rb c 1, 0]) c)) $$ HS; iintro %_ HS
  iapply (step_os pf κ c hpf (by decide) ((by decide +kernel : ∀ c : Dev nD, k0_off1 c 1#32 = ![128 * rb c 1, 0]) c) hw) $$ HS; iintro HS
  iapply (step_sd pf κ c (by decide) ((by decide +kernel : ∀ c : Dev nD, k0_off1 c 1#32 = ![128 * rb c 1, 0]) c)) $$ HS; iintro %_ HS
  have e : k0_pay48 v25 v241 v243 v255 v257 v259 v516 v533 v550 v567 v584 v601 v613 v614 cst_299 = truncf .bf16 (k0_pay47 v25 v241 v243 v255 v257 v259 v516 v533 v550 v567 v584 v601 v613 v614 cst_299) bitsLt_bf16_f32 := rfl
  rw [e, hw]
  iapply (run_ret c)
  iapply Hk; iexact HS

theorem part18 {x : Vec F S512x1024 .bf16} {wq wk wv wo : Vec F S1024x1024 .bf16} (hpf : pf c = pfOf x wq wk wv wo) {v2 v511 : BitVec 32} {α : Type}
    {k : _ → Pg α} {Q : α → sProp 𝕄} :
    atSt pf κ c x 2 1 4
      ⊢ iprop((∀ r, atSt pf κ c x 2 2 5 -∗ run c (k r) Q)
      -∗ run c (atArgs (k0_part18 (F := F)) c v2 v511 (truncf .bf16 (attnBlk x wq wk wv wo (rowsAt c 1 x)) bitsLt_bf16_f32) >>= k) Q) := by
  iintro HS Hk
  iapply (run_bind c)
  unfold atArgs
  rw [k0_part18_eq_skeleton]
  unfold k0_part18_skel
  simp only [Prog.lift, Prog.bind_op, Prog.bind_ret, Prog.pure_eq_ret]
  iapply (step_ss pf κ c hpf (by decide) rfl ((by decide +kernel : ∀ c : Dev nD, k0_off1 c 1#32 = ![128 * rb c 1, 0]) c) (shapeCast_self _ _)) $$ HS; iintro HS
  iapply (at_rs pf κ c send5 (by decide) (by decide)) $$ HS; iintro HS
  iapply (run_ret c)
  iapply Hk; iexact HS

theorem part19 {x : Vec F S512x1024 .bf16} {v2 v511 v683 v695 : BitVec 32} {α : Type}
    {k : _ → Pg α} {Q : α → sProp 𝕄} :
    atSt pf κ c x 2 2 5
      ⊢ iprop((∀ r, atSt pf κ c x 2 2 7 -∗ run c (k r) Q)
      -∗ run c (atArgs (k0_part19 (F := F)) c v2 v511 v683 v695 >>= k) Q) := by
  iintro HS Hk
  iapply (run_bind c)
  unfold atArgs
  rw [k0_part19_eq_skeleton]
  unfold k0_part19_skel
  simp only [Prog.lift, Prog.bind_op, Prog.bind_ret, Prog.pure_eq_ret]
  iapply (at_rs pf κ c send6 (by decide) (by decide)) $$ HS; iintro HS
  iapply (at_rs pf κ c send7 (by decide) (by decide)) $$ HS; iintro HS
  iapply (run_ret c)
  iapply Hk; iexact HS

theorem part20 {x : Vec F S512x1024 .bf16} {v2 v19 : BitVec 32} {v23 : FVec F S1024x1024 .bf16} {v229 : FVec F S512x128 .bf16} {v723 v727 v728 : BitVec 32} {α : Type}
    {k : _ → Pg α} {Q : α → sProp 𝕄} :
    atSt pf κ c x 2 2 7
      ⊢ iprop((∀ v739 v752 v753, atSt pf κ c x 2 2 8 -∗ run c (k ⟨v739, v752, v753, k0_pay50 v23 (rowsAt c 2 x), k0_pay51 v23 v229 (rowsAt c 2 x)⟩) Q)
      -∗ run c (atArgs (k0_part20 (F := F)) c v2 v19 v23 v229 v723 v727 v728 >>= k) Q) := by
  iintro HS Hk
  iapply (run_bind c)
  unfold atArgs
  rw [k0_part20_eq_skeleton]
  unfold k0_part20_skel
  simp only [Prog.lift, Prog.bind_op, Prog.bind_ret, Prog.pure_eq_ret]
  iapply (at_rs pf κ c send8 (by decide) (by decide)) $$ HS; iintro HS
  iapply (step_xl pf κ c (t := 2) ((by decide +kernel : ∀ c : Dev nD, k0_off1 c 2#32 = ![128 * rb c 2, 0]) c)) $$ HS; iintro HS
  iapply (run_ret c)
  iapply Hk; iexact HS

theorem part21 {v231 v233 v235 v245 v247 v249 : FVec F S512x128 .bf16} {v757 : FVec F S128x1024 .f32} {v766 : FVec F S128x512 .f32} {α : Type}
    {k : _ → Pg α} {Q : α → sProp 𝕄} :
    run c (k ⟨k0_pay52 v245 v766, k0_pay53 v231 v247 v757, k0_pay54 v233 v249 v757, k0_pay55 v235 v757, k0_pay56 (F := F)⟩) Q ⊢ run c (atArgs (k0_part21 (F := F)) v231 v233 v235 v245 v247 v249 v757 v766 >>= k) Q := by
  unfold atArgs
  rw [k0_part21_eq_skeleton]
  unfold k0_part21_skel
  exact .rfl

theorem part22 {v237 v239 v251 v253 v255 : FVec F S512x128 .bf16} {v757 : FVec F S128x1024 .f32} {v811 v812 : FVec F S128x512 .f32} {α : Type}
    {k : _ → Pg α} {Q : α → sProp 𝕄} :
    run c (k ⟨k0_pay57 v251 v811 v812, k0_pay58 v237 v253 v757, k0_pay59 v239 v255 v757⟩) Q ⊢ run c (atArgs (k0_part22 (F := F)) v237 v239 v251 v253 v255 v757 v811 v812 >>= k) Q := by
  unfold atArgs
  rw [k0_part22_eq_skeleton]
  unfold k0_part22_skel
  exact .rfl

theorem part23 {x : Vec F S512x1024 .bf16} {wq wk wv wo : Vec F S1024x1024 .bf16} (hpf : pf c = pfOf x wq wk wv wo) {v25 : FVec F S1024x1024 .bf16} {v241 v243 v257 v259 : FVec F S512x128 .bf16} {v752 v753 : BitVec 32} {v757 : FVec F S128x1024 .f32} {v774 v791 v808 v825 v842 v859 : FVec F S128x128 .bf16} (hw : k0_pay60 v25 v241 v243 v257 v259 v757 v774 v791 v808 v825 v842 v859 = attnBlk x wq wk wv wo (rowsAt c 2 x)) {α : Type}
    {k : _ → Pg α} {Q : α → sProp 𝕄} :
    atSt pf κ c x 2 2 8
      ⊢ iprop((∀ r, atSt pf κ c x 3 3 8 -∗ run c (k r) Q)
      -∗ run c (atArgs (k0_part23 (F := F)) c v25 v241 v243 v257 v259 v752 v753 v757 v774 v791 v808 v825 v842 v859 >>= k) Q) := by
  iintro HS Hk
  iapply (run_bind c)
  unfold atArgs
  rw [k0_part23_eq_skeleton]
  unfold k0_part23_skel
  simp only [Prog.lift, Prog.bind_op, Prog.bind_ret, Prog.pure_eq_ret]
  have e : k0_pay61 v25 v241 v243 v257 v259 v757 v774 v791 v808 v825 v842 v859 = truncf .bf16 (attnBlk x wq wk wv wo (rowsAt c 2 x)) bitsLt_bf16_f32 := by
    rw [← hw]; exact shapeCast_self _ _
  iapply (step_od pf κ c (by decide) ((by decide +kernel : ∀ c : Dev nD, k0_off1 c 2#32 = ![128 * rb c 2, 0]) c)) $$ HS; iintro %_ HS
  iapply (step_os pf κ c hpf (by decide) ((by decide +kernel : ∀ c : Dev nD, k0_off1 c 2#32 = ![128 * rb c 2, 0]) c) hw) $$ HS; iintro HS
  iapply (step_sd pf κ c (by decide) ((by decide +kernel : ∀ c : Dev nD, k0_off1 c 2#32 = ![128 * rb c 2, 0]) c)) $$ HS; iintro %_ HS
  iapply (step_ss pf κ c hpf (by decide) rfl ((by decide +kernel : ∀ c : Dev nD, k0_off1 c 2#32 = ![128 * rb c 2, 0]) c) e) $$ HS; iintro HS
  iapply (run_ret c)
  iapply Hk; iexact HS

theorem part24 {x : Vec F S512x1024 .bf16} {v2 v752 v903 : BitVec 32} {α : Type}
    {k : _ → Pg α} {Q : α → sProp 𝕄} :
    atSt pf κ c x 3 3 8
      ⊢ iprop((∀ r, atSt pf κ c x 3 3 9 -∗ run c (k r) Q)
      -∗ run c (atArgs (k0_part24 (F := F)) c v2 v752 v903 >>= k) Q) := by
  iintro HS Hk
  iapply (run_bind c)
  unfold atArgs
  rw [k0_part24_eq_skeleton]
  unfold k0_part24_skel
  simp only [Prog.lift, Prog.bind_op, Prog.bind_ret, Prog.pure_eq_ret]
  iapply (at_rs pf κ c send9 (by decide) (by decide)) $$ HS; iintro HS
  iapply (run_ret c)
  iapply Hk; iexact HS

theorem part25 {x : Vec F S512x1024 .bf16} {v2 v752 v924 v937 : BitVec 32} {α : Type}
    {k : _ → Pg α} {Q : α → sProp 𝕄} :
    atSt pf κ c x 3 3 9
      ⊢ iprop((∀ r, atSt pf κ c x 3 3 11 -∗ run c (k r) Q)
      -∗ run c (atArgs (k0_part25 (F := F)) c v2 v752 v924 v937 >>= k) Q) := by
  iintro HS Hk
  iapply (run_bind c)
  unfold atArgs
  rw [k0_part25_eq_skeleton]
  unfold k0_part25_skel
  simp only [Prog.lift, Prog.bind_op, Prog.bind_ret, Prog.pure_eq_ret]
  iapply (at_rs pf κ c send10 (by decide) (by decide)) $$ HS; iintro HS
  iapply (at_rs pf κ c send11 (by decide) (by decide)) $$ HS; iintro HS
  iapply (run_ret c)
  iapply Hk; iexact HS

theorem part26 {x : Vec F S512x1024 .bf16} {v2 v19 : BitVec 32} {v23 : FVec F S1024x1024 .bf16} {v229 : FVec F S512x128 .bf16} {v964 v968 v969 : BitVec 32} {v970 v971 : BitVec 1} {α : Type}
    {k : _ → Pg α} {Q : α → sProp 𝕄} :
    atSt pf κ c x 3 3 11
      ⊢ iprop((∀ v980 v993 v994, atSt pf κ c x 3 3 12 -∗ run c (k ⟨v980, v993, v994, k0_pay62 v23 (rowsAt c 3 x), k0_pay63 v23 v229 (rowsAt c 3 x), k0_pay64 v23 v229 (rowsAt c 3 x)⟩) Q)
      -∗ run c (atArgs (k0_part26 (F := F)) c v2 v19 v23 v229 v964 v968 v969 v970 v971 >>= k) Q) := by
  iintro HS Hk
  iapply (run_bind c)
  unfold atArgs
  rw [k0_part26_eq_skeleton]
  unfold k0_part26_skel
  simp only [Prog.lift, Prog.bind_op, Prog.bind_ret, Prog.pure_eq_ret]
  iapply (at_rs pf κ c send12 (by decide) (by decide)) $$ HS; iintro HS
  iapply (step_xl pf κ c (t := 3) ((by decide +kernel : ∀ c : Dev nD, k0_off1 c 3#32 = ![128 * rb c 3, 0]) c)) $$ HS; iintro HS
  iapply (run_ret c)
  iapply Hk; iexact HS

theorem part27 {v231 v233 v235 v245 v247 v249 : FVec F S512x128 .bf16} {v998 : FVec F S128x1024 .f32} {v1008 : FVec F S128x512 .f32} {v1010 : FVec F S128x1 .f32} {α : Type}
    {k : _ → Pg α} {Q : α → sProp 𝕄} :
    run c (k ⟨k0_pay65 v245 v1008 v1010, k0_pay66 v231 v247 v998, k0_pay67 v233 v249 v998, k0_pay68 v235 v998, k0_pay69 v235 v998⟩) Q ⊢ run c (atArgs (k0_part27 (F := F)) v231 v233 v235 v245 v247 v249 v998 v1008 v1010 >>= k) Q := by
  unfold atArgs
  rw [k0_part27_eq_skeleton]
  unfold k0_part27_skel
  exact .rfl

theorem part28 {v237 v239 v241 v251 v253 v255 : FVec F S512x128 .bf16} {v998 : FVec F S128x1024 .f32} {v1054 : FVec F S128x512 .f32} {v1056 : FVec F S128x1 .f32} {α : Type}
    {k : _ → Pg α} {Q : α → sProp 𝕄} :
    run c (k ⟨k0_pay70 v251 v1054 v1056, k0_pay71 v237 v253 v998, k0_pay72 v239 v255 v998, k0_pay73 v241 v998⟩) Q ⊢ run c (atArgs (k0_part28 (F := F)) v237 v239 v241 v251 v253 v255 v998 v1054 v1056 >>= k) Q := by
  unfold atArgs
  rw [k0_part28_eq_skeleton]
  unfold k0_part28_skel
  exact .rfl

theorem part29 {x : Vec F S512x1024 .bf16} {wq wk wv wo : Vec F S1024x1024 .bf16} (hpf : pf c = pfOf x wq wk wv wo) {v2 : BitVec 32} {v25 : FVec F S1024x1024 .bf16} {v243 v257 v259 : FVec F S512x128 .bf16} {v993 v994 : BitVec 32} {v998 : FVec F S128x1024 .f32} {v1015 v1032 v1049 v1066 v1083 v1100 : FVec F S128x128 .bf16} {v1103 : FVec F S128x512 .f32} (hw : k0_pay74 v25 v243 v257 v259 v998 v1015 v1032 v1049 v1066 v1083 v1100 v1103 = attnBlk x wq wk wv wo (rowsAt c 3 x)) {α : Type}
    {k : _ → Pg α} {Q : α → sProp 𝕄} :
    atSt pf κ c x 3 3 12
      ⊢ iprop((∀ r, atSt pf κ c x 4 4 12 -∗ run c (k r) Q)
      -∗ run c (atArgs (k0_part29 (F := F)) c v2 v25 v243 v257 v259 v993 v994 v998 v1015 v1032 v1049 v1066 v1083 v1100 v1103 >>= k) Q) := by
  iintro HS Hk
  iapply (run_bind c)
  unfold atArgs
  rw [k0_part29_eq_skeleton]
  unfold k0_part29_skel
  simp only [Prog.lift, Prog.bind_op, Prog.bind_ret, Prog.pure_eq_ret]
  have e : k0_pay75 v25 v243 v257 v259 v998 v1015 v1032 v1049 v1066 v1083 v1100 v1103 = truncf .bf16 (attnBlk x wq wk wv wo (rowsAt c 3 x)) bitsLt_bf16_f32 := by
    rw [← hw]; exact shapeCast_self _ _
  iapply (step_od pf κ c (by decide) ((by decide +kernel : ∀ c : Dev nD, k0_off1 c 3#32 = ![128 * rb c 3, 0]) c)) $$ HS; iintro %_ HS
  iapply (step_os pf κ c hpf (by decide) ((by decide +kernel : ∀ c : Dev nD, k0_off1 c 3#32 = ![128 * rb c 3, 0]) c) hw) $$ HS; iintro HS
  iapply (step_sd pf κ c (by decide) ((by decide +kernel : ∀ c : Dev nD, k0_off1 c 3#32 = ![128 * rb c 3, 0]) c)) $$ HS; iintro %_ HS
  iapply (step_ss pf κ c hpf (by decide) rfl ((by decide +kernel : ∀ c : Dev nD, k0_off1 c 3#32 = ![128 * rb c 3, 0]) c) e) $$ HS; iintro HS
  iapply (run_ret c)
  iapply Hk; iexact HS

theorem part30 {x : Vec F S512x1024 .bf16} {v2 v993 v1145 v1146 c1_i32_533 : BitVec 32} {α : Type}
    {k : _ → Pg α} {Q : α → sProp 𝕄} :
    atSt pf κ c x 4 4 12
      ⊢ iprop((∀ r, atSt pf κ c x 4 4 13 -∗ run c (k r) Q)
      -∗ run c (atArgs (k0_part30 (F := F)) c v2 v993 v1145 v1146 c1_i32_533 >>= k) Q) := by
  iintro HS Hk
  iapply (run_bind c)
  unfold atArgs
  rw [k0_part30_eq_skeleton]
  unfold k0_part30_skel
  simp only [Prog.lift, Prog.bind_op, Prog.bind_ret, Prog.pure_eq_ret]
  iapply (at_rs pf κ c send13 (by decide) (by decide)) $$ HS; iintro HS
  iapply (run_ret c)
  iapply Hk; iexact HS

theorem part31 {x : Vec F S512x1024 .bf16} {v2 v993 v1165 v1182 : BitVec 32} {α : Type}
    {k : _ → Pg α} {Q : α → sProp 𝕄} :
    atSt pf κ c x 4 4 13
      ⊢ iprop((∀ r, atSt pf κ c x 4 4 15 -∗ run c (k r) Q)
      -∗ run c (atArgs (k0_part31 (F := F)) c v2 v993 v1165 v1182 >>= k) Q) := by
  iintro HS Hk
  iapply (run_bind c)
  unfold atArgs
  rw [k0_part31_eq_skeleton]
  unfold k0_part31_skel
  simp only [Prog.lift, Prog.bind_op, Prog.bind_ret, Prog.pure_eq_ret]
  iapply (at_rs pf κ c send14 (by decide) (by decide)) $$ HS; iintro HS
  iapply (at_rs pf κ c send15 (by decide) (by decide)) $$ HS; iintro HS
  iapply (run_ret c)
  iapply Hk; iexact HS

end Cert.KernelIdeal.Reduce

end
-- ==== Proof.PartsB.lean ====
/-
# The parts of the body from the first exchange's waits to the end

Each theorem says what one part needs and what it leaves, at any program that goes on from it.
-/
module

public import Idealize.ShloMosaic.Lib.ValueLayout

public import proofs.«01_k».proof.Proof.PartsA

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (pf : Dev nD → Vec F S512x1024 .f32) (κ : GSem nD τ sig → ℕ) (c : Dev nD)

theorem rs_credit {off : Fin 2 → ℕ} (inb : ∀ a, off a + S32x1024.size a ≤ S480x1024.size a)
    (hu : ∀ a, (Rect.unit (s := S480x1024) off S32x1024.size inb).stride a = 1) :
    (rsM.slice (Rect.unit (s := S480x1024) off S32x1024.size inb) hu).view.dmaCredit = N := rfl
theorem snd_credit {off : Fin 2 → ℕ} (inb : ∀ a, off a + S32x1024.size a ≤ S512x1024.size a)
    (hu : ∀ a, (Rect.unit (s := S512x1024) off S32x1024.size inb).stride a = 1) :
    (sndM.slice (Rect.unit (s := S512x1024) off S32x1024.size inb) hu).view.dmaCredit = N := rfl
theorem bc_credit {off : Fin 3 → ℕ} (inb : ∀ a, off a + S1x32x1024.size a ≤ S15x32x1024.size a)
    (hu : ∀ a, (Rect.unit (s := S15x32x1024) off S1x32x1024.size inb).stride a = 1) (hs : S1x32x1024.Squeezes S32x1024) :
    ((bcM.slice (Rect.unit (s := S15x32x1024) off S1x32x1024.size inb) hu).squeeze S32x1024 hs).view.dmaCredit = N := rfl
theorem src_credit : srcM.view.dmaCredit = N := rfl

/-- All chunks sent and all row blocks stored: the partial product is whole. -/
theorem at_end {x : Vec F S512x1024 .bf16} : iprop(atSt pf κ c x 4 4 16 ∗ pool (rsWait c) 0 15)
    ⊢ iprop(rwSt pf κ c 0 ∗ pool (rsSent pf c) 0 16 ∗ outAt c Finset.univ (pf c) ∗ xAt c x) := by
  unfold atSt rsSt rwSt
  rw [out_blocks c (pf c)]
  iintro ⟨⟨⟨#HR, HO, -, HS⟩, -, -, Hout, -, Hx⟩, Hw⟩
  isplitl [HO Hw]
  · isplitr; · iexact HR
    isplitl [HO]; · iexact HO
    isplitl [Hw]; · iexact Hw
    rw [pool_none]; iempintro
  isplitl [HS]; · iexact HS
  isplitl [Hout]; · iexact Hout
  iexact Hx

theorem part32 {x : Vec F S512x1024 .bf16} {v2 v1205 v1209 v1210 : BitVec 32} {v1215 : BitVec 1} {α : Type}
    {k : _ → Pg α} {Q : α → sProp 𝕄} :
    iprop(atSt pf κ c x 4 4 15 ∗ pool (rsWait c) 0 15)
      ⊢ iprop((∀ r, (rwSt pf κ c 3 ∗ pool (rsSent pf c) 0 16 ∗ outAt c Finset.univ (pf c) ∗ xAt c x) -∗ run c (k r) Q)
      -∗ run c (atArgs (k0_part32 (F := F)) c v2 v1205 v1209 v1210 v1215 >>= k) Q) := by
  iintro ⟨HS, Hw⟩ Hk
  iapply (run_bind c)
  unfold atArgs
  rw [k0_part32_eq_skeleton]
  unfold k0_part32_skel
  simp only [Prog.lift, Prog.bind_op, Prog.bind_ret, Prog.pure_eq_ret]
  iapply (at_rs pf κ c send16 (by decide) (by decide)) $$ HS; iintro HS
  ihave HS := (at_end pf κ c) $$ [HS Hw]
  · isplitl [HS] <;> iassumption
  icases HS with ⟨HS, Hrest⟩
  iapply (step_rw pf κ c (j := 0) (by decide) rfl (rs_credit _ _)) $$ HS; iintro HS
  iapply (step_rw pf κ c (j := 1) (by decide) rfl (rs_credit _ _)) $$ HS; iintro HS
  iapply (step_rw pf κ c (j := 2) (by decide) rfl (rs_credit _ _)) $$ HS; iintro HS
  ihave HS : iprop(rwSt pf κ c 3 ∗ pool (rsSent pf c) 0 16 ∗ outAt c Finset.univ (pf c) ∗ xAt c x) $$ [HS Hrest]
  · isplitl [HS] <;> iassumption
  iapply (run_ret c)
  iapply Hk; iexact HS

theorem part33 {v2 : BitVec 32} {α : Type}
    {k : _ → Pg α} {Q : α → sProp 𝕄} :
    rwSt pf κ c 3
      ⊢ iprop((∀ r, rwSt pf κ c 7 -∗ run c (k r) Q)
      -∗ run c (atArgs (k0_part33 (F := F)) v2 >>= k) Q) := by
  iintro HS Hk
  iapply (run_bind c)
  unfold atArgs
  rw [k0_part33_eq_skeleton]
  unfold k0_part33_skel
  simp only [Prog.lift, Prog.bind_op, Prog.bind_ret, Prog.pure_eq_ret]
  iapply (step_rw pf κ c (j := 3) (by decide) rfl (rs_credit _ _)) $$ HS; iintro HS
  iapply (step_rw pf κ c (j := 4) (by decide) rfl (rs_credit _ _)) $$ HS; iintro HS
  iapply (step_rw pf κ c (j := 5) (by decide) rfl (rs_credit _ _)) $$ HS; iintro HS
  iapply (step_rw pf κ c (j := 6) (by decide) rfl (rs_credit _ _)) $$ HS; iintro HS
  iapply (run_ret c)
  iapply Hk; iexact HS

theorem part34 {v2 : BitVec 32} {α : Type}
    {k : _ → Pg α} {Q : α → sProp 𝕄} :
    rwSt pf κ c 7
      ⊢ iprop((∀ r, rwSt pf κ c 11 -∗ run c (k r) Q)
      -∗ run c (atArgs (k0_part34 (F := F)) v2 >>= k) Q) := by
  iintro HS Hk
  iapply (run_bind c)
  unfold atArgs
  rw [k0_part34_eq_skeleton]
  unfold k0_part34_skel
  simp only [Prog.lift, Prog.bind_op, Prog.bind_ret, Prog.pure_eq_ret]
  iapply (step_rw pf κ c (j := 7) (by decide) rfl (rs_credit _ _)) $$ HS; iintro HS
  iapply (step_rw pf κ c (j := 8) (by decide) rfl (rs_credit _ _)) $$ HS; iintro HS
  iapply (step_rw pf κ c (j := 9) (by decide) rfl (rs_credit _ _)) $$ HS; iintro HS
  iapply (step_rw pf κ c (j := 10) (by decide) rfl (rs_credit _ _)) $$ HS; iintro HS
  iapply (run_ret c)
  iapply Hk; iexact HS

theorem part35 {v2 : BitVec 32} {α : Type}
    {k : _ → Pg α} {Q : α → sProp 𝕄} :
    rwSt pf κ c 11
      ⊢ iprop((∀ r, rwSt pf κ c 15 -∗ run c (k r) Q)
      -∗ run c (atArgs (k0_part35 (F := F)) v2 >>= k) Q) := by
  iintro HS Hk
  iapply (run_bind c)
  unfold atArgs
  rw [k0_part35_eq_skeleton]
  unfold k0_part35_skel
  simp only [Prog.lift, Prog.bind_op, Prog.bind_ret, Prog.pure_eq_ret]
  iapply (step_rw pf κ c (j := 11) (by decide) rfl (rs_credit _ _)) $$ HS; iintro HS
  iapply (step_rw pf κ c (j := 12) (by decide) rfl (rs_credit _ _)) $$ HS; iintro HS
  iapply (step_rw pf κ c (j := 13) (by decide) rfl (rs_credit _ _)) $$ HS; iintro HS
  iapply (step_rw pf κ c (j := 14) (by decide) rfl (rs_credit _ _)) $$ HS; iintro HS
  iapply (run_ret c)
  iapply Hk; iexact HS

/-- What the copy towards the device `o` places on needs, besides the device's own share of what it sends. -/
def bcTok (o : ℕ) : sProp 𝕄 :=
  iprop((dutyTok ER (bcRecv (nx c o) (15 - o)) 0 0 ∗ dutyTok ER (bcSend c (o - 1)) 0 0)
    ∗ (reached ER (bcSend c (o - 1)) 0 ∗ atPos ER (bcSend c (o - 1)) 0 ∅ 0))

theorem rw_end : rwSt pf κ c 15
    ⊢ iprop(recs pf κ ∗ owing c (owed c 16 16 1) ∗ pool (fun j => semVal (rsRecv c j) 0) 0 15 ∗ rsAt c Finset.univ (rsFull pf c)) := by
  unfold rwSt
  rw [show pool (rsHere pf c) 0 15 = iprop(pool (fun j => semVal (rsRecv c j) 0) 0 15 ∗ pool (fun j => rsAt c (rsSet j) (rsFull pf c)) 0 15)
    from pool_sep _ _ 0 15, ← rs_slots c (rsFull pf c)]
  iintro ⟨HR, HO, -, Hv, Hs⟩
  isplitl [HR]; · iexact HR
  isplitl [HO]; · iexact HO
  isplitl [Hv] <;> iassumption

theorem bc_begin : iprop(recs pf κ ∗ owing c (owed c 16 16 1) ∗ pool (bcGot c) 1 16 ∗ pool (bcTok c) 1 16 ∗ srcAt c fullShare (bcs pf c))
    ⊢ bcSt pf κ c 1 := by
  unfold bcSt
  rw [srcAt_deal c (bcs pf c), pool_none]
  rw [show pool (bcRes pf c) 1 16 = iprop(pool (bcGot c) 1 16 ∗ pool (fun o => iprop(dutyTok ER (bcRecv (nx c o) (15 - o)) 0 0 ∗ dutyTok ER (bcSend c (o - 1)) 0 0)) 1 16
      ∗ pool (fun o => iprop(reached ER (bcSend c (o - 1)) 0 ∗ atPos ER (bcSend c (o - 1)) 0 ∅ 0)) 1 16 ∗ pool (fun o => srcAt c (shr o) (bcs pf c)) 1 16) from by
    rw [← pool_sep, ← pool_sep, ← pool_sep]; rfl]
  rw [show pool (bcTok (F := F) c) 1 16 = iprop(pool (fun o => iprop(dutyTok ER (bcRecv (nx c o) (15 - o)) 0 0 ∗ dutyTok ER (bcSend c (o - 1)) 0 0)) 1 16
      ∗ pool (fun o => iprop(reached ER (bcSend c (o - 1)) 0 ∗ atPos ER (bcSend c (o - 1)) 0 ∅ 0)) 1 16) from pool_sep _ _ 1 16]
  iintro ⟨HR, HO, Hg, ⟨Ht, Ha⟩, Hs⟩
  isplitl [HR]; · iexact HR
  isplitl [HO]; · iexact HO
  isplitl [Hg Ht Ha Hs]
  · isplitl [Hg]; · iexact Hg
    isplitl [Ht]; · iexact Ht
    isplitl [Ha]; · iexact Ha
    iexact Hs
  iempintro

theorem read_chunk {k : Dev nD} {off : Fin 2 → ℕ} (ho : off = ![32 * k.val, 0]) (inb : ∀ a, off a + S32x1024.size a ≤ S512x1024.size a)
    (f : Vec F S512x1024 .f32) :
    outM.view.readAt (Elt F) (Rect.unit (s := S512x1024) off S32x1024.size inb).toLoadRect f = rows32 k f := by
  subst ho
  rw [View.readAt_rect]
  funext y
  show f _ = f _
  congr 1
  refine ext2 ?_ ?_
  · show 32 * k.val + 1 * (y 0).val = 32 * k.val + (y 0).val; omega
  · show 0 + 1 * (y 1).val = (y 1).val; omega

theorem part36 {v2 c32_i32_695 : BitVec 32} {α : Type}
    {k : _ → Pg α} {Q : α → sProp 𝕄} :
    iprop(rwSt pf κ c 15 ∗ outAt c Finset.univ (pf c) ∗ (∃ f, srcAt c fullShare f) ∗ pool (bcGot c) 1 16 ∗ pool (bcTok c) 1 16)
      ⊢ iprop((∀ r, (bcSt pf κ c 2 ∗ pool (fun j => semVal (rsRecv c j) 0) 0 15 ∗ rsAt c Finset.univ (rsFull pf c)
        ∗ outAt c (chSet c.val) (outF pf c) ∗ pool (gaOld pf c) 0 15) -∗ run c (k r) Q)
      -∗ run c (atArgs (k0_part36 (F := F)) c v2 c32_i32_695 >>= k) Q) := by
  iintro ⟨HS, Hout, Hsrc, Hg, Ht⟩ Hk
  iapply (run_bind c)
  unfold atArgs
  rw [k0_part36_eq_skeleton]
  unfold k0_part36_skel
  simp only [Prog.lift, Prog.bind_op, Prog.bind_ret, Prog.pure_eq_ret]
  ihave HS := (rw_end pf κ c) $$ HS
  ihave Hout := (Entails.of_eq (out_ring c (pf c))) $$ Hout
  icases HS with ⟨HR, HO, Hv, Hrs⟩
  icases Hout with ⟨Hout, Hold⟩
  have ho : k0_off50 c = ![32 * c.val, 0] := (by decide +kernel : ∀ c : Dev nD, k0_off50 c = ![32 * c.val, 0]) c
  have hset : outM.view.setOn (Rect.unit (s := S512x1024) (k0_off50 c) S32x1024.size (k0_off50_inb c)).toLoadRect.set ⊆ chSet c.val := by
    rw [← rect_ch ho (k0_off50_inb c)]; exact Finset.map_refl.subset
  have hset' : (outM.access (Rect.unit (s := S512x1024) (k0_off50 c) S32x1024.size (k0_off50_inb c))).setOn Finset.univ ⊆ chSet c.val := by
    rw [← rect_ch ho (k0_off50_inb c)]; exact (View.set_slice_whole _ _).subset
  iapply (wp_load 𝒱₀ (c : Thread nD τ) none Set.univ (m := outM) hset) $$ Hout
  iintro Hout
  rw [read_chunk ho (k0_off50_inb c) (pf c)]
  iapply (wp_load 𝒱₀ (c : Thread nD τ) none Set.univ (m := rsM) (Finset.subset_univ _)) $$ Hrs
  iintro Hrs
  rw [show rsM.view.readAt (Elt F) (Rect.unit (s := S480x1024) ![0, 0] S480x1024.size inb_S480x1024_S480x1024_0_0).toLoadRect (rsFull pf c) = rsFull pf c
    from Memref.readAt_unit_zero (Elt F) cc0_scratch1 zero2 _ (rsFull pf c)]
  iapply (wp_load 𝒱₀ (c : Thread nD τ) none Set.univ (m := outM) hset) $$ Hout
  iintro Hout
  iapply (wp_store 𝒱₀ (c : Thread nD τ) none Set.univ (m := outM) hset') $$ Hout
  iintro Hout
  ihave Hout := (Entails.of_eq (pointsTo_congr (out_stored pf c ho (k0_off50_inb c) (pf c) (k0_pay76 (rows32 c (pf c)) (rsFull pf c))
    fun y => by rw [if_pos rfl]; rfl))) $$ Hout
  icases Hsrc with ⟨%f, Hsrc⟩
  iapply (wp_load 𝒱₀ (c : Thread nD τ) none Set.univ (m := srcM) (Finset.subset_univ _)) $$ Hsrc
  iintro Hsrc
  have hsS : (srcM.access (Rect.unit (s := S32x1024) ![0, 0] S32x1024.size inb_S32x1024_S32x1024_0_0)).setOn Finset.univ ⊆ Finset.univ :=
    Finset.subset_univ _
  iapply (wp_store 𝒱₀ (c : Thread nD τ) none Set.univ (m := srcM) hsS) $$ Hsrc
  iintro Hsrc
  rw [show (srcM.access (Rect.unit (s := S32x1024) ![0, 0] S32x1024.size inb_S32x1024_S32x1024_0_0)).write (Elt F) f (k0_pay77 (rows32 c (pf c)) (rsFull pf c)) Finset.univ
    = bcs pf c from Memref.write_access_unit_zero_univ (Elt F) cc0_scratch2 zero2 _ f _]
  ihave HS := (bc_begin pf κ c) $$ [HR HO Hg Ht Hsrc]
  · isplitl [HR]; · iexact HR
    isplitl [HO]; · iexact HO
    isplitl [Hg]; · iexact Hg
    isplitl [Ht] <;> iassumption
  iapply (send_bc pf κ c (o := 1) (by decide) (by decide) (sem_bsend rfl _ _) (sem_brecv rfl _ _) (dev_nx c (by decide +kernel) _) rfl) $$ HS; iintro HS
  ihave HS : iprop(bcSt pf κ c 2 ∗ pool (fun j => semVal (rsRecv c j) 0) 0 15 ∗ rsAt c Finset.univ (rsFull pf c)
        ∗ outAt c (chSet c.val) (outF pf c) ∗ pool (gaOld pf c) 0 15) $$ [HS Hv Hrs Hout Hold]
  · isplitl [HS]; · iexact HS
    isplitl [Hv]; · iexact Hv
    isplitl [Hrs]; · iexact Hrs
    isplitl [Hout]; · iexact Hout
    iexact Hold
  iapply (run_ret c)
  iapply Hk; iexact HS

theorem part37 {v2 : BitVec 32} {α : Type}
    {k : _ → Pg α} {Q : α → sProp 𝕄} :
    bcSt pf κ c 2
      ⊢ iprop((∀ r, bcSt pf κ c 3 -∗ run c (k r) Q)
      -∗ run c (atArgs (k0_part37 (F := F)) c v2 >>= k) Q) := by
  iintro HS Hk
  iapply (run_bind c)
  unfold atArgs
  rw [k0_part37_eq_skeleton]
  unfold k0_part37_skel
  simp only [Prog.lift, Prog.bind_op, Prog.bind_ret, Prog.pure_eq_ret]
  iapply (send_bc pf κ c (o := 2) (by decide) (by decide) (sem_bsend rfl _ _) (sem_brecv rfl _ _) (dev_nx c (by decide +kernel) _) rfl) $$ HS; iintro HS
  iapply (run_ret c)
  iapply Hk; iexact HS

theorem part38 {v2 : BitVec 32} {α : Type}
    {k : _ → Pg α} {Q : α → sProp 𝕄} :
    bcSt pf κ c 3
      ⊢ iprop((∀ r, bcSt pf κ c 5 -∗ run c (k r) Q)
      -∗ run c (atArgs (k0_part38 (F := F)) c v2 >>= k) Q) := by
  iintro HS Hk
  iapply (run_bind c)
  unfold atArgs
  rw [k0_part38_eq_skeleton]
  unfold k0_part38_skel
  simp only [Prog.lift, Prog.bind_op, Prog.bind_ret, Prog.pure_eq_ret]
  iapply (send_bc pf κ c (o := 3) (by decide) (by decide) (sem_bsend rfl _ _) (sem_brecv rfl _ _) (dev_nx c (by decide +kernel) _) rfl) $$ HS; iintro HS
  iapply (send_bc pf κ c (o := 4) (by decide) (by decide) (sem_bsend rfl _ _) (sem_brecv rfl _ _) (dev_nx c (by decide +kernel) _) rfl) $$ HS; iintro HS
  iapply (run_ret c)
  iapply Hk; iexact HS

theorem part39 {v2 v1416 : BitVec 32} {α : Type}
    {k : _ → Pg α} {Q : α → sProp 𝕄} :
    bcSt pf κ c 5
      ⊢ iprop((∀ r, bcSt pf κ c 7 -∗ run c (k r) Q)
      -∗ run c (atArgs (k0_part39 (F := F)) c v2 v1416 >>= k) Q) := by
  iintro HS Hk
  iapply (run_bind c)
  unfold atArgs
  rw [k0_part39_eq_skeleton]
  unfold k0_part39_skel
  simp only [Prog.lift, Prog.bind_op, Prog.bind_ret, Prog.pure_eq_ret]
  iapply (send_bc pf κ c (o := 5) (by decide) (by decide) (sem_bsend rfl _ _) (sem_brecv rfl _ _) (dev_nx c (by decide +kernel) _) rfl) $$ HS; iintro HS
  iapply (send_bc pf κ c (o := 6) (by decide) (by decide) (sem_bsend rfl _ _) (sem_brecv rfl _ _) (dev_nx c (by decide +kernel) _) rfl) $$ HS; iintro HS
  iapply (run_ret c)
  iapply Hk; iexact HS

theorem part40 {v2 v1446 v1447 : BitVec 32} {v1448 : BitVec 1} {α : Type}
    {k : _ → Pg α} {Q : α → sProp 𝕄} :
    bcSt pf κ c 7
      ⊢ iprop((∀ r, bcSt pf κ c 9 -∗ run c (k r) Q)
      -∗ run c (atArgs (k0_part40 (F := F)) c v2 v1446 v1447 v1448 >>= k) Q) := by
  iintro HS Hk
  iapply (run_bind c)
  unfold atArgs
  rw [k0_part40_eq_skeleton]
  unfold k0_part40_skel
  simp only [Prog.lift, Prog.bind_op, Prog.bind_ret, Prog.pure_eq_ret]
  iapply (send_bc pf κ c (o := 7) (by decide) (by decide) (sem_bsend rfl _ _) (sem_brecv rfl _ _) (dev_nx c (by decide +kernel) _) rfl) $$ HS; iintro HS
  iapply (send_bc pf κ c (o := 8) (by decide) (by decide) (sem_bsend rfl _ _) (sem_brecv rfl _ _) (dev_nx c (by decide +kernel) _) rfl) $$ HS; iintro HS
  iapply (run_ret c)
  iapply Hk; iexact HS

theorem part41 {v2 v1482 : BitVec 32} {α : Type}
    {k : _ → Pg α} {Q : α → sProp 𝕄} :
    bcSt pf κ c 9
      ⊢ iprop((∀ r, bcSt pf κ c 10 -∗ run c (k r) Q)
      -∗ run c (atArgs (k0_part41 (F := F)) c v2 v1482 >>= k) Q) := by
  iintro HS Hk
  iapply (run_bind c)
  unfold atArgs
  rw [k0_part41_eq_skeleton]
  unfold k0_part41_skel
  simp only [Prog.lift, Prog.bind_op, Prog.bind_ret, Prog.pure_eq_ret]
  iapply (send_bc pf κ c (o := 9) (by decide) (by decide) (sem_bsend rfl _ _) (sem_brecv rfl _ _) (dev_nx c (by decide +kernel) _) rfl) $$ HS; iintro HS
  iapply (run_ret c)
  iapply Hk; iexact HS

theorem part42 {v2 : BitVec 32} {α : Type}
    {k : _ → Pg α} {Q : α → sProp 𝕄} :
    bcSt pf κ c 10
      ⊢ iprop((∀ r, bcSt pf κ c 12 -∗ run c (k r) Q)
      -∗ run c (atArgs (k0_part42 (F := F)) c v2 >>= k) Q) := by
  iintro HS Hk
  iapply (run_bind c)
  unfold atArgs
  rw [k0_part42_eq_skeleton]
  unfold k0_part42_skel
  simp only [Prog.lift, Prog.bind_op, Prog.bind_ret, Prog.pure_eq_ret]
  iapply (send_bc pf κ c (o := 10) (by decide) (by decide) (sem_bsend rfl _ _) (sem_brecv rfl _ _) (dev_nx c (by decide +kernel) _) rfl) $$ HS; iintro HS
  iapply (send_bc pf κ c (o := 11) (by decide) (by decide) (sem_bsend rfl _ _) (sem_brecv rfl _ _) (dev_nx c (by decide +kernel) _) rfl) $$ HS; iintro HS
  iapply (run_ret c)
  iapply Hk; iexact HS

theorem part43 {v2 v1549 : BitVec 32} {α : Type}
    {k : _ → Pg α} {Q : α → sProp 𝕄} :
    bcSt pf κ c 12
      ⊢ iprop((∀ r, bcSt pf κ c 14 -∗ run c (k r) Q)
      -∗ run c (atArgs (k0_part43 (F := F)) c v2 v1549 >>= k) Q) := by
  iintro HS Hk
  iapply (run_bind c)
  unfold atArgs
  rw [k0_part43_eq_skeleton]
  unfold k0_part43_skel
  simp only [Prog.lift, Prog.bind_op, Prog.bind_ret, Prog.pure_eq_ret]
  iapply (send_bc pf κ c (o := 12) (by decide) (by decide) (sem_bsend rfl _ _) (sem_brecv rfl _ _) (dev_nx c (by decide +kernel) _) rfl) $$ HS; iintro HS
  iapply (send_bc pf κ c (o := 13) (by decide) (by decide) (sem_bsend rfl _ _) (sem_brecv rfl _ _) (dev_nx c (by decide +kernel) _) rfl) $$ HS; iintro HS
  iapply (run_ret c)
  iapply Hk; iexact HS

theorem part44 {v2 v1579 v1580 : BitVec 32} {v1581 v1582 : BitVec 1} {α : Type}
    {k : _ → Pg α} {Q : α → sProp 𝕄} :
    bcSt pf κ c 14
      ⊢ iprop((∀ r, bcSt pf κ c 16 -∗ run c (k r) Q)
      -∗ run c (atArgs (k0_part44 (F := F)) c v2 v1579 v1580 v1581 v1582 >>= k) Q) := by
  iintro HS Hk
  iapply (run_bind c)
  unfold atArgs
  rw [k0_part44_eq_skeleton]
  unfold k0_part44_skel
  simp only [Prog.lift, Prog.bind_op, Prog.bind_ret, Prog.pure_eq_ret]
  iapply (send_bc pf κ c (o := 14) (by decide) (by decide) (sem_bsend rfl _ _) (sem_brecv rfl _ _) (dev_nx c (by decide +kernel) _) rfl) $$ HS; iintro HS
  iapply (send_bc pf κ c (o := 15) (by decide) (by decide) (sem_bsend rfl _ _) (sem_brecv rfl _ _) (dev_nx c (by decide +kernel) _) rfl) $$ HS; iintro HS
  iapply (run_ret c)
  iapply Hk; iexact HS

end Cert.KernelIdeal.Reduce

end
-- ==== Proof.PartsC.lean ====
/-
# The parts of the body that gather the chunks and wait for the copies out

Each theorem says what one part needs and what it leaves, at any program that goes on from it.
-/
module

public import proofs.«01_k».proof.Proof.PartsB
public import Idealize.ShloMosaic.Lib.ValueLayout

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 shapeCast_1ab_ab_apply)

variable {F : FTy → Type} [FloatOps F]

local notation "𝕄" => MT nD τ sig Unit (Elt F) ℕ UU ℕ

variable (pf : Dev nD → Vec F S512x1024 .f32) (κ : GSem nD τ sig → ℕ) (c : Dev nD)

theorem slot_cast (d : Dev nD) (a : Fin 32) (b : Fin 1024) :
    shapeCast S32x1024 (slotv pf d) shapeCasts_S1x32x1024_S32x1024 (ix2 a b) = bcs pf d (ix2 a b) := by
  rw [shapeCast_1ab_ab_apply (slotv pf d) shapeCasts_S1x32x1024_S32x1024 a b]
  unfold slotv
  rfl
/-- A slot read, in the shape of a chunk and widened. -/
theorem slot_pay (d : Dev nD) (y : S32x1024.Idx) : k0_pay78 (slotv pf d) y = FloatOps.extf .f32 bitsLt_bf16_f32 (bcs pf d y) := by
  have e : y = ix2 ⟨(y 0).val, (y 0).isLt⟩ ⟨(y 1).val, (y 1).isLt⟩ := ext2 rfl rfl
  rw [e]
  exact congrArg (FloatOps.extf .f32 bitsLt_bf16_f32) (slot_cast pf d _ _)

theorem part45 {v2 v1587 v1606 c1_i32_917 : BitVec 32} {α : Type}
    {k : _ → Pg α} {Q : α → sProp 𝕄} :
    gaSt pf κ c 0 0
      ⊢ iprop((∀ r, gaSt pf κ c 2 1 -∗ run c (k r) Q)
      -∗ run c (atArgs (k0_part45 (F := F)) c v2 v1587 v1606 c1_i32_917 >>= k) Q) := by
  iintro HS Hk
  iapply (run_bind c)
  unfold atArgs
  rw [k0_part45_eq_skeleton]
  unfold k0_part45_skel
  simp only [Prog.lift, Prog.bind_op, Prog.bind_ret, Prog.pure_eq_ret]
  iapply (step_gw pf κ c (j := 0) (by decide) rfl (bc_credit _ _ _)) $$ HS; iintro HS
  iapply (step_gl pf κ c (j := 0) (by decide) rfl) $$ HS; iintro HS
  iapply (step_gd pf κ c (i := 0) (by decide) ((by decide +kernel : ∀ c : Dev nD, k0_off51 c 0#32 = ![32 * (nx c (0 + 1)).val, 0]) c)) $$ HS; iintro %_ HS
  iapply (step_gs pf κ c (i := 0) (by decide) ((by decide +kernel : ∀ c : Dev nD, k0_off51 c 0#32 = ![32 * (nx c (0 + 1)).val, 0]) c) (slot_pay pf _)) $$ HS; iintro HS
  iapply (step_gw pf κ c (j := 1) (by decide) rfl (bc_credit _ _ _)) $$ HS; iintro HS
  iapply (run_ret c)
  iapply Hk; iexact HS

theorem part46 {v2 v1568 v1646 : BitVec 32} {α : Type}
    {k : _ → Pg α} {Q : α → sProp 𝕄} :
    gaSt pf κ c 2 1
      ⊢ iprop((∀ r, gaSt pf κ c 3 2 -∗ run c (k r) Q)
      -∗ run c (atArgs (k0_part46 (F := F)) c v2 v1568 v1646 >>= k) Q) := by
  iintro HS Hk
  iapply (run_bind c)
  unfold atArgs
  rw [k0_part46_eq_skeleton]
  unfold k0_part46_skel
  simp only [Prog.lift, Prog.bind_op, Prog.bind_ret, Prog.pure_eq_ret]
  iapply (step_gl pf κ c (j := 1) (by decide) rfl) $$ HS; iintro HS
  iapply (step_gd pf κ c (i := 1) (by decide) ((by decide +kernel : ∀ c : Dev nD, k0_off51 c 1#32 = ![32 * (nx c (1 + 1)).val, 0]) c)) $$ HS; iintro %_ HS
  iapply (step_gs pf κ c (i := 1) (by decide) ((by decide +kernel : ∀ c : Dev nD, k0_off51 c 1#32 = ![32 * (nx c (1 + 1)).val, 0]) c) (slot_pay pf _)) $$ HS; iintro HS
  iapply (step_gw pf κ c (j := 2) (by decide) rfl (bc_credit _ _ _)) $$ HS; iintro HS
  iapply (run_ret c)
  iapply Hk; iexact HS

theorem part47 {v2 v1549 v1672 v1673 : BitVec 32} {v1678 : BitVec 1} {α : Type}
    {k : _ → Pg α} {Q : α → sProp 𝕄} :
    gaSt pf κ c 3 2
      ⊢ iprop((∀ r, gaSt pf κ c 4 4 -∗ run c (k r) Q)
      -∗ run c (atArgs (k0_part47 (F := F)) c v2 v1549 v1672 v1673 v1678 >>= k) Q) := by
  iintro HS Hk
  iapply (run_bind c)
  unfold atArgs
  rw [k0_part47_eq_skeleton]
  unfold k0_part47_skel
  simp only [Prog.lift, Prog.bind_op, Prog.bind_ret, Prog.pure_eq_ret]
  iapply (step_gl pf κ c (j := 2) (by decide) rfl) $$ HS; iintro HS
  iapply (step_gd pf κ c (i := 2) (by decide) ((by decide +kernel : ∀ c : Dev nD, k0_off51 c 2#32 = ![32 * (nx c (2 + 1)).val, 0]) c)) $$ HS; iintro %_ HS
  iapply (step_gs pf κ c (i := 2) (by decide) ((by decide +kernel : ∀ c : Dev nD, k0_off51 c 2#32 = ![32 * (nx c (2 + 1)).val, 0]) c) (slot_pay pf _)) $$ HS; iintro HS
  iapply (step_gw pf κ c (j := 3) (by decide) rfl (bc_credit _ _ _)) $$ HS; iintro HS
  iapply (step_gl pf κ c (j := 3) (by decide) rfl) $$ HS; iintro HS
  iapply (step_gd pf κ c (i := 3) (by decide) ((by decide +kernel : ∀ c : Dev nD, k0_off51 c 3#32 = ![32 * (nx c (3 + 1)).val, 0]) c)) $$ HS; iintro %_ HS
  iapply (step_gs pf κ c (i := 3) (by decide) ((by decide +kernel : ∀ c : Dev nD, k0_off51 c 3#32 = ![32 * (nx c (3 + 1)).val, 0]) c) (slot_pay pf _)) $$ HS; iintro HS
  iapply (run_ret c)
  iapply Hk; iexact HS

theorem part48 {v2 v1511 v1530 : BitVec 32} {α : Type}
    {k : _ → Pg α} {Q : α → sProp 𝕄} :
    gaSt pf κ c 4 4
      ⊢ iprop((∀ r, gaSt pf κ c 6 5 -∗ run c (k r) Q)
      -∗ run c (atArgs (k0_part48 (F := F)) c v2 v1511 v1530 >>= k) Q) := by
  iintro HS Hk
  iapply (run_bind c)
  unfold atArgs
  rw [k0_part48_eq_skeleton]
  unfold k0_part48_skel
  simp only [Prog.lift, Prog.bind_op, Prog.bind_ret, Prog.pure_eq_ret]
  iapply (step_gw pf κ c (j := 4) (by decide) rfl (bc_credit _ _ _)) $$ HS; iintro HS
  iapply (step_gl pf κ c (j := 4) (by decide) rfl) $$ HS; iintro HS
  iapply (step_gd pf κ c (i := 4) (by decide) ((by decide +kernel : ∀ c : Dev nD, k0_off51 c 4#32 = ![32 * (nx c (4 + 1)).val, 0]) c)) $$ HS; iintro %_ HS
  iapply (step_gs pf κ c (i := 4) (by decide) ((by decide +kernel : ∀ c : Dev nD, k0_off51 c 4#32 = ![32 * (nx c (4 + 1)).val, 0]) c) (slot_pay pf _)) $$ HS; iintro HS
  iapply (step_gw pf κ c (j := 5) (by decide) rfl (bc_credit _ _ _)) $$ HS; iintro HS
  iapply (run_ret c)
  iapply Hk; iexact HS

theorem part49 {v2 v1492 : BitVec 32} {α : Type}
    {k : _ → Pg α} {Q : α → sProp 𝕄} :
    gaSt pf κ c 6 5
      ⊢ iprop((∀ r, gaSt pf κ c 7 6 -∗ run c (k r) Q)
      -∗ run c (atArgs (k0_part49 (F := F)) c v2 v1492 >>= k) Q) := by
  iintro HS Hk
  iapply (run_bind c)
  unfold atArgs
  rw [k0_part49_eq_skeleton]
  unfold k0_part49_skel
  simp only [Prog.lift, Prog.bind_op, Prog.bind_ret, Prog.pure_eq_ret]
  iapply (step_gl pf κ c (j := 5) (by decide) rfl) $$ HS; iintro HS
  iapply (step_gd pf κ c (i := 5) (by decide) ((by decide +kernel : ∀ c : Dev nD, k0_off51 c 5#32 = ![32 * (nx c (5 + 1)).val, 0]) c)) $$ HS; iintro %_ HS
  iapply (step_gs pf κ c (i := 5) (by decide) ((by decide +kernel : ∀ c : Dev nD, k0_off51 c 5#32 = ![32 * (nx c (5 + 1)).val, 0]) c) (slot_pay pf _)) $$ HS; iintro HS
  iapply (step_gw pf κ c (j := 6) (by decide) rfl (bc_credit _ _ _)) $$ HS; iintro HS
  iapply (run_ret c)
  iapply Hk; iexact HS

theorem part50 {v2 v1473 v1768 v1769 : BitVec 32} {v1770 v1771 : BitVec 1} {α : Type}
    {k : _ → Pg α} {Q : α → sProp 𝕄} :
    gaSt pf κ c 7 6
      ⊢ iprop((∀ v1804, gaSt pf κ c 8 7 -∗ run c (k ⟨k0_pay85 (slotv pf (nx c (7 + 1))), v1804⟩) Q)
      -∗ run c (atArgs (k0_part50 (F := F)) c v2 v1473 v1768 v1769 v1770 v1771 >>= k) Q) := by
  iintro HS Hk
  iapply (run_bind c)
  unfold atArgs
  rw [k0_part50_eq_skeleton]
  unfold k0_part50_skel
  simp only [Prog.lift, Prog.bind_op, Prog.bind_ret, Prog.pure_eq_ret]
  iapply (step_gl pf κ c (j := 6) (by decide) rfl) $$ HS; iintro HS
  iapply (step_gd pf κ c (i := 6) (by decide) ((by decide +kernel : ∀ c : Dev nD, k0_off51 c 6#32 = ![32 * (nx c (6 + 1)).val, 0]) c)) $$ HS; iintro %_ HS
  iapply (step_gs pf κ c (i := 6) (by decide) ((by decide +kernel : ∀ c : Dev nD, k0_off51 c 6#32 = ![32 * (nx c (6 + 1)).val, 0]) c) (slot_pay pf _)) $$ HS; iintro HS
  iapply (step_gw pf κ c (j := 7) (by decide) rfl (bc_credit _ _ _)) $$ HS; iintro HS
  iapply (step_gl pf κ c (j := 7) (by decide) rfl) $$ HS; iintro HS
  iapply (run_ret c)
  iapply Hk; iexact HS

theorem part51 {v2 v1435 v1454 v1804 : BitVec 32} {α : Type}
    {k : _ → Pg α} {Q : α → sProp 𝕄} :
    gaSt pf κ c 8 7
      ⊢ iprop((∀ r, gaSt pf κ c 9 9 -∗ run c (k r) Q)
      -∗ run c (atArgs (k0_part51 (F := F)) c v2 v1435 v1454 (k0_pay85 (slotv pf (nx c (7 + 1)))) v1804 >>= k) Q) := by
  iintro HS Hk
  iapply (run_bind c)
  unfold atArgs
  rw [k0_part51_eq_skeleton]
  unfold k0_part51_skel
  simp only [Prog.lift, Prog.bind_op, Prog.bind_ret, Prog.pure_eq_ret]
  iapply (step_gd pf κ c (i := 7) (by decide) ((by decide +kernel : ∀ c : Dev nD, k0_off51 c 7#32 = ![32 * (nx c (7 + 1)).val, 0]) c)) $$ HS; iintro %_ HS
  iapply (step_gs pf κ c (i := 7) (by decide) ((by decide +kernel : ∀ c : Dev nD, k0_off51 c 7#32 = ![32 * (nx c (7 + 1)).val, 0]) c) (slot_pay pf _)) $$ HS; iintro HS
  iapply (step_gw pf κ c (j := 8) (by decide) rfl (bc_credit _ _ _)) $$ HS; iintro HS
  iapply (step_gl pf κ c (j := 8) (by decide) rfl) $$ HS; iintro HS
  iapply (step_gd pf κ c (i := 8) (by decide) ((by decide +kernel : ∀ c : Dev nD, k0_off51 c 8#32 = ![32 * (nx c (8 + 1)).val, 0]) c)) $$ HS; iintro %_ HS
  iapply (step_gs pf κ c (i := 8) (by decide) ((by decide +kernel : ∀ c : Dev nD, k0_off51 c 8#32 = ![32 * (nx c (8 + 1)).val, 0]) c) (slot_pay pf _)) $$ HS; iintro HS
  iapply (run_ret c)
  iapply Hk; iexact HS

theorem part52 {v2 v1416 : BitVec 32} {α : Type}
    {k : _ → Pg α} {Q : α → sProp 𝕄} :
    gaSt pf κ c 9 9
      ⊢ iprop((∀ r, gaSt pf κ c 11 10 -∗ run c (k r) Q)
      -∗ run c (atArgs (k0_part52 (F := F)) c v2 v1416 >>= k) Q) := by
  iintro HS Hk
  iapply (run_bind c)
  unfold atArgs
  rw [k0_part52_eq_skeleton]
  unfold k0_part52_skel
  simp only [Prog.lift, Prog.bind_op, Prog.bind_ret, Prog.pure_eq_ret]
  iapply (step_gw pf κ c (j := 9) (by decide) rfl (bc_credit _ _ _)) $$ HS; iintro HS
  iapply (step_gl pf κ c (j := 9) (by decide) rfl) $$ HS; iintro HS
  iapply (step_gd pf κ c (i := 9) (by decide) ((by decide +kernel : ∀ c : Dev nD, k0_off51 c 9#32 = ![32 * (nx c (9 + 1)).val, 0]) c)) $$ HS; iintro %_ HS
  iapply (step_gs pf κ c (i := 9) (by decide) ((by decide +kernel : ∀ c : Dev nD, k0_off51 c 9#32 = ![32 * (nx c (9 + 1)).val, 0]) c) (slot_pay pf _)) $$ HS; iintro HS
  iapply (step_gw pf κ c (j := 10) (by decide) rfl (bc_credit _ _ _)) $$ HS; iintro HS
  iapply (run_ret c)
  iapply Hk; iexact HS

theorem part53 {v2 v1397 v1864 v1865 : BitVec 32} {α : Type}
    {k : _ → Pg α} {Q : α → sProp 𝕄} :
    gaSt pf κ c 11 10
      ⊢ iprop((∀ v1896, gaSt pf κ c 12 11 -∗ run c (k ⟨v1896, slotv pf (nx c (11 + 1))⟩) Q)
      -∗ run c (atArgs (k0_part53 (F := F)) c v2 v1397 v1864 v1865 >>= k) Q) := by
  iintro HS Hk
  iapply (run_bind c)
  unfold atArgs
  rw [k0_part53_eq_skeleton]
  unfold k0_part53_skel
  simp only [Prog.lift, Prog.bind_op, Prog.bind_ret, Prog.pure_eq_ret]
  iapply (step_gl pf κ c (j := 10) (by decide) rfl) $$ HS; iintro HS
  iapply (step_gd pf κ c (i := 10) (by decide) ((by decide +kernel : ∀ c : Dev nD, k0_off51 c 10#32 = ![32 * (nx c (10 + 1)).val, 0]) c)) $$ HS; iintro %_ HS
  iapply (step_gs pf κ c (i := 10) (by decide) ((by decide +kernel : ∀ c : Dev nD, k0_off51 c 10#32 = ![32 * (nx c (10 + 1)).val, 0]) c) (slot_pay pf _)) $$ HS; iintro HS
  iapply (step_gw pf κ c (j := 11) (by decide) rfl (bc_credit _ _ _)) $$ HS; iintro HS
  iapply (step_gl pf κ c (j := 11) (by decide) rfl) $$ HS; iintro HS
  iapply (run_ret c)
  iapply Hk; iexact HS

theorem part54 {v2 v1359 v1378 v1896 : BitVec 32} {α : Type}
    {k : _ → Pg α} {Q : α → sProp 𝕄} :
    gaSt pf κ c 12 11
      ⊢ iprop((∀ r, gaSt pf κ c 13 13 -∗ run c (k r) Q)
      -∗ run c (atArgs (k0_part54 (F := F)) c v2 v1359 v1378 v1896 (slotv pf (nx c (11 + 1))) >>= k) Q) := by
  iintro HS Hk
  iapply (run_bind c)
  unfold atArgs
  rw [k0_part54_eq_skeleton]
  unfold k0_part54_skel
  simp only [Prog.lift, Prog.bind_op, Prog.bind_ret, Prog.pure_eq_ret]
  iapply (step_gd pf κ c (i := 11) (by decide) ((by decide +kernel : ∀ c : Dev nD, k0_off51 c 11#32 = ![32 * (nx c (11 + 1)).val, 0]) c)) $$ HS; iintro %_ HS
  iapply (step_gs pf κ c (i := 11) (by decide) ((by decide +kernel : ∀ c : Dev nD, k0_off51 c 11#32 = ![32 * (nx c (11 + 1)).val, 0]) c) (slot_pay pf _)) $$ HS; iintro HS
  iapply (step_gw pf κ c (j := 12) (by decide) rfl (bc_credit _ _ _)) $$ HS; iintro HS
  iapply (step_gl pf κ c (j := 12) (by decide) rfl) $$ HS; iintro HS
  iapply (step_gd pf κ c (i := 12) (by decide) ((by decide +kernel : ∀ c : Dev nD, k0_off51 c 12#32 = ![32 * (nx c (12 + 1)).val, 0]) c)) $$ HS; iintro %_ HS
  iapply (step_gs pf κ c (i := 12) (by decide) ((by decide +kernel : ∀ c : Dev nD, k0_off51 c 12#32 = ![32 * (nx c (12 + 1)).val, 0]) c) (slot_pay pf _)) $$ HS; iintro HS
  iapply (run_ret c)
  iapply Hk; iexact HS

theorem part55 {v2 v1340 v1927 c0_i32_1166 : BitVec 32} {α : Type}
    {k : _ → Pg α} {Q : α → sProp 𝕄} :
    gaSt pf κ c 13 13
      ⊢ iprop((∀ r, gaSt pf κ c 15 14 -∗ run c (k r) Q)
      -∗ run c (atArgs (k0_part55 (F := F)) c v2 v1340 v1927 c0_i32_1166 >>= k) Q) := by
  iintro HS Hk
  iapply (run_bind c)
  unfold atArgs
  rw [k0_part55_eq_skeleton]
  unfold k0_part55_skel
  simp only [Prog.lift, Prog.bind_op, Prog.bind_ret, Prog.pure_eq_ret]
  iapply (step_gw pf κ c (j := 13) (by decide) rfl (bc_credit _ _ _)) $$ HS; iintro HS
  iapply (step_gl pf κ c (j := 13) (by decide) rfl) $$ HS; iintro HS
  iapply (step_gd pf κ c (i := 13) (by decide) ((by decide +kernel : ∀ c : Dev nD, k0_off51 c 13#32 = ![32 * (nx c (13 + 1)).val, 0]) c)) $$ HS; iintro %_ HS
  iapply (step_gs pf κ c (i := 13) (by decide) ((by decide +kernel : ∀ c : Dev nD, k0_off51 c 13#32 = ![32 * (nx c (13 + 1)).val, 0]) c) (slot_pay pf _)) $$ HS; iintro HS
  iapply (step_gw pf κ c (j := 14) (by decide) rfl (bc_credit _ _ _)) $$ HS; iintro HS
  iapply (run_ret c)
  iapply Hk; iexact HS

/-- Everything gathered: the state in which the copies out are waited for. -/
theorem ga_end : iprop(gaSt pf κ c 15 15 ∗ pool (rsSent pf c) 0 16)
    ⊢ iprop(wdSt pf κ c 0 ∗ pool (gaHere pf c) 0 15 ∗ pool (gaNew pf c) 0 15) := by
  unfold gaSt wdSt
  iintro ⟨⟨HR, HO, -, Hh, -, Hn⟩, HS⟩
  isplitl [HR HO HS]
  · isplitl [HR]; · iexact HR
    isplitl [HO]; · iexact HO
    isplitl [HS]; · iexact HS
    rw [pool_none]; iempintro
  isplitl [Hh] <;> iassumption

theorem wd_end : iprop(wdSt pf κ c 16 ∗ pool (bcSent c) 1 16) ⊢ iprop(wbSt pf κ c 1 ∗ pool (rsDone pf c) 0 16) := by
  unfold wdSt wbSt
  iintro ⟨⟨HR, HO, -, HD⟩, HS⟩
  isplitr [HD]
  · isplitl [HR]; · iexact HR
    isplitl [HO]; · iexact HO
    isplitl [HS]; · iexact HS
    rw [pool_none]; iempintro
  iexact HD

theorem part56 {v438 v458 v478 v498 v679 v699 v719 : BitVec 1} {v1958 c16_i32_1190 c0_i32_1191 : BitVec 32} {α : Type}
    {k : _ → Pg α} {Q : α → sProp 𝕄} :
    iprop(gaSt pf κ c 15 14 ∗ pool (rsSent pf c) 0 16)
      ⊢ iprop(((wdSt pf κ c 6 ∗ pool (gaHere pf c) 0 15 ∗ pool (gaNew pf c) 0 15) -∗ run c (k ⟨⟩) Q)
      -∗ run c (atArgs (k0_part56 (F := F)) c v438 v458 v478 v498 v679 v699 v719 v1958 c16_i32_1190 c0_i32_1191 >>= k) Q) := by
  iintro ⟨HS, Hw⟩ Hk
  iapply (run_bind c)
  unfold atArgs
  rw [k0_part56_eq_skeleton]
  unfold k0_part56_skel
  simp only [Prog.lift, Prog.bind_op, Prog.bind_ret, Prog.pure_eq_ret]
  iapply (step_gl pf κ c (j := 14) (by decide) rfl) $$ HS; iintro HS
  iapply (step_gd pf κ c (i := 14) (by decide) ((by decide +kernel : ∀ c : Dev nD, k0_off51 c 14#32 = ![32 * (nx c (14 + 1)).val, 0]) c)) $$ HS; iintro %_ HS
  iapply (step_gs pf κ c (i := 14) (by decide) ((by decide +kernel : ∀ c : Dev nD, k0_off51 c 14#32 = ![32 * (nx c (14 + 1)).val, 0]) c) (slot_pay pf _)) $$ HS; iintro HS
  ihave HS := (ga_end pf κ c) $$ [HS Hw]
  · isplitl [HS] <;> iassumption
  icases HS with ⟨HS, Hrest⟩
  iapply (step_wd pf κ c (i := 0) (by decide) ((by decide +kernel : ∀ c : Dev nD, k0_cond17 c = 1#1 ↔ chunk c 0 ≠ c) c) rfl ?hN) $$ HS
  case hN => exact fun h => snd_credit (k0_off52_inb c h) _
  iintro HS
  iapply (step_wd pf κ c (i := 1) (by decide) ((by decide +kernel : ∀ c : Dev nD, k0_cond18 c = 1#1 ↔ chunk c 1 ≠ c) c) rfl ?hN) $$ HS
  case hN => exact fun h => snd_credit (k0_off54_inb c h) _
  iintro HS
  iapply (step_wd pf κ c (i := 2) (by decide) ((by decide +kernel : ∀ c : Dev nD, k0_cond19 c = 1#1 ↔ chunk c 2 ≠ c) c) rfl ?hN) $$ HS
  case hN => exact fun h => snd_credit (k0_off56_inb c h) _
  iintro HS
  iapply (step_wd pf κ c (i := 3) (by decide) ((by decide +kernel : ∀ c : Dev nD, k0_cond20 c = 1#1 ↔ chunk c 3 ≠ c) c) rfl ?hN) $$ HS
  case hN => exact fun h => snd_credit (k0_off58_inb c h) _
  iintro HS
  iapply (step_wd pf κ c (i := 4) (by decide) ((by decide +kernel : ∀ c : Dev nD, k0_cond21 c = 1#1 ↔ chunk c 4 ≠ c) c) rfl ?hN) $$ HS
  case hN => exact fun h => snd_credit (k0_off60_inb c h) _
  iintro HS
  iapply (step_wd pf κ c (i := 5) (by decide) ((by decide +kernel : ∀ c : Dev nD, k0_cond22 c = 1#1 ↔ chunk c 5 ≠ c) c) rfl ?hN) $$ HS
  case hN => exact fun h => snd_credit (k0_off62_inb c h) _
  iintro HS
  ihave HS : iprop(wdSt pf κ c 6 ∗ pool (gaHere pf c) 0 15 ∗ pool (gaNew pf c) 0 15) $$ [HS Hrest]
  · isplitl [HS] <;> iassumption
  iapply (run_ret c)
  iapply Hk; iexact HS

set_option maxHeartbeats 400000 in
theorem part57 {v739 v920 v940 v960 v980 v1161 v1181 v1201 v1221 : BitVec 1} {α : Type}
    {k : _ → Pg α} {Q : α → sProp 𝕄} :
    iprop(wdSt pf κ c 6 ∗ pool (bcSent c) 1 16)
      ⊢ iprop(((wbSt pf κ c 2 ∗ pool (rsDone pf c) 0 16) -∗ run c (k ⟨⟩) Q)
      -∗ run c (atArgs (k0_part57 (F := F)) c v739 v920 v940 v960 v980 v1161 v1181 v1201 v1221 >>= k) Q) := by
  iintro ⟨HS, Hw⟩ Hk
  iapply (run_bind c)
  unfold atArgs
  rw [k0_part57_eq_skeleton]
  unfold k0_part57_skel
  simp only [Prog.lift, Prog.bind_op, Prog.bind_ret, Prog.pure_eq_ret]
  iapply (step_wd pf κ c (i := 6) (by decide) ((by decide +kernel : ∀ c : Dev nD, k0_cond23 c = 1#1 ↔ chunk c 6 ≠ c) c) rfl ?hN) $$ HS
  case hN => exact fun h => snd_credit (k0_off64_inb c h) _
  iintro HS
  iapply (step_wd pf κ c (i := 7) (by decide) ((by decide +kernel : ∀ c : Dev nD, k0_cond24 c = 1#1 ↔ chunk c 7 ≠ c) c) rfl ?hN) $$ HS
  case hN => exact fun h => snd_credit (k0_off66_inb c h) _
  iintro HS
  iapply (step_wd pf κ c (i := 8) (by decide) ((by decide +kernel : ∀ c : Dev nD, k0_cond25 c = 1#1 ↔ chunk c 8 ≠ c) c) rfl ?hN) $$ HS
  case hN => exact fun h => snd_credit (k0_off68_inb c h) _
  iintro HS
  iapply (step_wd pf κ c (i := 9) (by decide) ((by decide +kernel : ∀ c : Dev nD, k0_cond26 c = 1#1 ↔ chunk c 9 ≠ c) c) rfl ?hN) $$ HS
  case hN => exact fun h => snd_credit (k0_off70_inb c h) _
  iintro HS
  iapply (step_wd pf κ c (i := 10) (by decide) ((by decide +kernel : ∀ c : Dev nD, k0_cond27 c = 1#1 ↔ chunk c 10 ≠ c) c) rfl ?hN) $$ HS
  case hN => exact fun h => snd_credit (k0_off72_inb c h) _
  iintro HS
  iapply (step_wd pf κ c (i := 11) (by decide) ((by decide +kernel : ∀ c : Dev nD, k0_cond28 c = 1#1 ↔ chunk c 11 ≠ c) c) rfl ?hN) $$ HS
  case hN => exact fun h => snd_credit (k0_off74_inb c h) _
  iintro HS
  iapply (step_wd pf κ c (i := 12) (by decide) ((by decide +kernel : ∀ c : Dev nD, k0_cond29 c = 1#1 ↔ chunk c 12 ≠ c) c) rfl ?hN) $$ HS
  case hN => exact fun h => snd_credit (k0_off76_inb c h) _
  iintro HS
  iapply (step_wd pf κ c (i := 13) (by decide) ((by decide +kernel : ∀ c : Dev nD, k0_cond30 c = 1#1 ↔ chunk c 13 ≠ c) c) rfl ?hN) $$ HS
  case hN => exact fun h => snd_credit (k0_off78_inb c h) _
  iintro HS
  iapply (step_wd pf κ c (i := 14) (by decide) ((by decide +kernel : ∀ c : Dev nD, k0_cond31 c = 1#1 ↔ chunk c 14 ≠ c) c) rfl ?hN) $$ HS
  case hN => exact fun h => snd_credit (k0_off80_inb c h) _
  iintro HS
  iapply (step_wd pf κ c (i := 15) (by decide) ((by decide +kernel : ∀ c : Dev nD, k0_cond32 c = 1#1 ↔ chunk c 15 ≠ c) c) rfl ?hN) $$ HS
  case hN => exact fun h => snd_credit (k0_off82_inb c h) _
  iintro HS
  ihave HS := (wd_end pf κ c) $$ [HS Hw]
  · isplitl [HS] <;> iassumption
  icases HS with ⟨HS, Hrest⟩
  iapply (step_wb pf κ c (o := 1) (by decide) (by decide) rfl src_credit) $$ HS; iintro HS
  ihave HS : iprop(wbSt pf κ c 2 ∗ pool (rsDone pf c) 0 16) $$ [HS Hrest]
  · isplitl [HS] <;> iassumption
  iapply (run_ret c)
  iapply Hk; iexact HS

theorem part58 {α : Type}
    {k : _ → Pg α} {Q : α → sProp 𝕄} :
    wbSt pf κ c 2
      ⊢ iprop((wbSt pf κ c 7 -∗ run c (k ⟨⟩) Q)
      -∗ run c (atArgs (k0_part58 (F := F))  >>= k) Q) := by
  iintro HS Hk
  iapply (run_bind c)
  unfold atArgs
  rw [k0_part58_eq_skeleton]
  unfold k0_part58_skel
  simp only [Prog.lift, Prog.bind_op, Prog.bind_ret, Prog.pure_eq_ret]
  iapply (step_wb pf κ c (o := 2) (by decide) (by decide) rfl src_credit) $$ HS; iintro HS
  iapply (step_wb pf κ c (o := 3) (by decide) (by decide) rfl src_credit) $$ HS; iintro HS
  iapply (step_wb pf κ c (o := 4) (by decide) (by decide) rfl src_credit) $$ HS; iintro HS
  iapply (step_wb pf κ c (o := 5) (by decide) (by decide) rfl src_credit) $$ HS; iintro HS
  iapply (step_wb pf κ c (o := 6) (by decide) (by decide) rfl src_credit) $$ HS; iintro HS
  iapply (run_ret c)
  iapply Hk; iexact HS

theorem part59 {α : Type}
    {k : _ → Pg α} {Q : α → sProp 𝕄} :
    wbSt pf κ c 7
      ⊢ iprop((wbSt pf κ c 13 -∗ run c (k ⟨⟩) Q)
      -∗ run c (atArgs (k0_part59 (F := F))  >>= k) Q) := by
  iintro HS Hk
  iapply (run_bind c)
  unfold atArgs
  rw [k0_part59_eq_skeleton]
  unfold k0_part59_skel
  simp only [Prog.lift, Prog.bind_op, Prog.bind_ret, Prog.pure_eq_ret]
  iapply (step_wb pf κ c (o := 7) (by decide) (by decide) rfl src_credit) $$ HS; iintro HS
  iapply (step_wb pf κ c (o := 8) (by decide) (by decide) rfl src_credit) $$ HS; iintro HS
  iapply (step_wb pf κ c (o := 9) (by decide) (by decide) rfl src_credit) $$ HS; iintro HS
  iapply (step_wb pf κ c (o := 10) (by decide) (by decide) rfl src_credit) $$ HS; iintro HS
  iapply (step_wb pf κ c (o := 11) (by decide) (by decide) rfl src_credit) $$ HS; iintro HS
  iapply (step_wb pf κ c (o := 12) (by decide) (by decide) rfl src_credit) $$ HS; iintro HS
  iapply (run_ret c)
  iapply Hk; iexact HS

end Cert.KernelIdeal.Reduce

end
-- ==== Proof.Body.lean ====
/-
# The whole body, at any device

From what the launch hands a device to what it hands back: no unit owed, all semaphores at zero, and every buffer with its
final contents.
-/
module

public import proofs.«01_k».proof.Proof.PartsC

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (pf : Dev nD → Vec F S512x1024 .f32) (κ : GSem nD τ sig → ℕ) (c : Dev nD)

/-- A device's part in the send of its `i`-th chunk, but for the slot it fills. -/
def rsTok (i : ℕ) : sProp 𝕄 :=
  iprop((if chunk c i = c then iprop(emp) else iprop(dutyTok ER (rsRecv (chunk c i) (sl c (chunk c i))) 0 0 ∗ dutyTok ER (rsSend c i) 0 0))
    ∗ reached ER (rsSend c i) 0 ∗ atPos ER (rsSend c i) 0 ∅ 0)

theorem at_begin {x : Vec F S512x1024 .bf16} :
    iprop(recs pf κ ∗ owing c (owed c 16 0 1) ∗ pool (fun i => if chunk c i = c then iprop(emp) else rsGot c (chunk c i)) 0 16 ∗ pool (rsTok c) 0 16
      ∗ (∃ f, outAt c Finset.univ f) ∗ (∃ f, sndAt c Finset.univ f) ∗ xAt c x) ⊢ atSt pf κ c x 0 0 0 := by
  unfold atSt rsSt
  have e : pool (rsRes (F := F) c) 0 16
      = iprop(pool (fun i => if chunk c i = c then iprop(emp) else rsGot c (chunk c i)) 0 16 ∗ pool (rsTok c) 0 16) := by
    rw [← pool_sep]; rfl
  rw [e]
  iintro ⟨HR, HO, HG, HT, ⟨%f, Hf⟩, ⟨%g, Hg⟩, Hx⟩
  isplitl [HR HO HG HT]
  · isplitl [HR]; · iexact HR
    isplitl [HO]; · iexact HO
    isplitl [HG HT]
    · isplitl [HG] <;> iassumption
    rw [pool_none]; iempintro
  isplitr; · rw [pool_none]; iempintro
  isplitl [Hf]
  · ihave Hf := (Entails.of_eq (out_blocks c f)) $$ Hf
    iapply (bs_mono (fun t _ => by unfold rawOut; iintro H; iexists f; iexact H) :
      pool (fun t => outAt c (blkSet (rb c t)) f) 0 4 ⊢ pool (rawOut c) 0 4); iexact Hf
  isplitr; · rw [pool_none]; iempintro
  isplitl [Hg]
  · ihave Hg := (Entails.of_eq (snd_blocks c g)) $$ Hg
    iapply (bs_mono (fun t _ => by unfold rawSnd; iintro H; iexists g; iexact H) :
      pool (fun t => sndAt c (blkSet (rb c t)) g) 0 4 ⊢ pool (rawSnd c) 0 4); iexact Hg
  iexact Hx

theorem ga_begin : iprop(bcSt pf κ c 16 ∗ pool (gaWait c) 0 15 ∗ pool (gaOld pf c) 0 15) ⊢ iprop(gaSt pf κ c 0 0 ∗ pool (bcSent c) 1 16) := by
  unfold bcSt gaSt
  rw [owed_end]
  iintro ⟨⟨HR, HO, -, HS⟩, HW, HG⟩
  isplitr [HS]
  · isplitl [HR]; · iexact HR
    isplitl [HO]; · iexact HO
    isplitl [HW]; · iexact HW
    isplitr; · rw [pool_none]; iempintro
    isplitl [HG]; · iexact HG
    rw [pool_none]; iempintro
  iexact HS

theorem wb_end : wbSt pf κ c 16 ⊢ iprop(owing c 0 ∗ pool (bcDone pf c) 1 16) := by
  unfold wbSt
  iintro ⟨-, HO, -, HD⟩
  isplitl [HO] <;> iassumption

theorem rs_done : pool (rsDone pf c) 0 16 = iprop(pool (fun i => semVal (rsSend c i) 0) 0 16 ∗ sndAt c Finset.univ (pb pf c)) := by
  rw [snd_all c (pb pf c), ← pool_sep]; rfl
theorem ga_here : pool (gaHere pf c) 0 15 = iprop(pool (fun j => semVal (bcRecv c j) 0) 0 15 ∗ bcAt c Finset.univ (bcFull pf c)) := by
  rw [bc_slots c (bcFull pf c), ← pool_sep]; rfl
theorem bc_done : pool (bcDone pf c) 1 16 = iprop(pool (fun o => semVal (bcSend c (o - 1)) 0) 1 16 ∗ srcAt c fullShare (bcs pf c)) := by
  rw [srcAt_deal c (bcs pf c)]
  exact pool_sep (fun o => semVal (bcSend c (o - 1)) 0) (fun o => srcAt c (shr o) (bcs pf c)) 1 16
theorem out_whole : iprop(outAt c (chSet c.val) (outF pf c) ∗ pool (gaNew pf c) 0 15) ⊢ outAt c Finset.univ (outF pf c) := by
  rw [out_ring c (outF pf c)]; exact Entails.of_eq rfl

/-- What the launch hands a device. -/
def bodyPre (x : Vec F S512x1024 .bf16) (wq wk wv wo : Vec F S1024x1024 .bf16) : sProp 𝕄 :=
  iprop(recs pf κ ∗ owing c (owed c 1 0 1) ∗ pool (sigRes c) 1 16 ∗ (atPos ER (barCell c) 0 ∅ 0 ∗ cred (tallyAt (barCell c) () 15))
    ∗ pool (rsTok c) 0 16 ∗ pool (rsWait c) 0 15 ∗ pool (bcTok c) 1 16 ∗ pool (gaWait c) 0 15 ∗ atPos ER (dCell c 67) 0 ∅ 0
    ∗ (∃ f, outAt c Finset.univ f) ∗ (∃ f, sndAt c Finset.univ f) ∗ (∃ f, srcAt c fullShare f) ∗ inp c x wq wk wv wo)

/-- What it hands back. -/
def bodyPost (x : Vec F S512x1024 .bf16) (wq wk wv wo : Vec F S1024x1024 .bf16) : sProp 𝕄 :=
  iprop(owing c 0 ∗ semVal (barCell c) 0 ∗ (pool (fun i => semVal (rsSend c i) 0) 0 16 ∗ pool (fun j => semVal (rsRecv c j) 0) 0 15
      ∗ pool (fun o => semVal (bcSend c (o - 1)) 0) 1 16 ∗ pool (fun j => semVal (bcRecv c j) 0) 0 15 ∗ semVal (dCell c 67) 0)
    ∗ sndAt c Finset.univ (pb pf c) ∗ rsAt c Finset.univ (rsFull pf c) ∗ srcAt c fullShare (bcs pf c) ∗ bcAt c Finset.univ (bcFull pf c)
    ∗ outAt c Finset.univ (outF pf c) ∗ inp c x wq wk wv wo)

set_option maxHeartbeats 4000000 in
theorem body_run {x : Vec F S512x1024 .bf16} {wq wk wv wo : Vec F S1024x1024 .bf16} (hpf : pf c = pfOf x wq wk wv wo) {Q : PUnit → sProp 𝕄} :
    bodyPre pf κ c x wq wk wv wo ⊢ iprop((bodyPost pf c x wq wk wv wo -∗ Q ⟨⟩) -∗ run c (atArgs (cc0_body (F := F))) Q) := by
  unfold bodyPre
  iintro ⟨#HR, HO, Hsig, Hbar, Hrt, Hrw, Hbt, Hgw, Hat, Hout, Hsnd, Hsrc, HS⟩ Hk
  unfold atArgs
  rw [cc0_body_eq_skeleton]
  unfold cc0_body_skel
  iapply (run_bind c)
  rw [k0_part60_eq_skeleton]
  unfold k0_part60_skel
  iapply (part1 c) $$ HS
  iintro %v2 %v19 %v33 %v16 %v34 HS
  ihave HS := (Entails.of_eq (show inp c x wq wk wv wo = iprop(xAt c x ∗ (((c : Thread nD τ).loc cc0_stg1_0) ↦{fullShare} wq)
    ∗ (((c : Thread nD τ).loc cc0_stg2_0) ↦{fullShare} wk) ∗ (((c : Thread nD τ).loc cc0_stg3_0) ↦{fullShare} wv)
    ∗ (((c : Thread nD τ).loc cc0_stg4_0) ↦{fullShare} wo)) from rfl)) $$ HS
  icases HS with ⟨Hx, Hin⟩
  ihave HS : sigSt pf κ c 1 $$ [HO Hsig]
  · unfold sigSt; isplitr; · iexact HR
    isplitl [HO] <;> iassumption
  iapply (part2 pf κ c) $$ HS
  iintro %r HS
  obtain ⟨v62, v67, v68⟩ := r
  iapply (part3 pf κ c) $$ HS
  iintro %r HS
  obtain ⟨v98, c16_i32_62, v99⟩ := r
  iapply (part4 pf κ c) $$ HS
  iintro %r HS
  obtain ⟨v127, v132, v133⟩ := r
  iapply (part5 pf κ c) $$ HS
  iintro %r HS
  obtain ⟨v163, c16_i32_107, v164⟩ := r
  iapply (part6 pf κ c) $$ HS
  iintro %r HS
  obtain ⟨v192, v197, v198⟩ := r
  ihave HS : iprop(sigSt pf κ c 13 ∗ atPos ER (barCell c) 0 ∅ 0 ∗ cred (tallyAt (barCell c) () 15)) $$ [HS Hbar]
  · isplitl [HS] <;> iassumption
  iapply (part7 pf κ c) $$ HS
  iintro HS
  icases HS with ⟨HO, Hvb, HG, Hbg⟩
  ihave HS := (at_begin pf κ c (x := x)) $$ [HO HG Hrt Hout Hsnd Hx]
  · isplitr; · iexact HR
    isplitl [HO]; · iexact HO
    isplitl [HG]; · iexact HG
    isplitl [Hrt]; · iexact Hrt
    isplitl [Hout]; · iexact Hout
    isplitl [Hsnd] <;> iassumption
  iapply (part8 pf κ c) $$ HS
  iintro %v270 %v271 HS
  iapply (part9 c)
  iapply (part10 c)
  iapply (part11 pf κ c hpf (pass0 (k0_pay3 wo) (k0_pay2 wq) (k0_pay4 x wk) (k0_pay5 x wv) (rowsAt c 0 x))) $$ HS
  iintro HS
  iapply (part12 pf κ c hpf) $$ HS
  iintro %r HS
  obtain ⟨v438, v442, v446, v447, v448, v449, v450⟩ := r
  iapply (part13 pf κ c) $$ HS
  iintro %r HS
  obtain ⟨v458, v478, v482, v484, c16_i32_249, c0_i32_250⟩ := r
  iapply (part14 pf κ c) $$ HS
  iintro %v498 %v511 %v512 HS
  iapply (part15 c)
  iapply (part16 c)
  iapply (part17 pf κ c hpf (pass1 (k0_pay3 wo) (k0_pay2 wq) (k0_pay4 x wk) (k0_pay5 x wv) (rowsAt c 1 x))) $$ HS
  iintro HS
  iapply (part18 pf κ c hpf) $$ HS
  iintro %r HS
  obtain ⟨v679, v683, v695⟩ := r
  iapply (part19 pf κ c) $$ HS
  iintro %r HS
  obtain ⟨v699, v719, v723, v727, v728⟩ := r
  iapply (part20 pf κ c) $$ HS
  iintro %v739 %v752 %v753 HS
  iapply (part21 c)
  iapply (part22 c)
  iapply (part23 pf κ c hpf (pass2 (k0_pay3 wo) (k0_pay2 wq) (k0_pay4 x wk) (k0_pay5 x wv) (rowsAt c 2 x))) $$ HS
  iintro %v903 HS
  iapply (part24 pf κ c) $$ HS
  iintro %r HS
  obtain ⟨v920, v924, v937⟩ := r
  iapply (part25 pf κ c) $$ HS
  iintro %r HS
  obtain ⟨v940, v960, v964, v968, v969, v970, v971⟩ := r
  iapply (part26 pf κ c) $$ HS
  iintro %v980 %v993 %v994 HS
  iapply (part27 c)
  iapply (part28 c)
  iapply (part29 pf κ c hpf (pass3 (k0_pay3 wo) (k0_pay2 wq) (k0_pay4 x wk) (k0_pay5 x wv) (rowsAt c 3 x))) $$ HS
  iintro %r HS
  obtain ⟨v1145, v1146, c1_i32_533⟩ := r
  iapply (part30 pf κ c) $$ HS
  iintro %r HS
  obtain ⟨v1161, v1165, v1181, v1182⟩ := r
  iapply (part31 pf κ c) $$ HS
  iintro %r HS
  obtain ⟨v1201, v1205, v1209, v1210, v1215⟩ := r
  ihave HS : iprop(atSt pf κ c x 4 4 15 ∗ pool (rsWait c) 0 15) $$ [HS Hrw]
  · isplitl [HS] <;> iassumption
  iapply (part32 pf κ c) $$ HS
  iintro %v1221 HS
  icases HS with ⟨HS, Hsent, Hout, Hx⟩
  iapply (part33 pf κ c) $$ HS
  iintro %_ HS
  iapply (part34 pf κ c) $$ HS
  iintro %_ HS
  iapply (part35 pf κ c) $$ HS
  iintro %c32_i32_695 HS
  ihave HS : iprop(rwSt pf κ c 15 ∗ outAt c Finset.univ (pf c) ∗ (∃ f, srcAt c fullShare f) ∗ pool (bcGot c) 1 16 ∗ pool (bcTok c) 1 16)
    $$ [HS Hout Hsrc Hbg Hbt]
  · isplitl [HS]; · iexact HS
    isplitl [Hout]; · iexact Hout
    isplitl [Hsrc]; · iexact Hsrc
    isplitl [Hbg] <;> iassumption
  iapply (part36 pf κ c) $$ HS
  iintro %v1340 HS
  icases HS with ⟨HS, Hvr, Hrs, Hout, Hold⟩
  iapply (part37 pf κ c) $$ HS
  iintro %r HS
  obtain ⟨v1359, v1378⟩ := r
  iapply (part38 pf κ c) $$ HS
  iintro %r HS
  obtain ⟨v1397, v1416⟩ := r
  iapply (part39 pf κ c) $$ HS
  iintro %r HS
  obtain ⟨v1435, v1446, v1447, v1448⟩ := r
  iapply (part40 pf κ c) $$ HS
  iintro %r HS
  obtain ⟨v1454, v1473, v1482⟩ := r
  iapply (part41 pf κ c) $$ HS
  iintro %r HS
  obtain ⟨v1492, v1511⟩ := r
  iapply (part42 pf κ c) $$ HS
  iintro %r HS
  obtain ⟨v1530, v1549⟩ := r
  iapply (part43 pf κ c) $$ HS
  iintro %r HS
  obtain ⟨v1568, v1579, v1580, v1581, v1582⟩ := r
  iapply (part44 pf κ c) $$ HS
  iintro %r HS
  obtain ⟨v1587, v1606, c1_i32_917⟩ := r
  ihave HS := (ga_begin pf κ c) $$ [HS Hgw Hold]
  · isplitl [HS]; · iexact HS
    isplitl [Hgw] <;> iassumption
  icases HS with ⟨HS, Hbs⟩
  iapply (part45 pf κ c) $$ HS
  iintro %v1646 HS
  iapply (part46 pf κ c) $$ HS
  iintro %r HS
  obtain ⟨v1672, v1673, v1678⟩ := r
  iapply (part47 pf κ c) $$ HS
  iintro %_ HS
  iapply (part48 pf κ c) $$ HS
  iintro %_ HS
  iapply (part49 pf κ c) $$ HS
  iintro %r HS
  obtain ⟨v1768, v1769, v1770, v1771⟩ := r
  iapply (part50 pf κ c) $$ HS
  iintro %v1804 HS
  iapply (part51 pf κ c) $$ HS
  iintro %_ HS
  iapply (part52 pf κ c) $$ HS
  iintro %r HS
  obtain ⟨v1864, v1865⟩ := r
  iapply (part53 pf κ c) $$ HS
  iintro %v1896 HS
  iapply (part54 pf κ c) $$ HS
  iintro %r HS
  obtain ⟨v1927, c0_i32_1166⟩ := r
  iapply (part55 pf κ c) $$ HS
  iintro %r HS
  obtain ⟨v1958, c16_i32_1190, c0_i32_1191⟩ := r
  ihave HS : iprop(gaSt pf κ c 15 14 ∗ pool (rsSent pf c) 0 16) $$ [HS Hsent]
  · isplitl [HS] <;> iassumption
  iapply (part56 pf κ c) $$ HS
  iintro HS
  icases HS with ⟨HS, Hhere, Hnew⟩
  ihave HS : iprop(wdSt pf κ c 6 ∗ pool (bcSent c) 1 16) $$ [HS Hbs]
  · isplitl [HS] <;> iassumption
  iapply (part57 pf κ c) $$ HS
  iintro HS
  icases HS with ⟨HS, Hdone⟩
  iapply (part58 pf κ c) $$ HS
  iintro HS
  iapply (part59 pf κ c) $$ HS
  iintro HS
  iapply (run_ret c)
  simp only [Prog.lift, Prog.bind_op, Prog.bind_ret, Prog.pure_eq_ret]
  iapply (step_wb pf κ c (o := 13) (by decide) (by decide) rfl src_credit) $$ HS; iintro HS
  iapply (step_wb pf κ c (o := 14) (by decide) (by decide) rfl src_credit) $$ HS; iintro HS
  iapply (step_wb pf κ c (o := 15) (by decide) (by decide) rfl src_credit) $$ HS; iintro HS
  ihave HS := (wb_end pf κ c) $$ HS
  icases HS with ⟨HO, HD⟩
  ihave HD := (Entails.of_eq (bc_done pf c)) $$ HD
  icases HD with ⟨Hvs, Hsrc⟩
  ihave Hhere := (Entails.of_eq (ga_here pf c)) $$ Hhere
  icases Hhere with ⟨Hvg, Hbc⟩
  ihave Hdone := (Entails.of_eq (rs_done pf c)) $$ Hdone
  icases Hdone with ⟨Hvd, Hsnd⟩
  ihave Hout := (out_whole pf c) $$ [Hout Hnew]
  · isplitl [Hout] <;> iassumption
  iapply (run_fupd c)
  imod (cell_end pf κ (duties_spare pf c)) $$ [Hat] with Hv
  · isplitr; · iapply (recs_d pf κ c (by decide) (by decide)); iexact HR
    iexact Hat
  imodintro
  iapply (run_ret c)
  iapply Hk
  unfold bodyPost inp
  isplitl [HO]; · iexact HO
  isplitl [Hvb]; · iexact Hvb
  isplitl [Hvd Hvr Hvs Hvg Hv]
  · isplitl [Hvd]; · iexact Hvd
    isplitl [Hvr]; · iexact Hvr
    isplitl [Hvs]; · iexact Hvs
    isplitl [Hvg] <;> iassumption
  isplitl [Hsnd]; · iexact Hsnd
  isplitl [Hrs]; · iexact Hrs
  isplitl [Hsrc]; · iexact Hsrc
  isplitl [Hbc]; · iexact Hbc
  isplitl [Hout]; · iexact Hout
  isplitl [Hx] <;> iassumption

end Cert.KernelIdeal.Reduce

end
-- ==== Proof.Deal.lean ====
/-
# What the launch deals to each device

The tokens of the protocol, from the devices whose cells they are for to those that pay, and the credits of what the others
owe a device.
-/
module

public import proofs.«01_k».proof.Proof.Body
public import Idealize.ShloMosaic.Lib.Pipeline.RegionTalk
public import Idealize.ShloMosaic.Lib.Rounds.Family

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

/-! ## Pools, shifted and cut -/

theorem pool_shift (Φ : ℕ → sProp 𝕄) (k a b : ℕ) : pool Φ (k + a) (k + b) = pool (fun i => Φ (k + i)) a b := by
  have e : Finset.Ico (k + a) (k + b) = (Finset.Ico a b).image (k + ·) := by
    ext x; simp only [Finset.mem_image, Finset.mem_Ico]
    exact ⟨fun h => ⟨x - k, by omega, by omega⟩, by rintro ⟨y, h, rfl⟩; omega⟩
  unfold pool
  rw [e, bigSep_image_of_injOn (fun x _ y _ h => Nat.add_left_cancel h)]

theorem pool_cut (Φ : ℕ → sProp 𝕄) {a b c : ℕ} (h1 : a ≤ b) (h2 : b ≤ c) : pool Φ a c = iprop(pool Φ a b ∗ pool Φ b c) := by
  unfold pool
  rw [← Finset.Ico_union_Ico_eq_Ico h1 h2, bigSep_union (Finset.Ico_disjoint_Ico_consecutive a b c)]
  rfl

theorem pool_pred (Φ : ℕ → sProp 𝕄) : pool Φ 0 15 = pool (fun o => Φ (o - 1)) 1 16 := by
  rw [show pool (fun o => Φ (o - 1)) 1 16 = pool (fun o => Φ (o - 1)) (1 + 0) (1 + 15) from rfl, pool_shift]
  exact bigSep_congr fun i _ => by rw [Nat.add_sub_cancel_left]

theorem pool_eq {Φ Ψ : ℕ → sProp 𝕄} {a b : ℕ} (h : ∀ i, a ≤ i → i < b → Φ i = Ψ i) : pool Φ a b = pool Ψ a b :=
  bigSep_congr fun i hi => h i (Finset.mem_Ico.mp hi).1 (Finset.mem_Ico.mp hi).2

omit [FloatOps F] in
theorem sep_emp_eq (P : sProp 𝕄) : iprop(P ∗ emp) = P :=
  Idealize.SL.BI.equiv_iff.mp ⟨(Laws.sep_emp (PROP := sProp 𝕄)).1, (Laws.sep_emp (PROP := sProp 𝕄)).2⟩

theorem bigSep_sum {A B : Type} [Fintype A] [Fintype B] [DecidableEq A] [DecidableEq B] (Φ : A ⊕ B → sProp 𝕄) :
    bigSep Finset.univ Φ = iprop(bigSep Finset.univ (fun a => Φ (.inl a)) ∗ bigSep Finset.univ fun b => Φ (.inr b)) := by
  have e : (Finset.univ : Finset (A ⊕ B)) = Finset.univ.image Sum.inl ∪ Finset.univ.image Sum.inr := by
    ext x; cases x <;> simp
  have hd : Disjoint ((Finset.univ : Finset A).image (Sum.inl : A → A ⊕ B)) (Finset.univ.image Sum.inr) := by
    rw [Finset.disjoint_left]
    intro x h1 h2
    obtain ⟨a, -, rfl⟩ := Finset.mem_image.mp h1
    obtain ⟨b, -, h⟩ := Finset.mem_image.mp h2
    cases h
  rw [e, bigSep_union hd, bigSep_image_of_injOn Sum.inl_injective.injOn, bigSep_image_of_injOn Sum.inr_injective.injOn]
  rfl

/-- A family over a kernel's 62 own semaphores, as a pool over their numbers. -/
theorem own_pool (Φ : ℕ → sProp 𝕄) : bigSep Finset.univ (fun k : Fin 62 => Φ (6 + k.val)) = pool Φ 6 68 := by
  have e : Finset.Ico 6 68 = (Finset.univ : Finset (Fin 62)).image (fun k => 6 + k.val) := by
    ext x; simp only [Finset.mem_image, Finset.mem_Ico, Finset.mem_univ, true_and]
    exact ⟨fun h => ⟨⟨x - 6, by omega⟩, by show 6 + (x - 6) = x; omega⟩, by rintro ⟨y, rfl⟩; have := y.isLt; omega⟩
  unfold pool
  rw [e, bigSep_image_of_injOn (fun x _ y _ h => Fin.ext (by have h : 6 + x.val = 6 + y.val := h; omega))]

/-- The same, the five groups apart. -/
theorem own_groups (Φ : ℕ → sProp 𝕄) : bigSep Finset.univ (fun k : Fin 62 => Φ (6 + k.val))
    = iprop(pool (fun i => Φ (6 + i)) 0 16 ∗ pool (fun j => Φ (22 + j)) 0 15 ∗ pool (fun i => Φ (37 + i)) 0 15
      ∗ pool (fun j => Φ (52 + j)) 0 15 ∗ Φ 67) := by
  rw [own_pool, pool_cut Φ (show 6 ≤ 22 by decide) (show 22 ≤ 68 by decide), pool_cut Φ (show 22 ≤ 37 by decide) (show 37 ≤ 68 by decide),
    pool_cut Φ (show 37 ≤ 52 by decide) (show 52 ≤ 68 by decide), pool_cut Φ (show 52 ≤ 67 by decide) (show 67 ≤ 68 by decide),
    pool_step Φ (show 67 < 68 by decide), pool_none]
  have e (k b : ℕ) : pool Φ k (k + b) = pool (fun i => Φ (k + i)) 0 b := pool_shift Φ k 0 b
  rw [show pool Φ 6 22 = _ from e 6 16, show pool Φ 22 37 = _ from e 22 15, show pool Φ 37 52 = _ from e 37 15, show pool Φ 52 67 = _ from e 52 15,
    sep_emp_eq]

/-! ## The tokens, from the cells' devices to those who pay -/

theorem sl_nx_self (c : Dev nD) {o : ℕ} (h1 : 1 ≤ o) (h2 : o < 16) : sl (nx c o) c = o - 1 := by
  have := dlt c; simp only [sl, nx]; omega

/-- What the devices other than `c` have of `c`'s slots, by slot. -/
theorem by_slot (c : Dev nD) (Φ : ℕ → sProp 𝕄) : pool Φ 0 15 = bigSep (Finset.univ.erase c) fun d => Φ (sl d c) := by
  rw [pool_pred, others_nx]
  exact pool_eq fun o h1 h2 => by rw [sl_nx_self c h1 h2]

theorem bigSep_swap {A B : Type} [DecidableEq A] (s : Finset A) (t : Finset B) (Φ : A → B → sProp 𝕄) :
    bigSep s (fun a => bigSep t fun b => Φ a b) = bigSep t fun b => bigSep s fun a => Φ a b := by
  induction s using Finset.induction_on with
  | empty => rw [bigSep_empty, bigSep_congr (s := t) fun b _ => bigSep_empty (Φ := fun a => Φ a b)]; exact (BI.bigSep_emp_const t).symm
  | insert a s ha ih =>
    rw [bigSep_insert ha, ih, bigSep_congr (s := t) fun b _ => bigSep_insert (Φ := fun a => Φ a b) ha]
    exact (bigSep_sep t _ _).symm

theorem bigSep_others (c : Dev nD) (Φ : Dev nD → sProp 𝕄) :
    bigSep (Finset.univ.erase c) Φ = bigSep Finset.univ fun d => if d = c then iprop(emp) else Φ d := by
  conv_rhs => rw [← Finset.insert_erase (Finset.mem_univ c)]
  rw [bigSep_insert (Finset.notMem_erase c _), if_pos rfl, bigSep_congr (s := Finset.univ.erase c) (Ψ := Φ)
    fun d hd => if_neg (Finset.ne_of_mem_erase hd)]
  exact (emp_sep_eq _).symm

theorem others_swap (Φ : Dev nD → Dev nD → sProp 𝕄) :
    bigSep Finset.univ (fun c : Dev nD => bigSep (Finset.univ.erase c) fun d => Φ c d)
      = bigSep Finset.univ fun d : Dev nD => bigSep (Finset.univ.erase d) fun c => Φ c d := by
  rw [bigSep_congr (s := Finset.univ) fun c _ => bigSep_others c (Φ c), bigSep_swap]
  refine bigSep_congr fun d _ => ((bigSep_others d fun c => Φ c d).trans (bigSep_congr fun c _ => ?_)).symm
  exact if_congr eq_comm rfl rfl

/-- All tokens, as funded: one per device on a barrier cell, one on every other cell. -/
def tokEmb : (Dev nD × Dev nD) ⊕ (Dev nD × Fin 62) ↪ GSem nD τ sig × ℕ × Dev nD :=
  ⟨fun | .inl p => (barCell p.1, 0, p.2) | .inr p => (scEmb p, 0, 0), fun a b h => by
    match a, b with
    | .inl a, .inl b =>
      exact congrArg _ (Prod.ext (congrArg (fun x : GSem nD τ sig × ℕ × Dev nD => x.1.1.1) h) (congrArg (fun x : GSem nD τ sig × ℕ × Dev nD => x.2.2) h))
    | .inr a, .inr b => exact congrArg _ (scEmb.injective (congrArg Prod.fst h))
    | .inl a, .inr b =>
      have h : (SemLoc.reg barS : SemLoc sig) = .dma (dsem (6 + b.2.val)) := congrArg (fun x : GSem nD τ sig × ℕ × Dev nD => x.1.2) h
      cases h
    | .inr a, .inl b =>
      have h : (SemLoc.dma (dsem (6 + a.2.val)) : SemLoc sig) = .reg barS := congrArg (fun x : GSem nD τ sig × ℕ × Dev nD => x.1.2) h
      cases h⟩

def toks : Finset (GSem nD τ sig × ℕ × Dev nD) := Finset.univ.map tokEmb

theorem toks_cells : (bigSep toks (fun x => dutyTok ER x.1 x.2.1 x.2.2) : sProp 𝕄)
    = iprop(bigSep Finset.univ (fun c : Dev nD => bigSep Finset.univ fun d : Dev nD => dutyTok ER (barCell c) 0 d)
      ∗ bigSep Finset.univ (fun c : Dev nD => bigSep Finset.univ fun k : Fin 62 => dutyTok ER (dCell c (6 + k.val)) 0 0)) := by
  unfold toks
  rw [bigSep_map, bigSep_sum, bigSep_univ_prod, bigSep_univ_prod]
  rfl

/-- The tokens of what device `c` pays. -/
def pays (c : Dev nD) : sProp 𝕄 :=
  iprop(pool (fun o => dutyTok ER (barCell (nx c o)) 0 c) 1 16
    ∗ pool (fun i => if chunk c i = c then iprop(emp) else dutyTok ER (rsRecv (chunk c i) (sl c (chunk c i))) 0 0) 0 16
    ∗ pool (fun i => dutyTok ER (rsSend c i) 0 0) 0 16
    ∗ pool (fun o => dutyTok ER (bcRecv (nx c o) (15 - o)) 0 0) 1 16
    ∗ pool (fun o => dutyTok ER (bcSend c (o - 1)) 0 0) 1 16)

theorem bar_toks : (bigSep Finset.univ (fun c : Dev nD => bigSep Finset.univ fun d : Dev nD => dutyTok ER (barCell c) 0 d) : sProp 𝕄)
    ⊢ bigSep Finset.univ fun c : Dev nD => pool (fun o => dutyTok ER (barCell (nx c o)) 0 c) 1 16 := by
  have h : (bigSep Finset.univ (fun c : Dev nD => bigSep Finset.univ fun d : Dev nD => dutyTok ER (barCell c) 0 d) : sProp 𝕄)
      ⊢ bigSep Finset.univ (fun c : Dev nD => bigSep (Finset.univ.erase c) fun d : Dev nD => dutyTok ER (barCell c) 0 d) :=
    bs_mono fun c _ => bigSep_subset (Finset.erase_subset _ _)
  rw [others_swap] at h
  exact h.trans (bs_mono fun c _ => Entails.of_eq (others_nx c _))

theorem rs_toks : (bigSep Finset.univ (fun c : Dev nD => pool (fun j => dutyTok ER (rsRecv c j) 0 0) 0 15) : sProp 𝕄)
    = bigSep Finset.univ fun c : Dev nD =>
        pool (fun i => if chunk c i = c then iprop(emp) else dutyTok ER (rsRecv (chunk c i) (sl c (chunk c i))) 0 0) 0 16 := by
  rw [bigSep_congr (s := Finset.univ) fun c _ => by_slot c (fun j => dutyTok ER (rsRecv c j) 0 0), others_swap]
  exact bigSep_congr fun c _ => others_chunk c fun d => dutyTok ER (rsRecv d (sl c d)) 0 0

theorem bc_toks : (bigSep Finset.univ (fun c : Dev nD => pool (fun j => dutyTok ER (bcRecv c j) 0 0) 0 15) : sProp 𝕄)
    = bigSep Finset.univ fun c : Dev nD => pool (fun o => dutyTok ER (bcRecv (nx c o) (15 - o)) 0 0) 1 16 := by
  rw [bigSep_congr (s := Finset.univ) fun c _ => by_slot c (fun j => dutyTok ER (bcRecv c j) 0 0), others_swap]
  refine bigSep_congr fun c _ => (others_nx c fun d => dutyTok ER (bcRecv d (sl c d)) 0 0).trans ?_
  exact pool_eq fun o h1 h2 => by rw [sl_nx c h1 h2]

theorem unzip {I : Type} [Fintype I] {Φ Ψ : I → sProp 𝕄} :
    bigSep Finset.univ (fun c => iprop(Φ c ∗ Ψ c)) ⊢ iprop(bigSep Finset.univ Φ ∗ bigSep Finset.univ Ψ) :=
  Entails.of_eq (bigSep_sep' _ _ _)
theorem zip {I : Type} [Fintype I] {Φ Ψ : I → sProp 𝕄} :
    iprop(bigSep Finset.univ Φ ∗ bigSep Finset.univ Ψ) ⊢ bigSep Finset.univ fun c => iprop(Φ c ∗ Ψ c) :=
  Entails.of_eq (bigSep_sep' _ _ _).symm

theorem deal_toks : (bigSep toks (fun x => dutyTok ER x.1 x.2.1 x.2.2) : sProp 𝕄) ⊢ bigSep Finset.univ pays := by
  rw [toks_cells, bigSep_congr (s := Finset.univ) fun c _ => own_groups (fun n => dutyTok ER (dCell c n) 0 0)]
  unfold pays
  iintro ⟨HB, HD⟩
  ihave HD := unzip $$ HD; icases HD with ⟨H1, HD⟩
  ihave HD := unzip $$ HD; icases HD with ⟨H2, HD⟩
  ihave HD := unzip $$ HD; icases HD with ⟨H3, HD⟩
  ihave HD := unzip $$ HD; icases HD with ⟨H4, -⟩
  iapply zip; isplitl [HB]; · iapply bar_toks; iexact HB
  iapply zip; isplitl [H2]; · iapply (Entails.of_eq rs_toks); iexact H2
  iapply zip; isplitl [H1]; · iexact H1
  iapply zip; isplitl [H4]; · iapply (Entails.of_eq bc_toks); iexact H4
  iapply (bs_mono fun c _ => Entails.of_eq (pool_pred fun i => dutyTok ER (bcSend c i) 0 0)); iexact H3

/-! ## The launch credit -/

theorem at_bar (a c : Dev nD) (k : ℕ) : (tallyAt (barCell a) () k : CellTallies nD τ sig Unit) (barCell c) () = if a = c then k else 0 := by
  rw [tallyAt_apply]
  refine if_congr ⟨fun h => congrArg (fun g : GSem nD τ sig => g.1.1) h.1.symm, fun h => ⟨by rw [h], rfl⟩⟩ rfl rfl
theorem at_bar_d (a c : Dev nD) (k n : ℕ) : (tallyAt (barCell a) () k : CellTallies nD τ sig Unit) (dCell c n) () = 0 := by
  rw [tallyAt_apply]; refine if_neg fun h => ?_
  have h : (SemLoc.dma (dsem n) : SemLoc sig) = .reg barS := congrArg (fun g : GSem nD τ sig => g.2) h.1
  cases h
theorem at_d_bar (a c : Dev nD) (k n : ℕ) : (tallyAt (dCell a n) () k : CellTallies nD τ sig Unit) (barCell c) () = 0 := by
  rw [tallyAt_apply]; refine if_neg fun h => ?_
  have h : (SemLoc.reg barS : SemLoc sig) = .dma (dsem n) := congrArg (fun g : GSem nD τ sig => g.2) h.1
  cases h
theorem at_d (a c : Dev nD) (k : ℕ) {n n' : ℕ} (h : n < 68) (h' : n' < 68) :
    (tallyAt (dCell a n) () k : CellTallies nD τ sig Unit) (dCell c n') () = if a = c ∧ n = n' then k else 0 := by
  rw [tallyAt_apply]
  refine if_congr ⟨fun e => ?_, fun e => ⟨by rw [e.1, e.2], rfl⟩⟩ rfl rfl
  obtain ⟨h1, h2⟩ := dCell_inj h h' e.1.symm
  exact ⟨h1, h2⟩

theorem sum_at (s : Finset ℕ) (T : ℕ → CellTallies nD τ sig Unit) (g : GSem nD τ sig) : (∑ x ∈ s, T x) g () = ∑ x ∈ s, T x g () := by
  rw [Finset.sum_apply, Finsupp.finsetSum_apply]

theorem sum_others (c : Dev nD) (f : Dev nD → ℕ) : ∑ o ∈ Finset.Ico 1 16, f (nx c o) = ∑ d ∈ Finset.univ.erase c, f d := by
  rw [← univ_nx c, Finset.sum_image (nx_inj c)]
theorem sum_chunks (c : Dev nD) (f : Dev nD → ℕ) : ∑ i ∈ Finset.Ico 0 16, f (chunk c i) = ∑ d, f d := by
  rw [← univ_chunk c, Finset.sum_image (chunk_inj c)]

theorem rsT_at (d c : Dev nD) (j : ℕ) (hj : j < 15) (i : ℕ) :
    rsT d i (rsRecv c j) () = if chunk d i = d then 0 else if chunk d i = c ∧ sl d (chunk d i) = j then N else 0 := by
  unfold rsT
  by_cases h : chunk d i = d
  · rw [if_pos h, if_pos h]; rfl
  · rw [if_neg h, if_neg h, at_d _ _ _ (by have := sl_lt (Ne.symm h); omega) (by omega)]
    exact if_congr (and_congr_right fun _ => by omega) rfl rfl

theorem owed_bar (d c : Dev nD) : owed d 1 0 1 (barCell c) () = if d = c then 0 else 1 := by
  have e2 : (∑ x ∈ Finset.Ico 0 16, rsT d x) (barCell c) () = 0 := by
    rw [sum_at]; refine Finset.sum_eq_zero fun x _ => ?_
    unfold rsT; split
    · rfl
    · exact at_d_bar _ _ _ _
  have e3 : (∑ x ∈ Finset.Ico 1 16, tallyAt (bcRecv (nx d x) (15 - x)) () N : CellTallies nD τ sig Unit) (barCell c) () = 0 := by
    rw [sum_at]; exact Finset.sum_eq_zero fun x _ => at_d_bar _ _ _ _
  unfold owed
  rw [Pi.add_apply, Finsupp.add_apply, Pi.add_apply, Finsupp.add_apply, e2, e3, sum_at, Finset.sum_congr rfl fun x _ => at_bar (nx d x) c 1,
    sum_others d fun a => if a = c then 1 else 0, Finset.sum_ite_eq']
  by_cases h : d = c
  · subst h; rw [if_pos rfl, if_neg (Finset.notMem_erase d _)]
  · rw [if_neg h, if_pos (Finset.mem_erase.mpr ⟨Ne.symm h, Finset.mem_univ _⟩)]

theorem owed_rsRecv (d c : Dev nD) {j : ℕ} (hj : j < 15) :
    owed d 1 0 1 (rsRecv c j) () = if d ≠ c ∧ sl d c = j then N else 0 := by
  have e1 : (∑ x ∈ Finset.Ico 1 16, tallyAt (barCell (nx d x)) () 1 : CellTallies nD τ sig Unit) (rsRecv c j) () = 0 := by
    rw [sum_at]; exact Finset.sum_eq_zero fun x _ => at_bar_d _ _ _ _
  have e3 : (∑ x ∈ Finset.Ico 1 16, tallyAt (bcRecv (nx d x) (15 - x)) () N : CellTallies nD τ sig Unit) (rsRecv c j) () = 0 := by
    rw [sum_at]; refine Finset.sum_eq_zero fun x hx => ?_
    rw [at_d _ _ _ (by omega) (by omega), if_neg fun h => by omega]
  unfold owed
  rw [Pi.add_apply, Finsupp.add_apply, Pi.add_apply, Finsupp.add_apply, e1, e3, sum_at, Finset.sum_congr rfl fun x _ => rsT_at d c j hj x,
    sum_chunks d fun a => if a = d then 0 else if a = c ∧ sl d a = j then N else 0, Finset.sum_eq_single c]
  · rw [zero_add, add_zero]
    by_cases h : c = d
    · rw [if_pos h, if_neg fun e => e.1 h.symm]
    · rw [if_neg h]; exact if_congr ⟨fun e => ⟨Ne.symm h, e.2⟩, fun e => ⟨rfl, e.2⟩⟩ rfl rfl
  · intro a _ ha
    split
    · rfl
    · exact if_neg fun e => ha e.1
  · exact fun h => absurd (Finset.mem_univ c) h

theorem owed_bcRecv (d c : Dev nD) {j : ℕ} (hj : j < 15) :
    owed d 1 0 1 (bcRecv c j) () = if d ≠ c ∧ sl d c = j then N else 0 := by
  have e1 : (∑ x ∈ Finset.Ico 1 16, tallyAt (barCell (nx d x)) () 1 : CellTallies nD τ sig Unit) (bcRecv c j) () = 0 := by
    rw [sum_at]; exact Finset.sum_eq_zero fun x _ => at_bar_d _ _ _ _
  have e2 : (∑ x ∈ Finset.Ico 0 16, rsT d x) (bcRecv c j) () = 0 := by
    rw [sum_at]; refine Finset.sum_eq_zero fun x _ => ?_
    unfold rsT; split
    · rfl
    · next h => rw [at_d _ _ _ (by have := sl_lt (Ne.symm h); omega) (by omega), if_neg fun e => by have := sl_lt (Ne.symm h); omega]
  have e3 : ∀ x ∈ Finset.Ico 1 16, (tallyAt (bcRecv (nx d x) (15 - x)) () N : CellTallies nD τ sig Unit) (bcRecv c j) ()
      = (fun a => if a = c ∧ sl d a = j then N else 0) (nx d x) := fun x hx => by
    obtain ⟨h1, h2⟩ := Finset.mem_Ico.mp hx
    rw [at_d _ _ _ (by omega) (by omega)]
    show _ = if nx d x = c ∧ sl d (nx d x) = j then N else 0
    rw [sl_nx d h1 h2]; exact if_congr (and_congr_right fun _ => by omega) rfl rfl
  unfold owed
  rw [Pi.add_apply, Finsupp.add_apply, Pi.add_apply, Finsupp.add_apply, e1, e2, sum_at, Finset.sum_congr rfl e3, sum_others d fun a => if a = c ∧ sl d a = j then N else 0, zero_add, zero_add]
  by_cases h : d = c
  · subst h
    rw [if_neg fun e => e.1 rfl]
    exact Finset.sum_eq_zero fun a ha => if_neg fun e => Finset.ne_of_mem_erase ha e.1
  · rw [Finset.sum_eq_single c]
    · exact if_congr ⟨fun e => ⟨h, e.2⟩, fun e => ⟨rfl, e.2⟩⟩ rfl rfl
    · exact fun a _ ha => if_neg fun e => ha e.1
    · exact fun hn => absurd (Finset.mem_erase.mpr ⟨Ne.symm h, Finset.mem_univ c⟩) hn

theorem sum_slot (c : Dev nD) {j : ℕ} (hj : j < 15) : (∑ d : Dev nD, if d ≠ c ∧ sl d c = j then N else 0) = N := by
  rw [Finset.sum_eq_single (nx c (j + 1))]
  · exact if_pos ⟨nx_ne c (by omega) (by omega), by rw [sl_nx_self c (by omega) (by omega)]; omega⟩
  · refine fun d _ hd => if_neg fun e => hd ?_
    rw [← e.2, nx_sl e.1]
  · exact fun h => absurd (Finset.mem_univ _) h

abbrev O₀ (c : Dev nD) : CellTallies nD τ sig Unit := owed c 1 0 1

theorem credit_bar (c : Dev nD) : tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel
theorem credit_rs (c : Dev nD) {j : ℕ} (hj : j < 15) :
    tallyOn (rsRecv c j) (launchCredit (Pipeline.owing O₀) 0 (rsRecv c j)) = (tallyAt (rsRecv c j) () N : CellTallies nD τ sig Unit) := by
  unfold tallyAt; refine congrArg _ (Finsupp.ext fun u => ?_); cases u
  rw [Pipeline.launchCredit_owing, Finsupp.single_eq_same, Finset.sum_congr rfl fun d _ => owed_rsRecv d c hj, sum_slot c hj]
theorem credit_bc (c : Dev nD) {j : ℕ} (hj : j < 15) :
    tallyOn (bcRecv c j) (launchCredit (Pipeline.owing O₀) 0 (bcRecv c j)) = (tallyAt (bcRecv c j) () N : CellTallies nD τ sig Unit) := by
  unfold tallyAt; refine congrArg _ (Finsupp.ext fun u => ?_); cases u
  rw [Pipeline.launchCredit_owing, Finsupp.single_eq_same, Finset.sum_congr rfl fun d _ => owed_bcRecv d c hj, sum_slot c hj]

/-- The credits a device's waits take. -/
def creds (c : Dev nD) : sProp 𝕄 :=
  iprop(cred (tallyAt (barCell c) () 15) ∗ pool (fun j => cred (tallyAt (rsRecv c j) () N)) 0 15 ∗ pool (fun j => cred (tallyAt (bcRecv c j) () N)) 0 15)

theorem dsem_inj {m n : ℕ} (hm : m < 68) (hn : n < 68) (h : (SemLoc.dma (dsem m) : SemLoc sig) = .dma (dsem n)) : m = n := by
  have := congrArg Fin.val (SemLoc.dma.inj h); rwa [dsem_val hm, dsem_val hn] at this

theorem dsem_injOn {k : ℕ} (hk : k + 15 ≤ 68) :
    Set.InjOn (fun j => (SemLoc.dma (dsem (k + j)) : SemLoc sig)) (Finset.Ico 0 15 : Finset ℕ) := by
  intro a ha b hb h
  rw [Finset.mem_coe, Finset.mem_Ico] at ha hb
  have := dsem_inj (m := k + a) (n := k + b) (by omega) (by omega) h; omega

/-- Fifteen semaphores from number `k` on. -/
def semsFrom (k : ℕ) : Finset (SemLoc sig) := (Finset.Ico 0 15).image fun j => .dma (dsem (k + j))

theorem semsFrom_disjoint : Disjoint (semsFrom 22) (semsFrom 52) := by
  rw [Finset.disjoint_left]
  intro s hs ht
  obtain ⟨i, hi, rfl⟩ := Finset.mem_image.mp hs
  obtain ⟨j, hj, h⟩ := Finset.mem_image.mp ht
  rw [Finset.mem_Ico] at hi hj
  have := dsem_inj (m := 52 + j) (n := 22 + i) (by omega) (by omega) h; omega

theorem semsFrom_sub : semsFrom 22 ∪ semsFrom 52 ⊆ Finset.univ.erase (SemLoc.reg barS) := by
  intro s hs
  refine Finset.mem_erase.mpr ⟨fun e => ?_, Finset.mem_univ _⟩
  subst e
  rcases Finset.mem_union.mp hs with h | h <;> (obtain ⟨i, -, h⟩ := Finset.mem_image.mp h; cases h)

theorem over_sems {k : ℕ} (hk : k + 15 ≤ 68) (Φ : SemLoc sig → sProp 𝕄) :
    bigSep (semsFrom k) Φ = pool (fun j => Φ (.dma (dsem (k + j)))) 0 15 :=
  bigSep_image_of_injOn (dsem_injOn hk) Φ

theorem creds_intro (c : Dev nD) : (Pipeline.launchCred O₀ c : sProp 𝕄) ⊢ creds c := by
  unfold Pipeline.launchCred creds
  rw [bigSep_univ_at _ (SemLoc.reg barS), credit_bar]
  refine sep_mono_right ((bigSep_subset semsFrom_sub).trans ?_)
  rw [bigSep_union semsFrom_disjoint, over_sems (by decide), over_sems (by decide)]
  refine BIClass.sep_mono (Entails.of_eq (pool_eq fun j _ hj => ?_)) (Entails.of_eq (pool_eq fun j _ hj => ?_))
  · exact congrArg cred (credit_rs c hj)
  · exact congrArg cred (credit_bc c hj)

end Cert.KernelIdeal.Reduce

end
-- ==== Proof.Start.lean ====
/-
# A device's start

What the launch deals to a device is what its body asks for.
-/
module

public import proofs.«01_k».proof.Proof.Deal

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (pf : Dev nD → Vec F S512x1024 .f32) (κ : GSem nD τ sig → ℕ) (c : Dev nD)

/-- The device's own DMA semaphores, opened. -/
def opened : sProp 𝕄 :=
  bigSep Finset.univ fun k : Fin 62 => iprop(atPos ER (dCell c (6 + k.val)) 0 ∅ 0 ∗ reached ER (dCell c (6 + k.val)) 0)

/-- A part of `c`'s slot number `o - 1`, as all parts of what `c` hands to its `o`-th next. -/
theorem sig_pool :
    iprop(pool (fun o => dutyTok ER (barCell (nx c o)) 0 c) 1 16 ∗ pool (fun j => iprop(∃ f, rsAt (F := F) c (rsSet j) f)) 0 15
      ∗ pool (fun j => iprop(∃ f, bcAt (F := F) c (bcSet j) f)) 0 15 ∗ pool (fun j => reached ER (rsRecv c j) 0) 0 15 ∗ pool (fun j => reached ER (bcRecv c j) 0) 0 15)
      ⊢ pool (sigRes (F := F) c) 1 16 := by
  rw [pool_pred (fun j => iprop(∃ f, rsAt (F := F) c (rsSet j) f)), pool_pred (fun j => iprop(∃ f, bcAt (F := F) c (bcSet j) f)),
    pool_pred (fun j => reached ER (rsRecv c j) 0), pool_pred (fun j => reached ER (bcRecv c j) 0), ← pool_sep, ← pool_sep, ← pool_sep, ← pool_sep]
  refine Entails.of_eq (pool_eq fun o h1 h2 => ?_)
  unfold sigRes barPay
  rw [sl_nx_self c h1 h2]

theorem raw_slots : iprop(∃ f, rsAt (F := F) c Finset.univ f) ⊢ pool (fun j => iprop(∃ f, rsAt (F := F) c (rsSet j) f)) 0 15 := by
  iintro ⟨%f, H⟩
  ihave H := (Entails.of_eq (rs_slots c f)) $$ H
  iapply (bs_mono (fun j _ => by iintro H; iexists f; iexact H) :
    pool (fun j => rsAt c (rsSet j) f) 0 15 ⊢ pool (fun j => iprop(∃ f, rsAt (F := F) c (rsSet j) f)) 0 15); iexact H
theorem raw_bslots : iprop(∃ f, bcAt (F := F) c Finset.univ f) ⊢ pool (fun j => iprop(∃ f, bcAt (F := F) c (bcSet j) f)) 0 15 := by
  iintro ⟨%f, H⟩
  ihave H := (Entails.of_eq (bc_slots c f)) $$ H
  iapply (bs_mono (fun j _ => by iintro H; iexists f; iexact H) :
    pool (fun j => bcAt c (bcSet j) f) 0 15 ⊢ pool (fun j => iprop(∃ f, bcAt (F := F) c (bcSet j) f)) 0 15); iexact H

theorem rsTok_pool :
    iprop(pool (fun i => if chunk c i = c then iprop(emp) else dutyTok ER (rsRecv (chunk c i) (sl c (chunk c i))) 0 0) 0 16
      ∗ pool (fun i => dutyTok ER (rsSend c i) 0 0) 0 16
      ∗ pool (fun i => iprop(atPos ER (rsSend c i) 0 ∅ 0 ∗ reached ER (rsSend c i) 0)) 0 16) ⊢ pool (rsTok (F := F) c) 0 16 := by
  rw [← pool_sep, ← pool_sep]
  refine bs_mono fun i _ => ?_
  unfold rsTok
  split
  · iintro ⟨-, -, H1, H2⟩
    isplitr; · iempintro
    isplitl [H2] <;> iassumption
  · iintro ⟨H3, H4, H1, H2⟩
    isplitl [H3 H4]
    · isplitl [H3] <;> iassumption
    isplitl [H2] <;> iassumption

theorem bcTok_pool :
    iprop(pool (fun o => dutyTok ER (bcRecv (nx c o) (15 - o)) 0 0) 1 16 ∗ pool (fun o => dutyTok ER (bcSend c (o - 1)) 0 0) 1 16
      ∗ pool (fun i => iprop(atPos ER (bcSend c i) 0 ∅ 0 ∗ reached ER (bcSend c i) 0)) 0 15) ⊢ pool (bcTok (F := F) c) 1 16 := by
  rw [pool_pred (fun i => iprop(atPos ER (bcSend c i) 0 ∅ 0 ∗ reached ER (bcSend c i) 0)), ← pool_sep, ← pool_sep]
  refine bs_mono fun o _ => ?_
  unfold bcTok
  iintro ⟨H3, H4, H1, H2⟩
  isplitl [H3 H4]
  · isplitl [H3] <;> iassumption
  isplitl [H2] <;> iassumption

/-- Positions and credits of fifteen cells, by cell. -/
theorem wait_pool (g : ℕ → GSem nD τ sig) :
    iprop(pool (fun j => atPos ER (g j) 0 ∅ 0) 0 15 ∗ pool (fun j => cred (tallyAt (g j) () N)) 0 15)
      ⊢ (pool (fun j => iprop(atPos ER (g j) 0 ∅ 0 ∗ cred (tallyAt (g j) () N))) 0 15 : sProp 𝕄) := Entails.of_eq (pool_sep _ _ 0 15).symm

theorem begin {x : Vec F S512x1024 .bf16} {wq wk wv : Vec F S1024x1024 .bf16} {wo : Vec F S1024x1024 .bf16} :
    iprop(recs pf κ ∗ owing c (owed c 1 0 1) ∗ atPos ER (barCell c) 0 ∅ 0 ∗ opened c ∗ pays c ∗ creds c
      ∗ (∃ f, rsAt c Finset.univ f) ∗ (∃ f, bcAt c Finset.univ f)
      ∗ (∃ f, outAt c Finset.univ f) ∗ (∃ f, sndAt c Finset.univ f) ∗ (∃ f, srcAt c fullShare f) ∗ inp c x wq wk wv wo)
      ⊢ bodyPre pf κ c x wq wk wv wo := by
  have e : opened (F := F) c = iprop(pool (fun i => iprop(atPos ER (rsSend c i) 0 ∅ 0 ∗ reached ER (rsSend c i) 0)) 0 16
      ∗ (pool (fun j => atPos ER (rsRecv c j) 0 ∅ 0) 0 15 ∗ pool (fun j => reached ER (rsRecv c j) 0) 0 15)
      ∗ pool (fun i => iprop(atPos ER (bcSend c i) 0 ∅ 0 ∗ reached ER (bcSend c i) 0)) 0 15
      ∗ (pool (fun j => atPos ER (bcRecv c j) 0 ∅ 0) 0 15 ∗ pool (fun j => reached ER (bcRecv c j) 0) 0 15)
      ∗ (atPos ER (dCell c 67) 0 ∅ 0 ∗ reached ER (dCell c 67) 0)) := by
    unfold opened
    rw [own_groups (fun n => iprop(atPos ER (dCell c n) 0 ∅ 0 ∗ reached ER (dCell c n) 0)), ← pool_sep, ← pool_sep]
  unfold bodyPre pays creds
  rw [e]
  iintro ⟨HR, HO, HaB, ⟨HS, ⟨Ha1, Hr1⟩, HB, ⟨Ha2, Hr2⟩, ⟨HD, -⟩⟩, ⟨HtB, HtR, HtS, HtG, HtC⟩, ⟨HcB, Hc1, Hc2⟩, Hrs, Hbc, Hout, Hsnd, Hsrc, Hin⟩
  isplitl [HR]; · iexact HR
  isplitl [HO]; · iexact HO
  isplitl [HtB Hrs Hbc Hr1 Hr2]
  · iapply sig_pool
    isplitl [HtB]; · iexact HtB
    isplitl [Hrs]; · iapply raw_slots; iexact Hrs
    isplitl [Hbc]; · iapply raw_bslots; iexact Hbc
    isplitl [Hr1] <;> iassumption
  isplitl [HaB HcB]
  · isplitl [HaB] <;> iassumption
  isplitl [HtR HtS HS]
  · iapply rsTok_pool
    isplitl [HtR]; · iexact HtR
    isplitl [HtS] <;> iassumption
  isplitl [Ha1 Hc1]
  · iapply (wait_pool (F := F) (rsRecv c)); isplitl [Ha1] <;> iassumption
  isplitl [HtG HtC HB]
  · iapply bcTok_pool
    isplitl [HtG]; · iexact HtG
    isplitl [HtC] <;> iassumption
  isplitl [Ha2 Hc2]
  · iapply (wait_pool (F := F) (bcRecv c)); isplitl [Ha2] <;> iassumption
  isplitl [HD]; · iexact HD
  isplitl [Hout]; · iexact Hout
  isplitl [Hsnd]; · iexact Hsnd
  isplitl [Hsrc]; · iexact Hsrc
  iexact Hin

/-- All own semaphores at zero, from the five groups. -/
theorem all_zero :
    iprop(pool (fun i => semVal (rsSend c i) 0) 0 16 ∗ pool (fun j => semVal (rsRecv c j) 0) 0 15 ∗ pool (fun o => semVal (bcSend c (o - 1)) 0) 1 16
      ∗ pool (fun j => semVal (bcRecv c j) 0) 0 15 ∗ semVal (dCell c 67) 0)
      ⊢ (bigSep Finset.univ fun k : Fin 62 => semVal (dCell c (6 + k.val)) 0 : sProp 𝕄) := by
  rw [own_groups (fun n => semVal (dCell c n) 0), ← pool_pred (fun i => semVal (bcSend c i) 0)]

end Cert.KernelIdeal.Reduce

end
-- ==== Proof.Region.lean ====
/-
# The kernel's one region

What the call finds and leaves: its six arrays, the staged operands, and the resources that ride beside them.
-/
module

public import proofs.«01_k».proof.Proof.Start
public import proofs.«01_k».proof.Proof.Gen.KernelIdeal.Frame
public import Idealize.ShloMosaic.Lib.Pipeline.ValueKit

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

open Idealize.ShloMosaic.Pipeline (Dat BodyObligation)

variable (m : (l : Loc nD τ sig) → Buf (Elt F) l)

/-! ## The operands -/

theorem emb0 (t : Fin cfg0.N) (y : S512x1024.Idx) : (win0_0.blk t).view.emb y = y := by
  funext a; apply Fin.ext; blk_simp; rw [show win0_0.index t a = 0 from rfl, Nat.zero_mul, Nat.zero_add]
theorem emb1 (t : Fin cfg0.N) (y : S1024x1024.Idx) : (win0_1.blk t).view.emb y = y := by
  funext a; apply Fin.ext; blk_simp; rw [show win0_1.index t a = 0 from rfl, Nat.zero_mul, Nat.zero_add]
theorem emb2 (t : Fin cfg0.N) (y : S1024x1024.Idx) : (win0_2.blk t).view.emb y = y := by
  funext a; apply Fin.ext; blk_simp; rw [show win0_2.index t a = 0 from rfl, Nat.zero_mul, Nat.zero_add]
theorem emb3 (t : Fin cfg0.N) (y : S1024x1024.Idx) : (win0_3.blk t).view.emb y = y := by
  funext a; apply Fin.ext; blk_simp; rw [show win0_3.index t a = 0 from rfl, Nat.zero_mul, Nat.zero_add]
theorem emb4 (t : Fin cfg0.N) (y : S1024x1024.Idx) : (win0_4.blk t).view.emb y = y := by
  funext a; apply Fin.ext; blk_simp; rw [show win0_4.index t a = 0 from rfl, Nat.zero_mul, Nat.zero_add]
theorem emb5 (t : Fin cfg0.N) (y : S512x1024.Idx) : (win0_5.blk t).view.emb y = y := by
  funext a; apply Fin.ext; blk_simp; rw [show win0_5.index t a = 0 from rfl, Nat.zero_mul, Nat.zero_add]

/-- What device `c`'s call is given. -/
def opX (c : Dev nD) : Vec F S512x1024 .bf16 := V m c main_v1
def opQ (c : Dev nD) : Vec F S1024x1024 .bf16 := V m c main_arg1
def opK (c : Dev nD) : Vec F S1024x1024 .bf16 := V m c main_arg2
def opV (c : Dev nD) : Vec F S1024x1024 .bf16 := V m c main_arg3
def opO (c : Dev nD) : Vec F S1024x1024 .bf16 := V m c main_arg4

theorem iblk_0 (c : Dev nD) (t : Fin cfg0.N) : iblk (F := F) m c 0 t = opX m c := by
  funext y; exact congrArg (V m c main_v1) (emb0 t y)
theorem iblk_1 (c : Dev nD) (t : Fin cfg0.N) : iblk (F := F) m c 1 t = opQ m c := by
  funext y; exact congrArg (V m c main_arg1) (emb1 t y)
theorem iblk_2 (c : Dev nD) (t : Fin cfg0.N) : iblk (F := F) m c 2 t = opK m c := by
  funext y; exact congrArg (V m c main_arg2) (emb2 t y)
theorem iblk_3 (c : Dev nD) (t : Fin cfg0.N) : iblk (F := F) m c 3 t = opV m c := by
  funext y; exact congrArg (V m c main_arg3) (emb3 t y)
theorem iblk_4 (c : Dev nD) (t : Fin cfg0.N) : iblk (F := F) m c 4 t = opO m c := by
  funext y; exact congrArg (V m c main_arg4) (emb4 t y)

/-- Each device's partial product. -/
def pfM (d : Dev nD) : Vec F S512x1024 .f32 := pfOf (opX m d) (opQ m d) (opK m d) (opV m d) (opO m d)

/-! ## What the body is entered with, and what it leaves -/

/-- What device `c` brings: the protocol's records, its positions, the tokens of what it pays, and its credits. -/
def held₀ (c : Dev nD) : sProp 𝕄 :=
  iprop(∃ κ, recs (pfM m) κ ∗ atPos ER (barCell c) 0 ∅ 0 ∗ opened c ∗ pays c ∗ creds c)

/-- The four buffers of the kernel's own. -/
def scr (c : Dev nD) : sProp 𝕄 :=
  iprop((∃ f, sndAt (F := F) c Finset.univ f) ∗ (∃ f, rsAt (F := F) c Finset.univ f) ∗ (∃ f, srcAt (F := F) c fullShare f) ∗ (∃ f, bcAt (F := F) c Finset.univ f))

/-- What stays: all own semaphores, and the barrier, at zero. -/
def held₁ (c : Dev nD) : sProp 𝕄 :=
  iprop(semVal (barCell c) 0 ∗ bigSep Finset.univ fun k : Fin 62 => semVal (dCell c (6 + k.val)) 0)

def dat (c : Dev nD) : Dat τ (Elt F) Unit ℕ UU ℕ cfg0 c where
  A w := V m c (Pipeline.arrRef spec0 w)
  after w t := match w with
    | ⟨0, _⟩ => opX m c
    | ⟨1, _⟩ => opQ m c
    | ⟨2, _⟩ => opK m c
    | ⟨3, _⟩ => opV m c
    | ⟨4, _⟩ => opO m c
    | ⟨5, _⟩ => outF (pfM m) c
  Φ t := if t.val = 0 then iprop(held₀ m c ∗ scr c ∗ ∃ r, prngReg c r) else iprop(held₁ c ∗ scr c ∗ ∃ r, prngReg c r)
  q _ := fullShare
  owed t := if t.val = 0 then O₀ c else 0

theorem before_0 (c : Dev nD) (t : Fin cfg0.N) (d : (cfg0.win 0).block.Idx → Elt F (cfg0.win 0).elt) : (dat (F := F) m c).before 0 t d = opX m c :=
  ((dat (F := F) m c).before_in_eq_fetched 0 rfl (fun _ => rfl) (fun _ _ _ => rfl) (fun t => (iblk_0 m c t).symm) t d).trans (iblk_0 m c t)
theorem before_1 (c : Dev nD) (t : Fin cfg0.N) (d : (cfg0.win 1).block.Idx → Elt F (cfg0.win 1).elt) : (dat (F := F) m c).before 1 t d = opQ m c :=
  ((dat (F := F) m c).before_in_eq_fetched 1 rfl (fun _ => rfl) (fun _ _ _ => rfl) (fun t => (iblk_1 m c t).symm) t d).trans (iblk_1 m c t)
theorem before_2 (c : Dev nD) (t : Fin cfg0.N) (d : (cfg0.win 2).block.Idx → Elt F (cfg0.win 2).elt) : (dat (F := F) m c).before 2 t d = opK m c :=
  ((dat (F := F) m c).before_in_eq_fetched 2 rfl (fun _ => rfl) (fun _ _ _ => rfl) (fun t => (iblk_2 m c t).symm) t d).trans (iblk_2 m c t)
theorem before_3 (c : Dev nD) (t : Fin cfg0.N) (d : (cfg0.win 3).block.Idx → Elt F (cfg0.win 3).elt) : (dat (F := F) m c).before 3 t d = opV m c :=
  ((dat (F := F) m c).before_in_eq_fetched 3 rfl (fun _ => rfl) (fun _ _ _ => rfl) (fun t => (iblk_3 m c t).symm) t d).trans (iblk_3 m c t)
theorem before_4 (c : Dev nD) (t : Fin cfg0.N) (d : (cfg0.win 4).block.Idx → Elt F (cfg0.win 4).elt) : (dat (F := F) m c).before 4 t d = opO m c :=
  ((dat (F := F) m c).before_in_eq_fetched 4 rfl (fun _ => rfl) (fun _ _ _ => rfl) (fun t => (iblk_4 m c t).symm) t d).trans (iblk_4 m c t)

theorem owesAt_intro (c : Dev nD) (t : Fin (cfg0.N + 1)) {O : CellTallies nD τ sig Unit} (h0 : (dat (F := F) m c).owed t = O) :
    owing c O ⊢ ((dat (F := F) m c).owesAt () t : sProp 𝕄) := by
  unfold owing Dat.owesAt Pipeline.owesWithin Dat.bound
  rw [h0, show (dat (F := F) m c).recorded t = Set.univ from rfl]
  iintro ⟨%W, HO⟩; iexists W; isplitr; · ipureintro; exact fun _ _ => Or.inl trivial
  iexact HO
theorem owesAt_elim (c : Dev nD) (t : Fin (cfg0.N + 1)) {O : CellTallies nD τ sig Unit} (h0 : (dat (F := F) m c).owed t = O) :
    ((dat (F := F) m c).owesAt () t : sProp 𝕄) ⊢ owing c O := by
  unfold owing Dat.owesAt Pipeline.owesWithin; rw [h0]
  iintro ⟨%W, -, HO⟩; iexists W; iexact HO

theorem owed_first (c : Dev nD) : (dat (F := F) m c).owed 0 = O₀ c := by
  show (if (0 : Fin (cfg0.N + 1)).val = 0 then O₀ c else 0) = O₀ c; exact if_pos rfl
theorem owed_last (c : Dev nD) : (dat (F := F) m c).owed (Fin.last _) = 0 := by
  show (if (Fin.last cfg0.N).val = 0 then O₀ c else 0) = 0
  rw [Fin.val_last, if_neg (by rw [show cfg0.N = 1 from N_0]; decide)]

/-! ## The body, as the call wants it -/

def bodyIn (c : Dev nD) : sProp 𝕄 :=
  iprop((held₀ m c ∗ scr c ∗ ∃ r, prngReg c r) ∗ (dat m c).owesAt () t0_0.castSucc
    ∗ (∃ d, ((c : Thread nD τ).loc cc0_stg0_0) ↦{fullShare} ((dat m c).before (0 : Fin 6) t0_0 d))
    ∗ (∃ d, ((c : Thread nD τ).loc cc0_stg1_0) ↦{fullShare} ((dat m c).before (1 : Fin 6) t0_0 d))
    ∗ (∃ d, ((c : Thread nD τ).loc cc0_stg2_0) ↦{fullShare} ((dat m c).before (2 : Fin 6) t0_0 d))
    ∗ (∃ d, ((c : Thread nD τ).loc cc0_stg3_0) ↦{fullShare} ((dat m c).before (3 : Fin 6) t0_0 d))
    ∗ (∃ d, ((c : Thread nD τ).loc cc0_stg4_0) ↦{fullShare} ((dat m c).before (4 : Fin 6) t0_0 d))
    ∗ (∃ d, ((c : Thread nD τ).loc cc0_stg5_0) ↦{fullShare} ((dat m c).before (5 : Fin 6) t0_0 d)))

def bodyOut (c : Dev nD) : sProp 𝕄 :=
  iprop((held₁ (F := F) c ∗ scr c ∗ ∃ r, prngReg c r) ∗ (dat m c).owesAt () t0_0.succ
    ∗ (((c : Thread nD τ).loc cc0_stg0_0) ↦{fullShare} opX m c) ∗ (((c : Thread nD τ).loc cc0_stg1_0) ↦{fullShare} opQ m c)
    ∗ (((c : Thread nD τ).loc cc0_stg2_0) ↦{fullShare} opK m c) ∗ (((c : Thread nD τ).loc cc0_stg3_0) ↦{fullShare} opV m c)
    ∗ (((c : Thread nD τ).loc cc0_stg4_0) ↦{fullShare} opO m c) ∗ (((c : Thread nD τ).loc cc0_stg5_0) ↦{fullShare} outF (pfM m) c))

theorem body_at (c : Dev nD) : bodyIn m c ⊢ run c (atArgs (cc0_body (F := F))) fun _ => bodyOut m c := by
  unfold bodyIn held₀ scr
  iintro ⟨⟨⟨%κ, #HR, HaB, HOp, Hpay, Hcr⟩, ⟨Hsnd, Hrs, Hsrc, Hbc⟩, Hreg⟩, HO, ⟨%d0, H0⟩, ⟨%d1, H1⟩, ⟨%d2, H2⟩, ⟨%d3, H3⟩, ⟨%d4, H4⟩, ⟨%d5, H5⟩⟩
  ihave HO := (owesAt_elim m c t0_0.castSucc (owed_first m c)) $$ HO
  ihave H0 := (Entails.of_eq (congrArg (fun v => iprop(((c : Thread nD τ).loc cc0_stg0_0) ↦{fullShare} v)) (before_0 m c t0_0 d0))) $$ H0
  ihave H1 := (Entails.of_eq (congrArg (fun v => iprop(((c : Thread nD τ).loc cc0_stg1_0) ↦{fullShare} v)) (before_1 m c t0_0 d1))) $$ H1
  ihave H2 := (Entails.of_eq (congrArg (fun v => iprop(((c : Thread nD τ).loc cc0_stg2_0) ↦{fullShare} v)) (before_2 m c t0_0 d2))) $$ H2
  ihave H3 := (Entails.of_eq (congrArg (fun v => iprop(((c : Thread nD τ).loc cc0_stg3_0) ↦{fullShare} v)) (before_3 m c t0_0 d3))) $$ H3
  ihave H4 := (Entails.of_eq (congrArg (fun v => iprop(((c : Thread nD τ).loc cc0_stg4_0) ↦{fullShare} v)) (before_4 m c t0_0 d4))) $$ H4
  ihave Hw := (body_run (pfM m) κ c (x := opX m c) (wq := opQ m c) (wk := opK m c) (wv := opV m c) (wo := opO m c) rfl
    (Q := fun _ => bodyOut m c)) $$ [HO HaB HOp Hpay Hcr Hrs Hbc H5 Hsnd Hsrc H0 H1 H2 H3 H4]
  · iapply (begin (pfM m) κ c)
    isplitr; · iexact HR
    isplitl [HO]; · iexact HO
    isplitl [HaB]; · iexact HaB
    isplitl [HOp]; · iexact HOp
    isplitl [Hpay]; · iexact Hpay
    isplitl [Hcr]; · iexact Hcr
    isplitl [Hrs]; · iexact Hrs
    isplitl [Hbc]; · iexact Hbc
    isplitl [H5]; · iexists _; iexact H5
    isplitl [Hsnd]; · iexact Hsnd
    isplitl [Hsrc]; · iexact Hsrc
    unfold inp
    isplitl [H0]; · iexact H0
    isplitl [H1]; · iexact H1
    isplitl [H2]; · iexact H2
    isplitl [H3]; · iexact H3
    iexact H4
  iapply Hw
  unfold bodyPost bodyOut held₁ inp
  iintro ⟨HO, HzB, Hz, Hsnd, Hrs, Hsrc, Hbc, Hout, H0, H1, H2, H3, H4⟩
  isplitl [HzB Hz Hsnd Hrs Hsrc Hbc Hreg]
  · isplitl [HzB Hz]
    · isplitl [HzB]; · iexact HzB
      iapply (all_zero c); iexact Hz
    isplitl [Hsnd Hrs Hsrc Hbc]
    · unfold scr
      isplitl [Hsnd]; · iexists _; iexact Hsnd
      isplitl [Hrs]; · iexists _; iexact Hrs
      isplitl [Hsrc]; · iexists _; iexact Hsrc
      iexists _; iexact Hbc
    iexact Hreg
  isplitl [HO]; · iapply (owesAt_intro m c t0_0.succ (owed_last m c)); iexact HO
  isplitl [H0]; · iexact H0
  isplitl [H1]; · iexact H1
  isplitl [H2]; · iexact H2
  isplitl [H3]; · iexact H3
  isplitl [H4]; · iexact H4
  iexact Hout

set_option maxRecDepth 4000 in
theorem body_obligation (c : Dev nD) : BodyObligation (dat (F := F) m c) (defs₀ (F := F)) 𝒱₀ () Set.univ := fun t => by
  obtain rfl := fin_N0 t
  rw [bigSep_W0, bigSep_W0]
  simp only [owns_whole]
  exact body_at m c

end Cert.KernelIdeal.Reduce

end
-- ==== Proof.Launch.lean ====
/-
# The run of the kernel

The launch deals the protocol's resources; the body runs on every device; what is left at the end is read off the buffers.
-/
module

public import proofs.«01_k».proof.Proof.Region
public import Idealize.ShloMosaic.Lib.Pipeline.RegionTalk
public import Idealize.ShloMosaic.Lib.Rounds.Family

@[expose] public section

noncomputable section

namespace Cert.KernelIdeal.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

open Idealize.ShloMosaic.Pipeline (Dat BodyObligation)

variable (m : (l : Loc nD τ sig) → Buf (Elt F) l) (ρ : Dev nD → PrngReg)

/-! ## The buffers between the steps of the program -/

def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

abbrev ptr (c : Dev nD) (b : Ref sig .tc) (f : Buf (Elt F) ((c : Thread nD τ).loc b)) : sProp 𝕄 := ((c : Thread nD τ).loc b) ↦{fullShare} f

theorem bufs_eq (c : Dev nD) (W : Valuation τ sig (Elt F)) : (StableHlo.held (c : Thread nD τ) bufs W : sProp 𝕄)
    = iprop(ptr c main_arg0 (W (Proc.devRef .tc main_arg0)) ∗ ptr c main_arg1 (W (Proc.devRef .tc main_arg1)) ∗ ptr c main_arg2 (W (Proc.devRef .tc main_arg2))
      ∗ ptr c main_arg3 (W (Proc.devRef .tc main_arg3)) ∗ ptr c main_arg4 (W (Proc.devRef .tc main_arg4)) ∗ ptr c main_v1 (W (Proc.devRef .tc main_v1))
      ∗ ptr c main_v2 (W (Proc.devRef .tc main_v2)) ∗ ptr c main_v3 (W (Proc.devRef .tc main_v3))) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev osem (k : Fin 62) : SemLoc sig := .dma (dsem (6 + k.val))

/-- The buffers at the start, at the call, behind it, and at the end. -/
abbrev V₀ (c : Dev nD) : Valuation τ sig (Elt F) := fun b => m (c, b)
abbrev V₁ (c : Dev nD) : Valuation τ sig (Elt F) := V0 m c
def V₂ (c : Dev nD) : Valuation τ sig (Elt F) := Function.update (V₁ m c) (Proc.devRef .tc main_v2) (outF (pfM m) c)
abbrev V₃ (c : Dev nD) : Valuation τ sig (Elt F) := StableHlo.after hostOps1 (V₂ m c)

theorem V₂_v2 (c : Dev nD) : V₂ m c (Proc.devRef .tc main_v2) = outF (pfM m) c := Function.update_self ..
theorem V₂_of_ne (c : Dev nD) {b : DevRef τ sig} (h : b ≠ Proc.devRef .tc main_v2) : V₂ m c b = V₁ m c b := Function.update_of_ne h ..

/-- The arrays of the call, and the other two buffers. -/
abbrev arrs : Finset (DevRef τ sig) := Pipeline.arrRefs (τ := τ) (pcfgs (F := F) 0).spec
def others : Finset (DevRef τ sig) := bufs \ arrs (F := F)

theorem arrs_sub : arrs (F := F) ⊆ bufs := (by decide : Pipeline.arrRefs (τ := τ) spec0 ⊆ bufs)
theorem v2_arr : Proc.devRef .tc main_v2 ∈ arrs (F := F) := (by decide : Proc.devRef .tc main_v2 ∈ Pipeline.arrRefs (τ := τ) spec0)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

/-! ## The resources that ride along -/

/-- From the launch to the call. -/
def Tk (c : Dev nD) : sProp 𝕄 :=
  iprop(∃ κ, recs (pfM m) κ ∗ atPos ER (barCell c) 0 ∅ 0 ∗ (bigSep Finset.univ fun k : Fin 62 => openTok ER (dCell c (6 + k.val))) ∗ pays c ∗ creds c)
def Yk (c : Dev nD) : sProp 𝕄 := semVal (barCell c) 0
def R (c : Dev nD) : sProp 𝕄 := iprop(Tk m c ∗ (∃ r, prngReg c r) ∗ owing c (O₀ c))
def R' (c : Dev nD) : sProp 𝕄 := iprop(Yk (F := F) c ∗ owing c 0)

theorem hopen (c : Dev nD) : iprop(Tk m c ∗ Pipeline.ownSems0 osem c ∗ levAts L lv) ⊢ (|={Set.univ}=> held₀ m c : sProp 𝕄) := by
  unfold Tk held₀ Pipeline.ownSems0
  iintro ⟨⟨%κ, #HR, HaB, Hop, Hp, Hc⟩, Hsem, -⟩
  ihave Hcells := (bigSep_with_persistent (S := Finset.univ) (R := recs (pfM m) κ) (Φ := fun k : Fin 62 => openTok ER (dCell c (6 + k.val)))
    (Ψ := fun k : Fin 62 => iprop(cellInv ER (Rd (pfM m)) (κ (dCell c (6 + k.val))) (dCell c (6 + k.val)) ∗ openTok ER (dCell c (6 + k.val))))
    fun k _ => by
      iintro ⟨#H1, H2⟩
      isplitr
      · iapply (recs_d (pfM m) κ c (show 6 ≤ 6 + k.val by omega) (show 6 + k.val < 68 by have := k.isLt; omega)); iexact H1
      iexact H2) $$ [Hop]
  · isplitr; · iexact HR
    iexact Hop
  imod (Rounds.cells_open ER (Rd (pfM m)) (Finset.univ : Finset (Fin 62)) (fun k => dCell c (6 + k.val)) (fun k => κ (dCell c (6 + k.val)))
    (fun k _ => Set.mem_univ _)) $$ [Hcells Hsem] with Ho
  · isplitl [Hcells]; · iexact Hcells
    iexact Hsem
  imodintro
  iexists κ
  isplitr; · iexact HR
  isplitl [HaB]; · iexact HaB
  isplitl [Ho]; · unfold opened; iexact Ho
  isplitl [Hp] <;> iassumption

theorem scopedRest_scr (c : Dev nD) : (Pipeline.scopedRest (Ix := Unit) (Name := ℕ) (U := UU) (Lvl := ℕ) (Val := Elt F) (Pipeline.pin (pcfgs (F := F)) adm 0).spec c : sProp 𝕄) = scr c :=
  scopedRest0_eq c

theorem hin (c : Dev nD) : iprop(Pipeline.scopedRest (Pipeline.pin (pcfgs (F := F)) adm 0).spec c ∗ (∃ r, prngReg c r)
      ∗ StableHlo.held (c.tc : Thread nD τ) ∅ (V₁ m c) ∗ held₀ m c) ⊢ (pdats m 0 c).Φ 0 := by
  rw [show (pdats m 0 c).Φ 0 = iprop(held₀ m c ∗ scr c ∗ ∃ r, prngReg c r) from rfl, scopedRest_scr]
  iintro ⟨Hs, Hp, -, HK⟩
  isplitl [HK]; · iexact HK
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop(held₁ c ∗ scr c ∗ ∃ r, prngReg c r) from rfl, scopedRest_scr,
    show (StableHlo.held (c.tc : Thread nD τ) ∅ (V₂ m c) : sProp 𝕄) = iprop(emp) from BI.bigSep_empty]
  unfold held₁ Yk Pipeline.ownSems0
  iintro ⟨⟨Hb, Hz⟩, Hs, Hp⟩
  isplitl [Hs]; · iexact Hs
  isplitl [Hp]; · iexact Hp
  isplitr; · iempintro
  isplitl [Hz]; · iexact Hz
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_cells {c : Dev nD} {g : GSem nD τ sig} {u : Unit} (h : 0 < owed c 1 0 1 g u) : (∃ d, g = barCell d) ∨ 0 < owed c 16 0 1 g u := by
  unfold owed at h ⊢
  rw [Finset.Ico_self, Finset.sum_empty, zero_add]
  rcases add_pos_cases h with h | h
  · rcases add_pos_cases h with h | h
    · obtain ⟨x, -, h⟩ := sum_pos_cases h
      exact .inl ⟨_, tallyAt_pos h⟩
    · refine .inr ?_
      rw [Pi.add_apply, Finsupp.add_apply]; exact Nat.add_pos_left h _
  · refine .inr ?_
    rw [Pi.add_apply, Finsupp.add_apply]; exact Nat.add_pos_right _ h

theorem O₀_pos {c : Dev nD} {g : GSem nD τ sig} {u : Unit} (h : 0 < owed c 1 0 1 g u) : u ∈ L g ∧ 0 < lv g u := by
  rcases owed_cells h with ⟨d, rfl⟩ | h
  · exact ⟨by rw [L_tc]; exact Finset.mem_singleton_self _, Nat.one_pos⟩
  · rcases owed_pos (by decide) h with ⟨d, j, hj, _, rfl⟩ | ⟨d, j, hj, rfl⟩
    · exact ⟨by rw [L_tc]; exact Finset.mem_singleton_self _, by rw [lv_rsRecv d hj]; decide⟩
    · exact ⟨by rw [L_tc]; exact Finset.mem_singleton_self _, by rw [lv_bcRecv d hj]; decide⟩

theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact O₀_pos h
  · exact absurd h (Nat.lt_irrefl 0)

theorem arr_first (c : Dev nD) : ∀ w, (pdats m 0 c).arrAt w 0 = V₁ m c (Proc.devRef .tc (Pipeline.arrRef spec0 w)) := fun w => rfl

theorem arr_out (c : Dev nD) : (dat m c).arrAt 5 cfg0.N = outF (pfM m) c :=
  (dat m c).arrAt_eq_of_covers 5 (outF (pfM m) c) (by decide +kernel) fun t _ y => congrArg (outF (pfM m) c) (emb5 t y).symm

theorem arr_last (c : Dev nD) : ∀ w, (pdats m 0 c).arrAt w (Pipeline.pin (pcfgs (F := F)) adm 0).N = V₂ m c (Proc.devRef .tc (Pipeline.arrRef spec0 w)) := fun w =>
  match w with
  | ⟨0, _⟩ => ((dat m c).arrAt_in 0 rfl _).trans (V₂_of_ne m c (b := Proc.devRef .tc main_v1) (by decide)).symm
  | ⟨1, _⟩ => ((dat m c).arrAt_in 1 rfl _).trans (V₂_of_ne m c (b := Proc.devRef .tc main_arg1) (by decide)).symm
  | ⟨2, _⟩ => ((dat m c).arrAt_in 2 rfl _).trans (V₂_of_ne m c (b := Proc.devRef .tc main_arg2) (by decide)).symm
  | ⟨3, _⟩ => ((dat m c).arrAt_in 3 rfl _).trans (V₂_of_ne m c (b := Proc.devRef .tc main_arg3) (by decide)).symm
  | ⟨4, _⟩ => ((dat m c).arrAt_in 4 rfl _).trans (V₂_of_ne m c (b := Proc.devRef .tc main_arg4) (by decide)).symm
  | ⟨5, _⟩ => (arr_out m c).trans (V₂_v2 m c).symm

/-! ## The segments -/

theorem stage_sem : ∀ (w : Fin 6) (s : Fin (spec0 w).nbuf), ((spec0 w).sem s).val < 22 := by decide
theorem stage_lv (c : Dev nD) (w : Fin 6) (s : Fin (spec0 w).nbuf) : lv ((c : Thread nD τ), .dma ((spec0 w).sem s)) () ≤ 0 := by
  show (if ((spec0 w).sem s).val < 22 then 0 else _) ≤ 0
  rw [if_pos (stage_sem w s)]

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (others (F := F)) (Finset.empty_subset _) kitP rfl (fun c => (body_obligation m c).loose)
    (fun _ => 0) O₀ (fun c => (owed_first m c).trans (zero_add _).symm) (owed_last m) (fun _ => rfl)
    (fun c w => by unfold Dat.share; split <;> rfl)
    (V₁ m) (V₂ m) (fun c b hb => V₂_of_ne m c fun e => by
      subst e; exact (Finset.mem_sdiff.mp (Finset.mem_sdiff.mp hb).1).2 v2_arr)
    (Tk m) Yk (held₀ m) Yk (hopen m) (hin m) (hout m)
    (fun c => by iintro H; imodintro; iexact H)
    (fun _ => 0)
    ⟨fun c w s => by rw [L_tc]; exact Finset.mem_singleton_self _, fun c w s => stage_lv c w s, fun c t g i h => cutD m c t g i h⟩
    (fun _ => iprop(emp))
    (arr_first m) (arr_last m)

theorem ops_sub0 : ∀ op ∈ (hostOps0 : List (HloOp τ sig (Elt F))), op.bufs ⊆ bufs := fun op h => by
  simp only [List.mem_singleton] at h; subst h
  show ({Proc.devRef .tc main_arg0, Proc.devRef .tc main_v1} : Finset (DevRef τ sig)) ⊆ bufs; decide
theorem ops_sub1 : ∀ op ∈ (hostOps1 : List (HloOp τ sig (Elt F))), op.bufs ⊆ bufs := fun op h => by
  simp only [List.mem_singleton] at h; subst h
  show ({Proc.devRef .tc main_v2, Proc.devRef .tc main_v3} : Finset (DevRef τ sig)) ⊆ bufs; decide

def seg0 : Pipeline.HostSeg (Ix := Unit) (Name := ℕ) (U := UU) (Lvl := ℕ) (pcfgs (F := F)) defs₀ 𝒱₀ L lv :=
  Pipeline.HostSeg.ofOps _ _ _ _ _ bufs hostOps0 ops_sub0 (List.forall_iff_forall_mem.mp hostOps0_fresh) (V₀ m) (R m)
def seg1 : Pipeline.HostSeg (Ix := Unit) (Name := ℕ) (U := UU) (Lvl := ℕ) (pcfgs (F := F)) defs₀ 𝒱₀ L lv :=
  Pipeline.HostSeg.ofOps _ _ _ _ _ bufs hostOps1 ops_sub1 (List.forall_iff_forall_mem.mp hostOps1_fresh) (V₂ m) R'

def segs : List (Pipeline.Seg (pcfgs (F := F)) adm (pdats m) () defs₀ 𝒱₀ L lv) := [.host (seg0 m), .region (reg m), .host (seg1 m)]

theorem main_run (c : Dev nD) : main (F := F) c = Pipeline.Seg.run (segs m) :=
  main_segs adm (pdats m) () 𝒱₀ L lv (seg0 m) (seg1 m) (reg m) rfl rfl c

theorem held_cut (c : Dev nD) (W : Valuation τ sig (Elt F)) : (StableHlo.held (c : Thread nD τ) bufs W : sProp 𝕄)
    = iprop(StableHlo.held (c : Thread nD τ) (arrs (F := F)) W ∗ StableHlo.held (c : Thread nD τ) (others (F := F)) W) :=
  StableHlo.held_sub_split (c : Thread nD τ) arrs_sub W

theorem reg_pre (c : Dev nD) : iprop(StableHlo.held (c : Thread nD τ) bufs (V₁ m c) ∗ R m c) ⊢ (reg m).pre c := by
  show _ ⊢ iprop(StableHlo.held (c.tc : Thread nD τ) (arrs (F := F)) (V₁ m c) ∗ (∃ r, prngReg c r)
    ∗ (StableHlo.held (c.tc : Thread nD τ) (others (F := F)) (V₁ m c) ∗ emp) ∗ Tk m c ∗ ∃ Wd, owes (c : Thread nD τ) (0 + O₀ c) Wd)
  rw [held_cut, zero_add]
  unfold R owing
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) bufs (V₂ m c) ∗ R' c) := by
  show iprop(StableHlo.held (c.tc : Thread nD τ) (arrs (F := F)) (V₂ m c) ∗ (∃ r, prngReg c r)
    ∗ (StableHlo.held (c.tc : Thread nD τ) (others (F := F)) (V₂ m c) ∗ emp) ∗ Yk c ∗ ∃ Wd, owes (c : Thread nD τ) (0 : CellTallies nD τ sig Unit) Wd) ⊢ _
  rw [held_cut]
  unfold R' owing
  iintro ⟨Ha, -, ⟨Hr, -⟩, Hb, HO⟩
  isplitl [Ha Hr]
  · isplitl [Ha] <;> iassumption
  isplitl [Hb] <;> iassumption

/-! ## The launch -/

def u₀ : UU :=
  (initOf (Pipeline.cells (Pipeline.pin (pcfgs (F := F)) adm) cellOf_inj) (Pipeline.launchToks (Pipeline.pin (pcfgs (F := F)) adm) cellOf_inj),
    launchOf barCells scCells toks)

/-- A resource given to device `c₀` alone. -/
def onDev (c₀ : Dev nD) (X : sProp 𝕄) (c : Dev nD) : sProp 𝕄 := if c = c₀ then X else iprop(emp)
theorem onDev_all (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact sep_emp_eq X

def G : Dev nD → sProp 𝕄 := onDev 0 (BI.own (ER (launchOf barCells scCells toks)))

/-- What stays with device `c`, and what else the launch gives it. -/
def linear (c : Dev nD) : sProp 𝕄 :=
  iprop(atPos ER (barCell c) 0 ∅ 0 ∗ (bigSep Finset.univ fun k : Fin 62 => openTok ER (dCell c (6 + k.val))) ∗ pays c)
def bundle (c : Dev nD) : sProp 𝕄 :=
  iprop(StableHlo.held (c : Thread nD τ) bufs (V₀ m c) ∗ creds c ∗ owes (c : Thread nD τ) (O₀ c) ∅ ∗ ∃ r, prngReg c r)

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₃ m c) ∗ Yk c)

theorem T₀_intro (κ : GSem nD τ sig → ℕ) (c : Dev nD) : iprop(recs (pfM m) κ ∗ (linear c ∗ bundle m c)) ⊢ T₀ m c := by
  unfold linear bundle T₀ R Tk owing
  iintro ⟨#HR, ⟨HaB, Hop, Hpay⟩, Hh, Hc, HO, Hp⟩
  isplitl [Hh]; · iexact Hh
  isplitl [HaB Hop Hpay Hc]
  · iexists κ
    isplitr; · iexact HR
    isplitl [HaB]; · iexact HaB
    isplitl [Hop]; · iexact Hop
    isplitl [Hpay] <;> iassumption
  isplitl [Hp]; · iexact Hp
  iexists ∅; iexact HO

theorem sems_cells : bigSep Finset.univ (fun c : Dev nD => (semVal (barCell c) 0 : sProp 𝕄)) = bigSep barCells (fun g => (semVal g 0 : sProp 𝕄)) :=
  (bigSep_map (s := Finset.univ) barEmb (Φ := fun g : GSem nD τ sig => (semVal g 0 : sProp 𝕄))).symm
theorem pos_cells : bigSep barCells (fun g => (atPos ER g 0 ∅ 0 : sProp 𝕄)) = bigSep Finset.univ (fun c : Dev nD => (atPos ER (barCell c) 0 ∅ 0 : sProp 𝕄)) :=
  bigSep_map (s := Finset.univ) barEmb (Φ := fun g : GSem nD τ sig => (atPos ER g 0 ∅ 0 : sProp 𝕄))
theorem open_cells : bigSep scCells (fun g => (openTok ER g : sProp 𝕄))
    = bigSep Finset.univ (fun c : Dev nD => bigSep Finset.univ fun k : Fin 62 => (openTok ER (dCell c (6 + k.val)) : sProp 𝕄)) := by
  unfold scCells
  rw [bigSep_map, bigSep_univ_prod]
  rfl

theorem core_split (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) bufs (V₀ m c) from unscopedBufs_held c (V₀ m c),
    unscopedSems0_eq]
  unfold bundle
  iintro ⟨Hh, Hus, HO, Hcr, Hp, HG⟩
  ihave Hc := (creds_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, #Hlev⟩
  ihave H' := (bs_mono fun c _ => core_split m ρ c) $$ H
  ihave H2 := unzip $$ H'; icases H2 with ⟨HB, H3⟩
  ihave H4 := unzip $$ H3; icases H4 with ⟨Hv, HG⟩
  ihave Hu := (show bigSep Finset.univ (G (F := F)) ⊢ BI.own (ER (launchOf barCells scCells toks)) from
    Entails.of_eq (onDev_all (F := F) 0 (BI.own (ER (launchOf barCells scCells toks))))) $$ HG
  imod (Rounds.fund_launch ER (Rd (pfM m)) disjoint_cells (fun g _ h => h) toks) $$ [Hv Hu] with ⟨%κ, -, #Hinv, #Hr, Hat, Hopen, Htok⟩
  · isplitl [Hv]
    · iapply (Entails.of_eq (sems_cells (F := F))); iexact Hv
    · iexact Hu
  imodintro
  iapply (bigSep_with_persistent (R := recs (pfM m) κ) (Φ := fun c => iprop(linear c ∗ bundle m c)) fun c _ => T₀_intro m κ c)
  isplitr
  · unfold recs
    isplitr; · iexact Hinv
    isplitr; · iexact Hr
    iexact Hlev
  iapply zip
  isplitr [HB]
  · unfold linear
    iapply zip; isplitl [Hat]; · iapply (Entails.of_eq (pos_cells (F := F))); iexact Hat
    iapply zip; isplitl [Hopen]; · iapply (Entails.of_eq (open_cells (F := F))); iexact Hopen
    iapply (deal_toks (F := F)); iexact Htok
  · iexact HB

/-! ## The run -/

/-- What the program's result ends as, on device `c`. -/
def result (c : Dev nD) : Vec F S1x512x1024 .f32 := shapeCast S1x512x1024 (outF (pfM m) c) shapeCasts_S512x1024_S1x512x1024

theorem V₁_arg (c : Dev nD) {b : Ref sig .tc} (h : b ≠ main_v1) : V₁ m c (Proc.devRef .tc b) = m ((c : Thread nD τ).loc b) := by
  show StableHlo.after hostOps0 (V₀ m c) _ = _
  rw [StableHlo.after_cons, StableHlo.after_nil, StableHlo.reshape_result_ne _ _ _ _ _ _ _ h]

theorem V₃_of_ne (c : Dev nD) {b : Ref sig .tc} (h1 : b ≠ main_v1) (h2 : b ≠ main_v2) (h3 : b ≠ main_v3) :
    V₃ m c (Proc.devRef .tc b) = m ((c : Thread nD τ).loc b) := by
  unfold V₃
  rw [StableHlo.after_cons, StableHlo.after_nil, StableHlo.reshape_result_ne _ _ _ _ _ _ _ h3, V₂_of_ne m c (StableHlo.devRef_ne_of_ne h2), V₁_arg m c h1]

theorem V₃_v3 (c : Dev nD) : V₃ m c (Proc.devRef .tc main_v3) = result m c := by
  unfold V₃
  rw [StableHlo.after_cons, StableHlo.after_nil, StableHlo.reshape_result', V₂_v2]
  rfl

theorem unscoped_eq : ∀ sm : SemLoc sig, sm.isScoped .tc = false → sm = .reg barS := by decide

set_option maxHeartbeats 1000000 in
set_option backward.isDefEq.respectTransparency.types false in
/-- From any memory, with all semaphores at zero: every run ends, with the arguments as they were, each device's result as
    computed, and all semaphores at zero. -/
theorem run_main : θ_run defs (onTc (τ := τ) (main (F := F))) ⟨m, fun _ => 0, ρ⟩
    (fun r => (∀ c : Dev nD, r.2.mem ((c : Thread nD τ).loc main_v3) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [onDev_all]; iexact HX)
    (T₀ := T₀ m) (Tₙ := Tₙ m)
    (hch := by
      refine ⟨fun c => .rfl, fun c => reg_pre m c, fun c => reg_post m c, fun c => ?_⟩
      show iprop(StableHlo.held (c : Thread nD τ) bufs (V₃ m c) ∗ R' c)
        ⊢ iprop(Tₙ m c ∗ ∃ W, owes (c : Thread nD τ) (0 : CellTallies nD τ sig Unit) W)
      unfold R' owing
      iintro ⟨Hh, Hb0, HO⟩
      isplitr [HO]
      · isplitl [Hh] <;> iassumption
      · iexact HO)
    (hinit := init m ρ)
    (QY := fun c s => (s.mem ((c : Thread nD τ).loc main_arg0) = V₃ m c (Proc.devRef .tc main_arg0)
        ∧ s.mem ((c : Thread nD τ).loc main_arg1) = V₃ m c (Proc.devRef .tc main_arg1)
        ∧ s.mem ((c : Thread nD τ).loc main_arg2) = V₃ m c (Proc.devRef .tc main_arg2)
        ∧ s.mem ((c : Thread nD τ).loc main_arg3) = V₃ m c (Proc.devRef .tc main_arg3)
        ∧ s.mem ((c : Thread nD τ).loc main_arg4) = V₃ m c (Proc.devRef .tc main_arg4)
        ∧ s.mem ((c : Thread nD τ).loc main_v3) = V₃ m c (Proc.devRef .tc main_v3))
      ∧ s.sem (barCell c) = 0)
    (hfin := fun c s' => by
      dsimp only [Tₙ]; rw [bufs_eq]
      unfold Yk
      iintro ⟨⟨⟨H0, H1, H2, H3, H4, -, -, H5⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        exact ⟨h5.trans (V₃_v3 m c), h0.trans (V₃_of_ne m c (by decide) (by decide) (by decide)), h1.trans (V₃_of_ne m c (by decide) (by decide) (by decide)),
          h2.trans (V₃_of_ne m c (by decide) (by decide) (by decide)), h3.trans (V₃_of_ne m c (by decide) (by decide) (by decide)),
          h4.trans (V₃_of_ne m c (by decide) (by decide) (by decide))⟩,
      sem_eq_zero hs fun c sm hsm => by
        obtain rfl := unscoped_eq sm hsm
        exact (h c).2⟩)

end Cert.KernelIdeal.Reduce

end
-- ==== Proof.Heads.lean ====
/-
# Attention read over the extended reals

One row of one head of the attention as a function of its queries, keys and values (`head`), that the kernel's blocks
compute it (`headsOut_apply`), and with it a device's partial product (`pfOf_apply`).
-/
module

public import proofs.«01_k».proof.Proof.Attn
public import Idealize.ShloMosaic.Lib.Pointwise

@[expose] public section

set_option maxRecDepth 16384

noncomputable section

namespace Cert.KernelIdeal.Reduce

open Cert.KernelIdeal Cert.KernelIdeal.Gen
open Idealize.ShloMosaic

/-- The scaled score of a query against key `j`. -/
def score (q : Fin 128 → EReal) (k : Fin 512 → Fin 128 → EReal) (j : Fin 512) : EReal :=
  (∑ e, q e * k j e) * Ideal.ofBits FTy.f32 0x3DB504F3#32

/-- The weight of key `j`, before the division by their sum. -/
def weight (q : Fin 128 → EReal) (k : Fin 512 → Fin 128 → EReal) (j : Fin 512) : EReal :=
  Ideal.exp (score q k j - Finset.fold max (Ideal.ofBits FTy.f32 0xFF800000#32) (fun i => score q k i) Finset.univ)

/-- One row of one head: the values averaged by the weights. -/
def head (q : Fin 128 → EReal) (k v : Fin 512 → Fin 128 → EReal) (e : Fin 128) : EReal :=
  Ideal.div (∑ j, weight q k j * v j e) (∑ j, weight q k j)

/-- Column `e` of the head that column `c` belongs to. -/
def col {n : ℕ} (c : Fin (n * 128)) (e : Fin 128) : Fin (n * 128) :=
  ⟨128 * (c.val / 128) + e.val, by have := c.isLt; have := e.isLt; omega⟩

/-- The place of a column within its head. -/
def inHead {n : ℕ} (c : Fin (n * 128)) : Fin 128 := ⟨c.val % 128, Nat.mod_lt _ (by decide)⟩

theorem headOut_apply (q : FVec Ideal S128x1024 .f32) (k v : FVec Ideal S512x1024 .f32) (h : Fin 8) (r e : Fin 128) :
    headOut q k v h (ix2 r e) = head (fun e => q (ix2 r ⟨128 * h.val + e.val, by have := h.isLt; have := e.isLt; omega⟩))
      (fun j e => k (ix2 j ⟨128 * h.val + e.val, by have := h.isLt; have := e.isLt; omega⟩))
      (fun j e => v (ix2 j ⟨128 * h.val + e.val, by have := h.isLt; have := e.isLt; omega⟩)) e := by
  unfold headOut
  pointwise [soft, scores, kvHead]
  rfl

theorem headsOut_piece (q : FVec Ideal S128x1024 .f32) (k v : FVec Ideal S512x1024 .f32) (r : Fin 128) (h : Fin 8) (e : Fin 128)
    (c : Fin 1024) (hc : c.val = 128 * h.val + e.val) : headsOut q k v (ix2 r c) = headOut q k v h (ix2 r e) := by
  have he := e.isLt
  pointwise [headsOut]
  obtain ⟨h, hl⟩ := h
  have hc' : c.val = 128 * h + e.val := hc
  interval_cases h
  all_goals
    repeat rw [dif_neg (by omega)]
    try rw [dif_pos (by omega)]
    refine congrArg (fun t => headOut q k v _ (ix2 r t)) (Fin.ext ?_)
    simp only
    omega

theorem headsOut_apply (q : FVec Ideal S128x1024 .f32) (k v : FVec Ideal S512x1024 .f32) (r : Fin 128) (c : Fin 1024) :
    headsOut q k v (ix2 r c) = head (fun e => q (ix2 r (col (n := 8) c e))) (fun j e => k (ix2 j (col (n := 8) c e)))
      (fun j e => v (ix2 j (col (n := 8) c e))) (inHead (n := 8) c) := by
  rw [headsOut_piece q k v r ⟨c.val / 128, by have := c.isLt; omega⟩ (inHead (n := 8) c) c (by show _ = 128 * (c.val / 128) + c.val % 128; omega),
    headOut_apply]
  rfl

theorem attnBlk_apply (x : Vec Ideal S512x1024 .bf16) (wq wk wv wo : Vec Ideal S1024x1024 .bf16) (xb : Vec Ideal S128x1024 .bf16)
    (r : Fin 128) (n : Fin 1024) :
    attnBlk x wq wk wv wo xb (ix2 r n) = ∑ c : Fin 1024,
      head (fun e => ∑ d, xb (ix2 r d) * wq (ix2 d (col (n := 8) c e))) (fun j e => ∑ d, x (ix2 j d) * wk (ix2 d (col (n := 8) c e)))
        (fun j e => ∑ d, x (ix2 j d) * wv (ix2 d (col (n := 8) c e))) (inHead (n := 8) c) * wo (ix2 c n) := by
  unfold attnBlk attnQ
  pointwise [k0_pay3]
  refine Finset.sum_congr rfl fun c _ => congrArg (· * _) ?_
  rw [headsOut_apply]
  pointwise [k0_pay22, k0_pay2, k0_pay4, k0_pay5, k0_pay1]

theorem pfOf_apply (x : Vec Ideal S512x1024 .bf16) (wq wk wv wo : Vec Ideal S1024x1024 .bf16) (r : Fin 512) (n : Fin 1024) :
    pfOf x wq wk wv wo (ix2 r n) = ∑ c : Fin 1024,
      head (fun e => ∑ d, x (ix2 r d) * wq (ix2 d (col (n := 8) c e))) (fun j e => ∑ d, x (ix2 j d) * wk (ix2 d (col (n := 8) c e)))
        (fun j e => ∑ d, x (ix2 j d) * wv (ix2 d (col (n := 8) c e))) (inHead (n := 8) c) * wo (ix2 c n) := by
  have key : ∀ d : Fin 1024, rows128 ⟨r.val / 128, by have := r.isLt; omega⟩ x (ix2 ⟨r.val % 128, Nat.mod_lt _ (by decide)⟩ d) = x (ix2 r d) := fun d =>
    congrArg x (show ix2 (⟨128 * (r.val / 128) + r.val % 128, _⟩ : Fin 512) d = ix2 r d by
      congr 1; apply Fin.ext; simp only; omega)
  have h := attnBlk_apply x wq wk wv wo (rows128 ⟨r.val / 128, by have := r.isLt; omega⟩ x) ⟨r.val % 128, Nat.mod_lt _ (by decide)⟩ n
  simp only [key] at h
  exact h

end Cert.KernelIdeal.Reduce

end
-- ==== Proof.Total.lean ====
/-
# The sum of the partial products

Over the extended reals a change of format is the identity, so what every device ends with is the sum of all devices'
partial products (`outF_apply`).
-/
module

public import proofs.«01_k».proof.Proof.Values
public import Idealize.ShloMosaic.Lib.Pointwise

@[expose] public section

set_option maxRecDepth 16384

noncomputable section

namespace Cert.KernelIdeal.Reduce

open Cert.KernelIdeal Cert.KernelIdeal.Gen
open Idealize.ShloMosaic

/-- Going round the ring from a device, all others are met once. -/
theorem sum_ring {M : Type} [AddCommMonoid M] (c : Dev nD) (f : Dev nD → M) :
    f c + ∑ j : Fin 15, f (nx c (j.val + 1)) = ∑ d, f d := by
  have h : ∑ j : Fin 16, f (nx c j.val) = ∑ d, f d := by
    refine Equiv.sum_comp (Equiv.ofBijective (fun j : Fin 16 => nx c j.val) ((Finite.injective_iff_bijective).mp fun i j e => ?_)) f
    have e' := congrArg Fin.val e
    have := dlt c; have := i.isLt; have := j.isLt
    simp only [nx] at e'
    apply Fin.ext; omega
  rw [← h, Fin.sum_univ_succ]
  congr 2
  exact Fin.ext (by have := dlt c; simp only [nx, Fin.val_zero]; omega)

variable (pf : Dev nD → Vec Ideal S512x1024 .f32)

theorem acc_apply (c : Dev nD) (r : Fin 32) (n : Fin 1024) :
    acc pf c (ix2 r n) = ∑ d, pf d (ix2 ⟨32 * c.val + r.val, by have := dlt c; have := r.isLt; omega⟩ n) := by
  rw [← sum_ring c]
  unfold acc
  pointwise [k0_pay76]
  refine congrArg₂ (· + ·) rfl (Finset.sum_congr rfl fun j _ => ?_)
  have hr := r.isLt
  show pf (nx c ((j.val * 32 + r.val) / 32 + 1)) (ix2 ⟨32 * c.val + (j.val * 32 + r.val) % 32, _⟩ n) = _
  have e1 : (j.val * 32 + r.val) / 32 = j.val := by omega
  have e2 : (j.val * 32 + r.val) % 32 = r.val := by omega
  simp only [e1, e2]

theorem outF_apply (c : Dev nD) (r : Fin 512) (n : Fin 1024) : outF pf c (ix2 r n) = ∑ d, pf d (ix2 r n) := by
  have hr := r.isLt
  have key : acc pf (owner r) (ix2 ⟨r.val % 32, Nat.mod_lt _ (by decide)⟩ n) = ∑ d, pf d (ix2 r n) := by
    rw [acc_apply]
    refine Finset.sum_congr rfl fun d _ => congrArg (fun t => pf d (ix2 t n)) (Fin.ext ?_)
    show 32 * (r.val / 32) + r.val % 32 = r.val
    omega
  by_cases h : owner r = c
  · subst h
    exact (if_pos rfl).trans key
  · refine (if_neg h).trans ?_
    refine Eq.trans ?_ key
    unfold bcs acc
    pointwise [k0_pay77]
    rfl

end Cert.KernelIdeal.Reduce

end
-- ==== Proof.Host.lean ====
/-
# The reference read at a place of its result

The reference computes all 128 heads and one product with all rows of the last weight (`whole_apply`). Its running
maximum starts at minus infinity and its running sums at zero, so one step of them is the plain softmax (`head_host`).
-/
module

public import proofs.«01_k».proof.Proof.Heads
public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen
open Cert.KernelIdeal.Reduce (head score weight col inHead)
open Idealize.ShloMosaic

/-- One step of the running softmax, from the start, is the softmax. -/
theorem head_host (q : Fin 128 → EReal) (k v : Fin 512 → Fin 128 → EReal) (e : Fin 128) (w : Fin 512 → EReal) (hw : ∀ j, w j = v j e)
    (A B : EReal) :
    Ideal.div
      (0 * A + ∑ j, w j * Ideal.exp (score q k j - max (Ideal.ofBits FTy.f32 0xFF800000#32)
        (Finset.fold max (Ideal.ofBits FTy.f32 0xFF800000#32) (fun i => score q k i) Finset.univ)))
      (0 * B + ∑ j, Ideal.exp (score q k j - max (Ideal.ofBits FTy.f32 0xFF800000#32)
        (Finset.fold max (Ideal.ofBits FTy.f32 0xFF800000#32) (fun i => score q k i) Finset.univ))) = head q k v e := by
  rw [max_eq_right ((Finset.le_fold_max _).mpr (.inl le_rfl)), zero_mul, zero_mul, zero_add, zero_add]
  exact congrArg₂ Ideal.div (Finset.sum_congr rfl fun j _ => by rw [hw j, mul_comm]; rfl) rfl

variable {F : FTy → Type} [FloatOps F]

/-! ## The reference in steps -/

/-- A projection, its columns cut into heads. -/
def proj (x : Vec F S1x512x1024 .bf16) (w : Vec F S1024x16384 .bf16) : FVec F S1x512x128x128 .f32 :=
  shapeCast S1x512x128x128 (Host.dotGeneral dot_S1x512x1024_S1024x16384_S1x512x16384_2_0_01_1_n_n none (extf .f32 x bitsLt_bf16_f32)
    (extf .f32 w bitsLt_bf16_f32)) shapeCasts_S1x512x16384_S1x512x128x128

/-- The scaled scores. -/
def scoresH (q k : FVec F S1x512x128x128 .f32) : FVec F S1x128x512x512 .f32 :=
  mulf (Host.dotGeneral dot_S1x512x128x128_S1x512x128x128_S1x128x512x512_3_3_1_1_02_02 none q k)
    (broadcastInDim S1x128x512x512 ![] bcast_S_S1x128x512x512 (constant S_ .f32 0x3DB504F3#32))

/-- Where the running maximum starts. -/
def start : FVec F S1x128x512x1 .f32 := broadcastInDim S1x128x512x1 ![] bcast_S_S1x128x512x1 (constant S_ .f32 0xFF800000#32)

/-- The greatest score of each query. -/
def most (s : FVec F S1x128x512x512 .f32) : FVec F S1x128x512 .f32 :=
  Host.reduce FloatOps.maximumf s (constant S_ .f32 0xFF800000#32) reducesTo_S1x128x512x512_S1x128x512_d3 h_S_

/-- The running maximum after the step. -/
def top (s : FVec F S1x128x512x512 .f32) : FVec F S1x128x512x1 .f32 :=
  maximumf start (broadcastInDim S1x128x512x1 ![0, 1, 2] bcast_S1x128x512_S1x128x512x1_0_1_2 (most s))

/-- What the step multiplies the running sums by. -/
def fade (t : FVec F S1x128x512x1 .f32) : FVec F S1x128x512x1 .f32 := Host.exp (subf start t)

/-- The weights of the keys. -/
def weights (s : FVec F S1x128x512x512 .f32) (t : FVec F S1x128x512x1 .f32) : FVec F S1x128x512x512 .f32 :=
  Host.exp (subf s (broadcastInDim S1x128x512x512 ![0, 1, 2, 3] bcast_S1x128x512x1_S1x128x512x512_0_1_2_3 t))

/-- The running sum of the weights. -/
def denom (a : FVec F S1x128x512x1 .f32) (p : FVec F S1x128x512x512 .f32) : FVec F S1x128x512x1 .f32 :=
  addf (mulf (broadcastInDim S1x128x512x1 ![] bcast_S_S1x128x512x1 (constant S_ .f32 0x00000000#32)) a)
    (broadcastInDim S1x128x512x1 ![0, 1, 2] bcast_S1x128x512_S1x128x512x1_0_1_2
      (Host.reduceAdd p (constant S_ .f32 0x00000000#32) reducesTo_S1x128x512x512_S1x128x512_d3 h_S_))

/-- The running sum of the weighted values. -/
def numer (a : FVec F S1x128x512x1 .f32) (p : FVec F S1x128x512x512 .f32) (v : FVec F S1x512x128x128 .f32) : FVec F S1x512x128x128 .f32 :=
  addf (mulf (broadcastInDim S1x512x128x128 ![] bcast_S_S1x512x128x128 (constant S_ .f32 0x00000000#32))
      (broadcastInDim S1x512x128x128 ![0, 1, 2, 3] bcast_S1x512x128x1_S1x512x128x128_0_1_2_3
        (transpose S1x512x128x1 [0, 2, 1, 3] a transposes_S1x128x512x1_S1x512x128x1_0_2_1_3)))
    (transpose S1x512x128x128 [0, 3, 1, 2] (Host.dotGeneral dot_S1x512x128x128_S1x128x512x512_S1x128x128x512_1_3_3_2_02_01 none v p)
      transposes_S1x128x128x512_S1x512x128x128_0_3_1_2)

/-- The attention. -/
def attn (o : FVec F S1x512x128x128 .f32) (l : FVec F S1x128x512x1 .f32) : FVec F S1x512x128x128 .f32 :=
  Host.divf o (broadcastInDim S1x512x128x128 ![0, 1, 2, 3] bcast_S1x512x128x1_S1x512x128x128_0_1_2_3
    (transpose S1x512x128x1 [0, 2, 1, 3] l transposes_S1x128x512x1_S1x512x128x1_0_2_1_3))

/-- The product with the last weight. -/
def final (o : FVec F S1x512x128x128 .f32) (wo : Vec F S16384x1024 .bf16) : FVec F S1x512x1024 .f32 :=
  Host.dotGeneral dot_S1x512x16384_S16384x1024_S1x512x1024_2_0_01_1_n_n none
    (shapeCast S1x512x16384 o shapeCasts_S1x512x128x128_S1x512x16384) (extf .f32 wo bitsLt_bf16_f32)

/-- From queries, keys and values. -/
def attnOf (q k v : FVec F S1x512x128x128 .f32) : FVec F S1x512x128x128 .f32 :=
  attn (numer (fade (top (scoresH q k))) (weights (scoresH q k) (top (scoresH q k))) v)
    (denom (fade (top (scoresH q k))) (weights (scoresH q k) (top (scoresH q k))))

/-- The reference's result. -/
def whole (x : Vec F S1x512x1024 .bf16) (wq wk wv : Vec F S1024x16384 .bf16) (wo : Vec F S16384x1024 .bf16) : FVec F S1x512x1024 .f32 :=
  final (attnOf (proj x wq) (proj x wk) (proj x wv)) wo

theorem res_eq (m : (ℓ : Loc nD τ sig) → Buf (Elt F) ℓ) (d : Dev nD) :
    res_main_v39 m d = whole (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4)) := by
  unfold res_main_v39
  rfl

/-! ## The steps at a place -/

theorem proj_apply (x : Vec Ideal S1x512x1024 .bf16) (w : Vec Ideal S1024x16384 .bf16) (r : Fin 512) (h e : Fin 128) :
    proj x w (ix4 0 r h e) = ∑ a, x (ix3 0 r a) * w (ix2 a ⟨h.val * 128 + e.val, by have := h.isLt; have := e.isLt; omega⟩) := by
  pointwise [proj]

theorem scoresH_apply (q k : FVec Ideal S1x512x128x128 .f32) (h : Fin 128) (i j : Fin 512) :
    scoresH q k (ix4 0 h i j) = score (fun e => q (ix4 0 i h e)) (fun j e => k (ix4 0 j h e)) j := by
  pointwise [scoresH]
  rfl

theorem lift_at (h : S1x128x512x512.Reduces [3] S1x128x512) (j : S1x128x512.Idx) (k : Fin 512) :
    h.lift j k = ix4 (j 0) (j 1) (j 2) k := by
  funext c
  match c with
  | 0 => rfl
  | 1 => rfl
  | 2 => rfl
  | 3 => rfl

theorem reduce_max (s : FVec Ideal S1x128x512x512 .f32) (b : FVec Ideal S_ .f32) (j : S1x128x512.Idx) :
    Host.reduce FloatOps.maximumf s b reducesTo_S1x128x512x512_S1x128x512_d3 h_S_ j
      = Finset.fold max (b (Shape.Idx.first h_S_)) (fun k : Fin 512 => s (ix4 (j 0) (j 1) (j 2) k)) Finset.univ := by
  have h : S1x128x512x512.Reduces [3] S1x128x512 := by decide
  rw [Host.reduce_eq_fold_single FloatOps.maximumf s b reducesTo_S1x128x512x512_S1x128x512_d3 h h_S_ j,
    show s ∘ h.lift j = fun k : Fin 512 => s (ix4 (j 0) (j 1) (j 2) k) from funext fun k => congrArg s (lift_at h j k)]
  rfl

theorem const_at (w : BitVec 32) (i : S_.Idx) : (constant S_ .f32 w : FVec Ideal S_ .f32) i = Ideal.ofBits FTy.f32 w := rfl

theorem most_apply (s : FVec Ideal S1x128x512x512 .f32) (h : Fin 128) (i : Fin 512) :
    most s (ix3 0 h i) = Finset.fold max (Ideal.ofBits FTy.f32 0xFF800000#32) (fun k : Fin 512 => s (ix4 0 h i k)) Finset.univ := by
  unfold most
  rw [reduce_max, const_at]
  rfl

theorem start_apply (i : S1x128x512x1.Idx) : start (F := Ideal) i = Ideal.ofBits FTy.f32 0xFF800000#32 := by
  unfold start broadcastInDim
  exact const_at _ _

theorem spread_apply (m : FVec Ideal S1x128x512 .f32) (h : Fin 128) (i : Fin 512) (z : Fin 1) :
    broadcastInDim S1x128x512x1 ![0, 1, 2] bcast_S1x128x512_S1x128x512x1_0_1_2 m (ix4 0 h i z) = m (ix3 0 h i) := by
  pointwise

theorem max_at (a b : FVec Ideal S1x128x512x1 .f32) (i : S1x128x512x1.Idx) : maximumf a b i = max (a i) (b i) := rfl

theorem top_apply (s : FVec Ideal S1x128x512x512 .f32) (h : Fin 128) (i : Fin 512) (z : Fin 1) :
    top s (ix4 0 h i z) = max (Ideal.ofBits FTy.f32 0xFF800000#32) (most s (ix3 0 h i)) := by
  unfold top
  rw [max_at, start_apply, spread_apply]

theorem weights_apply (s : FVec Ideal S1x128x512x512 .f32) (t : FVec Ideal S1x128x512x1 .f32) (h : Fin 128) (i j : Fin 512) :
    weights s t (ix4 0 h i j) = Ideal.exp (s (ix4 0 h i j) - t (ix4 0 h i 0)) := by
  pointwise [weights]

theorem denom_apply (a : FVec Ideal S1x128x512x1 .f32) (p : FVec Ideal S1x128x512x512 .f32) (h : Fin 128) (i : Fin 512) (z : Fin 1) :
    denom a p (ix4 0 h i z) = 0 * a (ix4 0 h i z) + ∑ j, p (ix4 0 h i j) := by
  pointwise [denom]

theorem numer_apply (a : FVec Ideal S1x128x512x1 .f32) (p : FVec Ideal S1x128x512x512 .f32) (v : FVec Ideal S1x512x128x128 .f32)
    (i : Fin 512) (h e : Fin 128) :
    numer a p v (ix4 0 i h e) = 0 * a (ix4 0 h i 0) + ∑ j, v (ix4 0 j h e) * p (ix4 0 h i j) := by
  pointwise [numer]

theorem attn_apply (o : FVec Ideal S1x512x128x128 .f32) (l : FVec Ideal S1x128x512x1 .f32) (i : Fin 512) (h e : Fin 128) :
    attn o l (ix4 0 i h e) = Ideal.div (o (ix4 0 i h e)) (l (ix4 0 h i 0)) := by
  pointwise [attn]

theorem final_apply (o : FVec Ideal S1x512x128x128 .f32) (wo : Vec Ideal S16384x1024 .bf16) (r : Fin 512) (n : Fin 1024) :
    final o wo (ix3 0 r n) = ∑ c : Fin 16384, o (ix4 0 r ⟨c.val / 128, by have := c.isLt; omega⟩ ⟨c.val % 128, Nat.mod_lt _ (by decide)⟩) * wo (ix2 c n) := by
  pointwise [final]

theorem attnOf_apply (q k v : FVec Ideal S1x512x128x128 .f32) (i : Fin 512) (h e : Fin 128) :
    attnOf q k v (ix4 0 i h e) = head (fun e => q (ix4 0 i h e)) (fun j e => k (ix4 0 j h e)) (fun j e => v (ix4 0 j h e)) e := by
  unfold attnOf
  rw [attn_apply, numer_apply, denom_apply]
  simp only [weights_apply, top_apply, most_apply, scoresH_apply]
  exact head_host _ _ (fun j e => v (ix4 0 j h e)) e (fun j => v (ix4 0 j h e)) (fun _ => rfl) _ _

theorem whole_apply (x : Vec Ideal S1x512x1024 .bf16) (wq wk wv : Vec Ideal S1024x16384 .bf16) (wo : Vec Ideal S16384x1024 .bf16)
    (r : Fin 512) (n : Fin 1024) :
    whole x wq wk wv wo (ix3 0 r n) = ∑ c : Fin 16384,
      head (fun e => ∑ a, x (ix3 0 r a) * wq (ix2 a (col (n := 128) c e))) (fun j e => ∑ a, x (ix3 0 j a) * wk (ix2 a (col (n := 128) c e)))
        (fun j e => ∑ a, x (ix3 0 j a) * wv (ix2 a (col (n := 128) c e))) (inHead (n := 128) c) * wo (ix2 c n) := by
  unfold whole
  rw [final_apply]
  refine Finset.sum_congr rfl fun c _ => congrArg (fun t : EReal => t * wo (ix2 c n)) ?_
  have hc : ∀ e : Fin 128, ∀ p, (⟨c.val / 128 * 128 + e.val, p⟩ : Fin 16384) = col (n := 128) c e := fun e p =>
    Fin.ext (show c.val / 128 * 128 + e.val = 128 * (c.val / 128) + e.val by omega)
  rw [attnOf_apply]
  simp only [proj_apply, hc]
  rfl

end Cert.ReferenceIdeal.Value

end
-- ==== Proof.Equal.lean ====
/-
# The kernel's result is the reference's

The sum of the devices' partial products, each over its own 1024 columns, is the reference's one sum over 16384
columns, cut into 16 blocks (`result_eq`).
-/
module

public import proofs.«01_k».proof.Proof.Heads
public import proofs.«01_k».proof.Proof.Total
public import proofs.«01_k».proof.Proof.Host
public import proofs.«01_k».proof.Proof.Launch
public import Idealize.ShloMosaic.Lib.Pointwise
public import Idealize.ShloMosaic.Lib.Layout

@[expose] public section

set_option maxRecDepth 16384

noncomputable section

namespace Cert.KernelIdeal.Reduce

open Cert.KernelIdeal Cert.KernelIdeal.Gen
open Idealize.ShloMosaic
open Idealize.ShloMosaic.TcCoe

/-- A sum over 16 blocks of 1024 columns. -/
theorem sum_blocks {M : Type} [AddCommMonoid M] (f : Fin 16384 → M) :
    ∑ k, f k = ∑ d : Fin 16, ∑ k : Fin 1024, f ⟨d.val * 1024 + k.val, by have := d.isLt; have := k.isLt; omega⟩ := by
  rw [← Fintype.sum_prod_type' (f := fun (d : Fin 16) (k : Fin 1024) => f ⟨d.val * 1024 + k.val, by have := d.isLt; have := k.isLt; omega⟩)]
  exact (Fintype.sum_equiv (finProdFinEquiv (m := 16) (n := 1024)) _ _ fun p =>
    congrArg f (Fin.ext (show p.1.val * 1024 + p.2.val = p.2.val + 1024 * p.1.val by omega))).symm

/-- Column `k` of device `d`'s block of columns. -/
def wide (d : Dev nD) (k : Fin 1024) : Fin 16384 := ⟨d.val * 1024 + k.val, by have := dlt d; have := k.isLt; omega⟩

theorem col_wide (d : Dev nD) (k : Fin 1024) (e : Fin 128) : col (n := 128) (wide d k) e = wide d (col (n := 8) k e) :=
  Fin.ext (show 128 * ((d.val * 1024 + k.val) / 128) + e.val = d.val * 1024 + (128 * (k.val / 128) + e.val) by omega)

theorem inHead_wide (d : Dev nD) (k : Fin 1024) : inHead (n := 128) (wide d k) = inHead (n := 8) k :=
  Fin.ext (show (d.val * 1024 + k.val) % 128 = k.val % 128 by omega)

theorem block_cols (w : (⟨2, ![1024, 16384]⟩ : Shape).Idx → EReal) (d : Fin 16) (a k : Fin 1024) :
    Layout.block ⟨2, ![1024, 1024]⟩ ⟨2, ![1024, 16384]⟩ 1 16 d w (by decide) (ix2 a k) = w (ix2 a (wide d k)) :=
  congrArg w (funext fun b => match b with | 0 => rfl | 1 => rfl)

theorem block_rows (w : (⟨2, ![16384, 1024]⟩ : Shape).Idx → EReal) (d : Fin 16) (k n : Fin 1024) :
    Layout.block ⟨2, ![1024, 1024]⟩ ⟨2, ![16384, 1024]⟩ 0 16 d w (by decide) (ix2 k n) = w (ix2 (wide d k) n) :=
  congrArg w (funext fun b => match b with | 0 => rfl | 1 => rfl)

variable (m : (ℓ : Loc nD τ sig) → Buf (Elt Ideal) ℓ)

theorem opX_eq (c : Dev nD) : opX m c = shapeCast S512x1024 (show Vec Ideal S1x512x1024 .bf16 from m ((c : Thread nD τ).loc main_arg0)) shapeCasts_S1x512x1024_S512x1024 := by
  unfold opX
  simp only [V, V0, hostOps0, List.flatten_cons, List.flatten_nil, List.append_nil, StableHlo.after_cons, StableHlo.after_nil]
  rw [StableHlo.reshape_result']
  rfl

theorem opX_apply (c : Dev nD) (x : Vec Ideal S1x512x1024 .bf16) (hx : m ((c : Thread nD τ).loc main_arg0) = x) (r : Fin 512) (a : Fin 1024) :
    opX m c (ix2 r a) = x (ix3 0 r a) := by
  rw [opX_eq]
  subst hx
  pointwise

theorem result_apply (c : Dev nD) (r : Fin 512) (n : Fin 1024) : result m c (ix3 0 r n) = outF (pfM m) c (ix2 r n) := by
  unfold result
  pointwise

/-- What each device ends with, against the reference. -/
theorem result_eq (x : Vec Ideal S1x512x1024 .bf16) (wq wk wv : Vec Ideal ⟨2, ![1024, 16384]⟩ .bf16) (wo : Vec Ideal ⟨2, ![16384, 1024]⟩ .bf16)
    (hx : ∀ c : Dev nD, m ((c : Thread nD τ).loc main_arg0) = x)
    (hq : ∀ c : Dev nD, m ((c : Thread nD τ).loc main_arg1) = Layout.block ⟨2, ![1024, 1024]⟩ ⟨2, ![1024, 16384]⟩ 1 16 c wq)
    (hk : ∀ c : Dev nD, m ((c : Thread nD τ).loc main_arg2) = Layout.block ⟨2, ![1024, 1024]⟩ ⟨2, ![1024, 16384]⟩ 1 16 c wk)
    (hv : ∀ c : Dev nD, m ((c : Thread nD τ).loc main_arg3) = Layout.block ⟨2, ![1024, 1024]⟩ ⟨2, ![1024, 16384]⟩ 1 16 c wv)
    (ho : ∀ c : Dev nD, m ((c : Thread nD τ).loc main_arg4) = Layout.block ⟨2, ![1024, 1024]⟩ ⟨2, ![16384, 1024]⟩ 0 16 c wo)
    (c : Dev nD) : result m c = Cert.ReferenceIdeal.Value.whole x wq wk wv wo := by
  funext i
  obtain ⟨z, r, n, rfl⟩ : ∃ (z : Fin 1) (r : Fin 512) (n : Fin 1024), i = ix3 z r n := ⟨i 0, i 1, i 2, eq_ix3 i⟩
  obtain rfl : z = 0 := Subsingleton.elim _ _
  rw [result_apply, outF_apply, Cert.ReferenceIdeal.Value.whole_apply, sum_blocks]
  refine Finset.sum_congr rfl fun d _ => ?_
  unfold pfM
  rw [pfOf_apply]
  refine Finset.sum_congr rfl fun k _ => ?_
  have eq (a k : Fin 1024) : opQ m d (ix2 a k) = wq (ix2 a (wide d k)) :=
    (congrFun ((V_main_arg1 m d).trans (hq d)) (ix2 a k)).trans (block_cols wq d a k)
  have ek (a k : Fin 1024) : opK m d (ix2 a k) = wk (ix2 a (wide d k)) :=
    (congrFun ((V_main_arg2 m d).trans (hk d)) (ix2 a k)).trans (block_cols wk d a k)
  have ev (a k : Fin 1024) : opV m d (ix2 a k) = wv (ix2 a (wide d k)) :=
    (congrFun ((V_main_arg3 m d).trans (hv d)) (ix2 a k)).trans (block_cols wv d a k)
  have eo (k n : Fin 1024) : opO m d (ix2 k n) = wo (ix2 (wide d k) n) :=
    (congrFun ((V_main_arg4 m d).trans (ho d)) (ix2 k n)).trans (block_rows wo d k n)
  simp only [opX_apply m d x (hx d), eq, ek, ev, eo]
  change _ = head (fun e => ∑ a, x (ix3 0 r a) * wq (ix2 a (col (n := 128) (wide d k) e)))
    (fun j e => ∑ a, x (ix3 0 j a) * wk (ix2 a (col (n := 128) (wide d k) e)))
    (fun j e => ∑ a, x (ix3 0 j a) * wv (ix2 a (col (n := 128) (wide d k) e))) (inHead (n := 128) (wide d k)) * wo (ix2 (wide d k) n)
  simp only [col_wide, inHead_wide]

end Cert.KernelIdeal.Reduce

end
-- ==== Proof.lean ====
/-
# The claims, put together
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equal
public import Idealize.ShloMosaic.Adequacy
public import Idealize.ShloMosaic.Init

@[expose] public section

noncomputable section

namespace Cert.Proof

open Idealize.ShloMosaic Idealize.SL.Sem

/-- The two bodies' tables are one table. -/
theorem tables {F : FTy → Type} [FloatOps F] : Cert.Kernel.defs₀ (F := F) = Cert.KernelIdeal.defs₀ (F := F) := by
  refine congrArg Defs.onTc (funext fun l => ?_)
  obtain rfl : l = 0 := Subsingleton.elim _ _
  rfl

theorem programs {F : FTy → Type} [FloatOps F] : Cert.Kernel.defs (F := F) = Cert.KernelIdeal.defs (F := F) := by
  unfold Cert.Kernel.defs Cert.KernelIdeal.defs
  exact congrArg _ tables

theorem frame_kernelIdeal : Cert.quiescent_KernelIdeal := fun m ρ _ =>
  (θ_run Cert.KernelIdeal.defs _ _).mono (fun _ h => ⟨fun c => (h.1 c).2, h.2⟩) (Cert.KernelIdeal.Reduce.run_main (F := Ideal) m ρ)

/-- The run for any table that is the kernel's, so that it can be read at the other program's. -/
theorem run_table {F : FTy → Type} [FloatOps F] (D) (hD : D = Cert.KernelIdeal.defs (F := F)) (m) (ρ) :
    θ_run D (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) := by
  subst hD
  exact (θ_run Cert.KernelIdeal.defs _ _).mono (fun _ h => ⟨fun c => (h.1 c).2, h.2⟩) (Cert.KernelIdeal.Reduce.run_main m ρ)

theorem frame_kernel : Cert.quiescent_Kernel := fun m ρ _ => run_table (F := Bits) Cert.Kernel.defs programs m ρ

/-- The reference has no counter. -/
theorem no_counter (f : GSem Cert.ReferenceIdeal.nD Cert.ReferenceIdeal.τ Cert.ReferenceIdeal.sig → ℤ) : f = fun _ => 0 := by
  funext ⟨_, s⟩
  cases s with
  | reg s => exact s.elim0
  | dma s => exact s.elim0

theorem frame_referenceIdeal : Cert.quiescent_ReferenceIdeal := fun m ρ _ =>
  (θ_run Cert.ReferenceIdeal.defs _ _).mono (fun r h => ⟨fun c => (h c).2, no_counter r.2.sem⟩)
    (Cert.ReferenceIdeal.Value.run (F := Ideal) m ρ)

/-- Every device ends with the reference's result. -/
theorem value : Cert.algebraic_KernelIdeal_ReferenceIdeal := by
  intro m ρ m' ρ' _ h
  refine ⟨Cert.ReferenceIdeal.Value.res_main_v39 m' 0, (θ_run Cert.KernelIdeal.defs _ _).mono (fun r hr c => ⟨?_, (hr.1 c).2⟩)
    (Cert.KernelIdeal.Reduce.run_main (F := Ideal) m ρ),
    (θ_run Cert.ReferenceIdeal.defs _ _).mono (fun r hr => hr 0) (Cert.ReferenceIdeal.Value.run (F := Ideal) m' ρ')⟩
  exact (hr.1 c).1.trans ((Cert.KernelIdeal.Reduce.result_eq m _ _ _ _ _ (fun c => (h c).1) (fun c => (h c).2.1) (fun c => (h c).2.2.1)
    (fun c => (h c).2.2.2.1) (fun c => (h c).2.2.2.2) c).trans (Cert.ReferenceIdeal.Value.res_eq m' 0).symm)

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
